-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_PleFinal (m : (ℓ : Loc Cert.PleFinal.nD Cert.PleFinal.τ Cert.PleFinal.sig) → Buf (Elt Bits) ℓ) : Prop :=
  True

def Pre_PleFinalIdeal (m : (ℓ : Loc Cert.PleFinalIdeal.nD Cert.PleFinalIdeal.τ Cert.PleFinalIdeal.sig) → Buf (Elt Ideal) ℓ) : Prop :=
  True

def Pre_PleFinalReferenceIdeal (m : (ℓ : Loc Cert.PleFinalReferenceIdeal.nD Cert.PleFinalReferenceIdeal.τ Cert.PleFinalReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_ConvSilu (m : (ℓ : Loc Cert.ConvSilu.nD Cert.ConvSilu.τ Cert.ConvSilu.sig) → Buf (Elt Bits) ℓ) : Prop :=
  True

def Pre_ConvSiluIdeal (m : (ℓ : Loc Cert.ConvSiluIdeal.nD Cert.ConvSiluIdeal.τ Cert.ConvSiluIdeal.sig) → Buf (Elt Ideal) ℓ) : Prop :=
  True

def Pre_ConvSiluReferenceIdeal (m : (ℓ : Loc Cert.ConvSiluReferenceIdeal.nD Cert.ConvSiluReferenceIdeal.τ Cert.ConvSiluReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_PleFinal [hPleFinal : Cert.PleFinal.Facts] : Prop :=
  ∀ (m : (ℓ : Loc Cert.PleFinal.nD Cert.PleFinal.τ Cert.PleFinal.sig) → Buf (Elt Bits) ℓ) (g : Dev Cert.PleFinal.nD → PrngReg), Pre_PleFinal m →
    θ_run (Cert.PleFinal.defs (F := Bits)) (onTc (τ := Cert.PleFinal.τ) (Cert.PleFinal.main (F := Bits))) ⟨m, fun _ => 0, g⟩ (fun r => (∀ c : Dev Cert.PleFinal.nD,
      r.2.mem ((c.tc : Thread Cert.PleFinal.nD Cert.PleFinal.τ).loc Cert.PleFinal.main_arg0) = m ((c.tc : Thread Cert.PleFinal.nD Cert.PleFinal.τ).loc Cert.PleFinal.main_arg0)
      ∧ r.2.mem ((c.tc : Thread Cert.PleFinal.nD Cert.PleFinal.τ).loc Cert.PleFinal.main_arg1) = m ((c.tc : Thread Cert.PleFinal.nD Cert.PleFinal.τ).loc Cert.PleFinal.main_arg1)
      ∧ r.2.mem ((c.tc : Thread Cert.PleFinal.nD Cert.PleFinal.τ).loc Cert.PleFinal.main_arg2) = m ((c.tc : Thread Cert.PleFinal.nD Cert.PleFinal.τ).loc Cert.PleFinal.main_arg2)
      ∧ r.2.mem ((c.tc : Thread Cert.PleFinal.nD Cert.PleFinal.τ).loc Cert.PleFinal.main_arg3) = m ((c.tc : Thread Cert.PleFinal.nD Cert.PleFinal.τ).loc Cert.PleFinal.main_arg3)
      ∧ r.2.mem ((c.tc : Thread Cert.PleFinal.nD Cert.PleFinal.τ).loc Cert.PleFinal.main_arg4) = m ((c.tc : Thread Cert.PleFinal.nD Cert.PleFinal.τ).loc Cert.PleFinal.main_arg4)
      ∧ r.2.mem ((c.tc : Thread Cert.PleFinal.nD Cert.PleFinal.τ).loc Cert.PleFinal.main_arg5) = m ((c.tc : Thread Cert.PleFinal.nD Cert.PleFinal.τ).loc Cert.PleFinal.main_arg5))
      ∧ r.2.sem = fun _ => 0)

def quiescent_PleFinalIdeal [hPleFinalIdeal : Cert.PleFinalIdeal.Facts] : Prop :=
  ∀ (m : (ℓ : Loc Cert.PleFinalIdeal.nD Cert.PleFinalIdeal.τ Cert.PleFinalIdeal.sig) → Buf (Elt Ideal) ℓ) (g : Dev Cert.PleFinalIdeal.nD → PrngReg), Pre_PleFinalIdeal m →
    θ_run (Cert.PleFinalIdeal.defs (F := Ideal)) (onTc (τ := Cert.PleFinalIdeal.τ) (Cert.PleFinalIdeal.main (F := Ideal))) ⟨m, fun _ => 0, g⟩ (fun r => (∀ c : Dev Cert.PleFinalIdeal.nD,
      r.2.mem ((c.tc : Thread Cert.PleFinalIdeal.nD Cert.PleFinalIdeal.τ).loc Cert.PleFinalIdeal.main_arg0) = m ((c.tc : Thread Cert.PleFinalIdeal.nD Cert.PleFinalIdeal.τ).loc Cert.PleFinalIdeal.main_arg0)
      ∧ r.2.mem ((c.tc : Thread Cert.PleFinalIdeal.nD Cert.PleFinalIdeal.τ).loc Cert.PleFinalIdeal.main_arg1) = m ((c.tc : Thread Cert.PleFinalIdeal.nD Cert.PleFinalIdeal.τ).loc Cert.PleFinalIdeal.main_arg1)
      ∧ r.2.mem ((c.tc : Thread Cert.PleFinalIdeal.nD Cert.PleFinalIdeal.τ).loc Cert.PleFinalIdeal.main_arg2) = m ((c.tc : Thread Cert.PleFinalIdeal.nD Cert.PleFinalIdeal.τ).loc Cert.PleFinalIdeal.main_arg2)
      ∧ r.2.mem ((c.tc : Thread Cert.PleFinalIdeal.nD Cert.PleFinalIdeal.τ).loc Cert.PleFinalIdeal.main_arg3) = m ((c.tc : Thread Cert.PleFinalIdeal.nD Cert.PleFinalIdeal.τ).loc Cert.PleFinalIdeal.main_arg3)
      ∧ r.2.mem ((c.tc : Thread Cert.PleFinalIdeal.nD Cert.PleFinalIdeal.τ).loc Cert.PleFinalIdeal.main_arg4) = m ((c.tc : Thread Cert.PleFinalIdeal.nD Cert.PleFinalIdeal.τ).loc Cert.PleFinalIdeal.main_arg4)
      ∧ r.2.mem ((c.tc : Thread Cert.PleFinalIdeal.nD Cert.PleFinalIdeal.τ).loc Cert.PleFinalIdeal.main_arg5) = m ((c.tc : Thread Cert.PleFinalIdeal.nD Cert.PleFinalIdeal.τ).loc Cert.PleFinalIdeal.main_arg5))
      ∧ r.2.sem = fun _ => 0)

def quiescent_PleFinalReferenceIdeal [hPleFinalReferenceIdeal : Cert.PleFinalReferenceIdeal.Facts] : Prop :=
  ∀ (m : (ℓ : Loc Cert.PleFinalReferenceIdeal.nD Cert.PleFinalReferenceIdeal.τ Cert.PleFinalReferenceIdeal.sig) → Buf (Elt Ideal) ℓ) (g : Dev Cert.PleFinalReferenceIdeal.nD → PrngReg), Pre_PleFinalReferenceIdeal m →
    θ_run (Cert.PleFinalReferenceIdeal.defs (F := Ideal)) (onTc (τ := Cert.PleFinalReferenceIdeal.τ) (Cert.PleFinalReferenceIdeal.main (F := Ideal))) ⟨m, fun _ => 0, g⟩ (fun r => (∀ c : Dev Cert.PleFinalReferenceIdeal.nD,
      r.2.mem ((c.tc : Thread Cert.PleFinalReferenceIdeal.nD Cert.PleFinalReferenceIdeal.τ).loc Cert.PleFinalReferenceIdeal.main_arg0) = m ((c.tc : Thread Cert.PleFinalReferenceIdeal.nD Cert.PleFinalReferenceIdeal.τ).loc Cert.PleFinalReferenceIdeal.main_arg0)
      ∧ r.2.mem ((c.tc : Thread Cert.PleFinalReferenceIdeal.nD Cert.PleFinalReferenceIdeal.τ).loc Cert.PleFinalReferenceIdeal.main_arg1) = m ((c.tc : Thread Cert.PleFinalReferenceIdeal.nD Cert.PleFinalReferenceIdeal.τ).loc Cert.PleFinalReferenceIdeal.main_arg1)
      ∧ r.2.mem ((c.tc : Thread Cert.PleFinalReferenceIdeal.nD Cert.PleFinalReferenceIdeal.τ).loc Cert.PleFinalReferenceIdeal.main_arg2) = m ((c.tc : Thread Cert.PleFinalReferenceIdeal.nD Cert.PleFinalReferenceIdeal.τ).loc Cert.PleFinalReferenceIdeal.main_arg2)
      ∧ r.2.mem ((c.tc : Thread Cert.PleFinalReferenceIdeal.nD Cert.PleFinalReferenceIdeal.τ).loc Cert.PleFinalReferenceIdeal.main_arg3) = m ((c.tc : Thread Cert.PleFinalReferenceIdeal.nD Cert.PleFinalReferenceIdeal.τ).loc Cert.PleFinalReferenceIdeal.main_arg3)
      ∧ r.2.mem ((c.tc : Thread Cert.PleFinalReferenceIdeal.nD Cert.PleFinalReferenceIdeal.τ).loc Cert.PleFinalReferenceIdeal.main_arg4) = m ((c.tc : Thread Cert.PleFinalReferenceIdeal.nD Cert.PleFinalReferenceIdeal.τ).loc Cert.PleFinalReferenceIdeal.main_arg4)
      ∧ r.2.mem ((c.tc : Thread Cert.PleFinalReferenceIdeal.nD Cert.PleFinalReferenceIdeal.τ).loc Cert.PleFinalReferenceIdeal.main_arg5) = m ((c.tc : Thread Cert.PleFinalReferenceIdeal.nD Cert.PleFinalReferenceIdeal.τ).loc Cert.PleFinalReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_ConvSilu [hConvSilu : Cert.ConvSilu.Facts] : Prop :=
  ∀ (m : (ℓ : Loc Cert.ConvSilu.nD Cert.ConvSilu.τ Cert.ConvSilu.sig) → Buf (Elt Bits) ℓ) (g : Dev Cert.ConvSilu.nD → PrngReg), Pre_ConvSilu m →
    θ_run (Cert.ConvSilu.defs (F := Bits)) (onTc (τ := Cert.ConvSilu.τ) (Cert.ConvSilu.main (F := Bits))) ⟨m, fun _ => 0, g⟩ (fun r => (∀ c : Dev Cert.ConvSilu.nD,
      r.2.mem ((c.tc : Thread Cert.ConvSilu.nD Cert.ConvSilu.τ).loc Cert.ConvSilu.main_arg0) = m ((c.tc : Thread Cert.ConvSilu.nD Cert.ConvSilu.τ).loc Cert.ConvSilu.main_arg0)
      ∧ r.2.mem ((c.tc : Thread Cert.ConvSilu.nD Cert.ConvSilu.τ).loc Cert.ConvSilu.main_arg1) = m ((c.tc : Thread Cert.ConvSilu.nD Cert.ConvSilu.τ).loc Cert.ConvSilu.main_arg1)
      ∧ r.2.mem ((c.tc : Thread Cert.ConvSilu.nD Cert.ConvSilu.τ).loc Cert.ConvSilu.main_arg2) = m ((c.tc : Thread Cert.ConvSilu.nD Cert.ConvSilu.τ).loc Cert.ConvSilu.main_arg2))
      ∧ r.2.sem = fun _ => 0)

def quiescent_ConvSiluIdeal [hConvSiluIdeal : Cert.ConvSiluIdeal.Facts] : Prop :=
  ∀ (m : (ℓ : Loc Cert.ConvSiluIdeal.nD Cert.ConvSiluIdeal.τ Cert.ConvSiluIdeal.sig) → Buf (Elt Ideal) ℓ) (g : Dev Cert.ConvSiluIdeal.nD → PrngReg), Pre_ConvSiluIdeal m →
    θ_run (Cert.ConvSiluIdeal.defs (F := Ideal)) (onTc (τ := Cert.ConvSiluIdeal.τ) (Cert.ConvSiluIdeal.main (F := Ideal))) ⟨m, fun _ => 0, g⟩ (fun r => (∀ c : Dev Cert.ConvSiluIdeal.nD,
      r.2.mem ((c.tc : Thread Cert.ConvSiluIdeal.nD Cert.ConvSiluIdeal.τ).loc Cert.ConvSiluIdeal.main_arg0) = m ((c.tc : Thread Cert.ConvSiluIdeal.nD Cert.ConvSiluIdeal.τ).loc Cert.ConvSiluIdeal.main_arg0)
      ∧ r.2.mem ((c.tc : Thread Cert.ConvSiluIdeal.nD Cert.ConvSiluIdeal.τ).loc Cert.ConvSiluIdeal.main_arg1) = m ((c.tc : Thread Cert.ConvSiluIdeal.nD Cert.ConvSiluIdeal.τ).loc Cert.ConvSiluIdeal.main_arg1)
      ∧ r.2.mem ((c.tc : Thread Cert.ConvSiluIdeal.nD Cert.ConvSiluIdeal.τ).loc Cert.ConvSiluIdeal.main_arg2) = m ((c.tc : Thread Cert.ConvSiluIdeal.nD Cert.ConvSiluIdeal.τ).loc Cert.ConvSiluIdeal.main_arg2))
      ∧ r.2.sem = fun _ => 0)

def quiescent_ConvSiluReferenceIdeal [hConvSiluReferenceIdeal : Cert.ConvSiluReferenceIdeal.Facts] : Prop :=
  ∀ (m : (ℓ : Loc Cert.ConvSiluReferenceIdeal.nD Cert.ConvSiluReferenceIdeal.τ Cert.ConvSiluReferenceIdeal.sig) → Buf (Elt Ideal) ℓ) (g : Dev Cert.ConvSiluReferenceIdeal.nD → PrngReg), Pre_ConvSiluReferenceIdeal m →
    θ_run (Cert.ConvSiluReferenceIdeal.defs (F := Ideal)) (onTc (τ := Cert.ConvSiluReferenceIdeal.τ) (Cert.ConvSiluReferenceIdeal.main (F := Ideal))) ⟨m, fun _ => 0, g⟩ (fun r => (∀ c : Dev Cert.ConvSiluReferenceIdeal.nD,
      r.2.mem ((c.tc : Thread Cert.ConvSiluReferenceIdeal.nD Cert.ConvSiluReferenceIdeal.τ).loc Cert.ConvSiluReferenceIdeal.main_arg0) = m ((c.tc : Thread Cert.ConvSiluReferenceIdeal.nD Cert.ConvSiluReferenceIdeal.τ).loc Cert.ConvSiluReferenceIdeal.main_arg0)
      ∧ r.2.mem ((c.tc : Thread Cert.ConvSiluReferenceIdeal.nD Cert.ConvSiluReferenceIdeal.τ).loc Cert.ConvSiluReferenceIdeal.main_arg1) = m ((c.tc : Thread Cert.ConvSiluReferenceIdeal.nD Cert.ConvSiluReferenceIdeal.τ).loc Cert.ConvSiluReferenceIdeal.main_arg1)
      ∧ r.2.mem ((c.tc : Thread Cert.ConvSiluReferenceIdeal.nD Cert.ConvSiluReferenceIdeal.τ).loc Cert.ConvSiluReferenceIdeal.main_arg2) = m ((c.tc : Thread Cert.ConvSiluReferenceIdeal.nD Cert.ConvSiluReferenceIdeal.τ).loc Cert.ConvSiluReferenceIdeal.main_arg2))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v21) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v4) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_PleFinal_PleFinalIdeal : Prop :=
  True

def algebraic_PleFinalIdeal_PleFinalReferenceIdeal [hPleFinalIdeal : Cert.PleFinalIdeal.Facts] [hPleFinalReferenceIdeal : Cert.PleFinalReferenceIdeal.Facts] : Prop :=
  ∀ (m : (ℓ : Loc Cert.PleFinalIdeal.nD Cert.PleFinalIdeal.τ Cert.PleFinalIdeal.sig) → Buf (Elt Ideal) ℓ) (g : Dev Cert.PleFinalIdeal.nD → PrngReg)
    (m' : (ℓ : Loc Cert.PleFinalReferenceIdeal.nD Cert.PleFinalReferenceIdeal.τ Cert.PleFinalReferenceIdeal.sig) → Buf (Elt Ideal) ℓ) (g' : Dev Cert.PleFinalReferenceIdeal.nD → PrngReg), Pre_PleFinalIdeal m →
    (∀ c : Dev Cert.PleFinalIdeal.nD,
      m' ((c.tc : Thread Cert.PleFinalReferenceIdeal.nD Cert.PleFinalReferenceIdeal.τ).loc Cert.PleFinalReferenceIdeal.main_arg0) = m ((c.tc : Thread Cert.PleFinalIdeal.nD Cert.PleFinalIdeal.τ).loc Cert.PleFinalIdeal.main_arg0)
      ∧ m' ((c.tc : Thread Cert.PleFinalReferenceIdeal.nD Cert.PleFinalReferenceIdeal.τ).loc Cert.PleFinalReferenceIdeal.main_arg1) = m ((c.tc : Thread Cert.PleFinalIdeal.nD Cert.PleFinalIdeal.τ).loc Cert.PleFinalIdeal.main_arg1)
      ∧ m' ((c.tc : Thread Cert.PleFinalReferenceIdeal.nD Cert.PleFinalReferenceIdeal.τ).loc Cert.PleFinalReferenceIdeal.main_arg2) = m ((c.tc : Thread Cert.PleFinalIdeal.nD Cert.PleFinalIdeal.τ).loc Cert.PleFinalIdeal.main_arg2)
      ∧ m' ((c.tc : Thread Cert.PleFinalReferenceIdeal.nD Cert.PleFinalReferenceIdeal.τ).loc Cert.PleFinalReferenceIdeal.main_arg3) = m ((c.tc : Thread Cert.PleFinalIdeal.nD Cert.PleFinalIdeal.τ).loc Cert.PleFinalIdeal.main_arg3)
      ∧ m' ((c.tc : Thread Cert.PleFinalReferenceIdeal.nD Cert.PleFinalReferenceIdeal.τ).loc Cert.PleFinalReferenceIdeal.main_arg4) = m ((c.tc : Thread Cert.PleFinalIdeal.nD Cert.PleFinalIdeal.τ).loc Cert.PleFinalIdeal.main_arg4)
      ∧ m' ((c.tc : Thread Cert.PleFinalReferenceIdeal.nD Cert.PleFinalReferenceIdeal.τ).loc Cert.PleFinalReferenceIdeal.main_arg5) = m ((c.tc : Thread Cert.PleFinalIdeal.nD Cert.PleFinalIdeal.τ).loc Cert.PleFinalIdeal.main_arg5)) →
    ∃ (v0 : (c : Dev Cert.PleFinalIdeal.nD) → Buf (Elt Ideal) ((c.tc : Thread Cert.PleFinalIdeal.nD Cert.PleFinalIdeal.τ).loc Cert.PleFinalIdeal.main_v4)),
      θ_run (Cert.PleFinalIdeal.defs (F := Ideal)) (onTc (τ := Cert.PleFinalIdeal.τ) (Cert.PleFinalIdeal.main (F := Ideal))) ⟨m, fun _ => 0, g⟩ (fun r => ∀ c : Dev Cert.PleFinalIdeal.nD,
          r.2.mem ((c.tc : Thread Cert.PleFinalIdeal.nD Cert.PleFinalIdeal.τ).loc Cert.PleFinalIdeal.main_v4) = v0 c
          ∧ r.2.mem ((c.tc : Thread Cert.PleFinalIdeal.nD Cert.PleFinalIdeal.τ).loc Cert.PleFinalIdeal.main_arg0) = m ((c.tc : Thread Cert.PleFinalIdeal.nD Cert.PleFinalIdeal.τ).loc Cert.PleFinalIdeal.main_arg0)
          ∧ r.2.mem ((c.tc : Thread Cert.PleFinalIdeal.nD Cert.PleFinalIdeal.τ).loc Cert.PleFinalIdeal.main_arg1) = m ((c.tc : Thread Cert.PleFinalIdeal.nD Cert.PleFinalIdeal.τ).loc Cert.PleFinalIdeal.main_arg1)
          ∧ r.2.mem ((c.tc : Thread Cert.PleFinalIdeal.nD Cert.PleFinalIdeal.τ).loc Cert.PleFinalIdeal.main_arg2) = m ((c.tc : Thread Cert.PleFinalIdeal.nD Cert.PleFinalIdeal.τ).loc Cert.PleFinalIdeal.main_arg2)
          ∧ r.2.mem ((c.tc : Thread Cert.PleFinalIdeal.nD Cert.PleFinalIdeal.τ).loc Cert.PleFinalIdeal.main_arg3) = m ((c.tc : Thread Cert.PleFinalIdeal.nD Cert.PleFinalIdeal.τ).loc Cert.PleFinalIdeal.main_arg3)
          ∧ r.2.mem ((c.tc : Thread Cert.PleFinalIdeal.nD Cert.PleFinalIdeal.τ).loc Cert.PleFinalIdeal.main_arg4) = m ((c.tc : Thread Cert.PleFinalIdeal.nD Cert.PleFinalIdeal.τ).loc Cert.PleFinalIdeal.main_arg4)
          ∧ r.2.mem ((c.tc : Thread Cert.PleFinalIdeal.nD Cert.PleFinalIdeal.τ).loc Cert.PleFinalIdeal.main_arg5) = m ((c.tc : Thread Cert.PleFinalIdeal.nD Cert.PleFinalIdeal.τ).loc Cert.PleFinalIdeal.main_arg5))
      ∧ θ_run (Cert.PleFinalReferenceIdeal.defs (F := Ideal)) (onTc (τ := Cert.PleFinalReferenceIdeal.τ) (Cert.PleFinalReferenceIdeal.main (F := Ideal))) ⟨m', fun _ => 0, g'⟩ (fun r => ∀ c : Dev Cert.PleFinalReferenceIdeal.nD,
          r.2.mem ((c.tc : Thread Cert.PleFinalReferenceIdeal.nD Cert.PleFinalReferenceIdeal.τ).loc Cert.PleFinalReferenceIdeal.main_v35) = v0 c
          ∧ r.2.mem ((c.tc : Thread Cert.PleFinalReferenceIdeal.nD Cert.PleFinalReferenceIdeal.τ).loc Cert.PleFinalReferenceIdeal.main_arg0) = m' ((c.tc : Thread Cert.PleFinalReferenceIdeal.nD Cert.PleFinalReferenceIdeal.τ).loc Cert.PleFinalReferenceIdeal.main_arg0)
          ∧ r.2.mem ((c.tc : Thread Cert.PleFinalReferenceIdeal.nD Cert.PleFinalReferenceIdeal.τ).loc Cert.PleFinalReferenceIdeal.main_arg1) = m' ((c.tc : Thread Cert.PleFinalReferenceIdeal.nD Cert.PleFinalReferenceIdeal.τ).loc Cert.PleFinalReferenceIdeal.main_arg1)
          ∧ r.2.mem ((c.tc : Thread Cert.PleFinalReferenceIdeal.nD Cert.PleFinalReferenceIdeal.τ).loc Cert.PleFinalReferenceIdeal.main_arg2) = m' ((c.tc : Thread Cert.PleFinalReferenceIdeal.nD Cert.PleFinalReferenceIdeal.τ).loc Cert.PleFinalReferenceIdeal.main_arg2)
          ∧ r.2.mem ((c.tc : Thread Cert.PleFinalReferenceIdeal.nD Cert.PleFinalReferenceIdeal.τ).loc Cert.PleFinalReferenceIdeal.main_arg3) = m' ((c.tc : Thread Cert.PleFinalReferenceIdeal.nD Cert.PleFinalReferenceIdeal.τ).loc Cert.PleFinalReferenceIdeal.main_arg3)
          ∧ r.2.mem ((c.tc : Thread Cert.PleFinalReferenceIdeal.nD Cert.PleFinalReferenceIdeal.τ).loc Cert.PleFinalReferenceIdeal.main_arg4) = m' ((c.tc : Thread Cert.PleFinalReferenceIdeal.nD Cert.PleFinalReferenceIdeal.τ).loc Cert.PleFinalReferenceIdeal.main_arg4)
          ∧ r.2.mem ((c.tc : Thread Cert.PleFinalReferenceIdeal.nD Cert.PleFinalReferenceIdeal.τ).loc Cert.PleFinalReferenceIdeal.main_arg5) = m' ((c.tc : Thread Cert.PleFinalReferenceIdeal.nD Cert.PleFinalReferenceIdeal.τ).loc Cert.PleFinalReferenceIdeal.main_arg5))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v7_0)) (v1 : (c : Dev Cert.InProjIdeal.nD) → Buf (Elt Ideal) ((c.tc : Thread Cert.InProjIdeal.nD Cert.InProjIdeal.τ).loc Cert.InProjIdeal.main_v7_1)) (v2 : (c : Dev Cert.InProjIdeal.nD) → Buf (Elt Ideal) ((c.tc : Thread Cert.InProjIdeal.nD Cert.InProjIdeal.τ).loc Cert.InProjIdeal.main_v7_2)) (v3 : (c : Dev Cert.InProjIdeal.nD) → Buf (Elt Ideal) ((c.tc : Thread Cert.InProjIdeal.nD Cert.InProjIdeal.τ).loc Cert.InProjIdeal.main_v7_3)) (v4 : (c : Dev Cert.InProjIdeal.nD) → Buf (Elt Ideal) ((c.tc : Thread Cert.InProjIdeal.nD Cert.InProjIdeal.τ).loc Cert.InProjIdeal.main_v7_4)) (v5 : (c : Dev Cert.InProjIdeal.nD) → Buf (Elt Ideal) ((c.tc : Thread Cert.InProjIdeal.nD Cert.InProjIdeal.τ).loc Cert.InProjIdeal.main_v7_5)) (v6 : (c : Dev Cert.InProjIdeal.nD) → Buf (Elt Ideal) ((c.tc : Thread Cert.InProjIdeal.nD Cert.InProjIdeal.τ).loc Cert.InProjIdeal.main_v7_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7_0) = v0 c
          ∧ r.2.mem ((c.tc : Thread Cert.InProjIdeal.nD Cert.InProjIdeal.τ).loc Cert.InProjIdeal.main_v7_1) = v1 c
          ∧ r.2.mem ((c.tc : Thread Cert.InProjIdeal.nD Cert.InProjIdeal.τ).loc Cert.InProjIdeal.main_v7_2) = v2 c
          ∧ r.2.mem ((c.tc : Thread Cert.InProjIdeal.nD Cert.InProjIdeal.τ).loc Cert.InProjIdeal.main_v7_3) = v3 c
          ∧ r.2.mem ((c.tc : Thread Cert.InProjIdeal.nD Cert.InProjIdeal.τ).loc Cert.InProjIdeal.main_v7_4) = v4 c
          ∧ r.2.mem ((c.tc : Thread Cert.InProjIdeal.nD Cert.InProjIdeal.τ).loc Cert.InProjIdeal.main_v7_5) = v5 c
          ∧ r.2.mem ((c.tc : Thread Cert.InProjIdeal.nD Cert.InProjIdeal.τ).loc Cert.InProjIdeal.main_v7_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v22) = v0 c
          ∧ r.2.mem ((c.tc : Thread Cert.InProjReferenceIdeal.nD Cert.InProjReferenceIdeal.τ).loc Cert.InProjReferenceIdeal.main_v25) = v1 c
          ∧ r.2.mem ((c.tc : Thread Cert.InProjReferenceIdeal.nD Cert.InProjReferenceIdeal.τ).loc Cert.InProjReferenceIdeal.main_v28) = v2 c
          ∧ r.2.mem ((c.tc : Thread Cert.InProjReferenceIdeal.nD Cert.InProjReferenceIdeal.τ).loc Cert.InProjReferenceIdeal.main_v29) = v3 c
          ∧ r.2.mem ((c.tc : Thread Cert.InProjReferenceIdeal.nD Cert.InProjReferenceIdeal.τ).loc Cert.InProjReferenceIdeal.main_v31) = v4 c
          ∧ r.2.mem ((c.tc : Thread Cert.InProjReferenceIdeal.nD Cert.InProjReferenceIdeal.τ).loc Cert.InProjReferenceIdeal.main_v32) = v5 c
          ∧ r.2.mem ((c.tc : Thread Cert.InProjReferenceIdeal.nD Cert.InProjReferenceIdeal.τ).loc Cert.InProjReferenceIdeal.main_v33) = v6 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_ConvSilu_ConvSiluIdeal : Prop :=
  True

def algebraic_ConvSiluIdeal_ConvSiluReferenceIdeal [hConvSiluIdeal : Cert.ConvSiluIdeal.Facts] [hConvSiluReferenceIdeal : Cert.ConvSiluReferenceIdeal.Facts] : Prop :=
  ∀ (m : (ℓ : Loc Cert.ConvSiluIdeal.nD Cert.ConvSiluIdeal.τ Cert.ConvSiluIdeal.sig) → Buf (Elt Ideal) ℓ) (g : Dev Cert.ConvSiluIdeal.nD → PrngReg)
    (m' : (ℓ : Loc Cert.ConvSiluReferenceIdeal.nD Cert.ConvSiluReferenceIdeal.τ Cert.ConvSiluReferenceIdeal.sig) → Buf (Elt Ideal) ℓ) (g' : Dev Cert.ConvSiluReferenceIdeal.nD → PrngReg), Pre_ConvSiluIdeal m →
    (∀ c : Dev Cert.ConvSiluIdeal.nD,
      m' ((c.tc : Thread Cert.ConvSiluReferenceIdeal.nD Cert.ConvSiluReferenceIdeal.τ).loc Cert.ConvSiluReferenceIdeal.main_arg0) = m ((c.tc : Thread Cert.ConvSiluIdeal.nD Cert.ConvSiluIdeal.τ).loc Cert.ConvSiluIdeal.main_arg0)
      ∧ m' ((c.tc : Thread Cert.ConvSiluReferenceIdeal.nD Cert.ConvSiluReferenceIdeal.τ).loc Cert.ConvSiluReferenceIdeal.main_arg1) = m ((c.tc : Thread Cert.ConvSiluIdeal.nD Cert.ConvSiluIdeal.τ).loc Cert.ConvSiluIdeal.main_arg1)
      ∧ m' ((c.tc : Thread Cert.ConvSiluReferenceIdeal.nD Cert.ConvSiluReferenceIdeal.τ).loc Cert.ConvSiluReferenceIdeal.main_arg2) = m ((c.tc : Thread Cert.ConvSiluIdeal.nD Cert.ConvSiluIdeal.τ).loc Cert.ConvSiluIdeal.main_arg2)) →
    ∃ (v0 : (c : Dev Cert.ConvSiluIdeal.nD) → Buf (Elt Ideal) ((c.tc : Thread Cert.ConvSiluIdeal.nD Cert.ConvSiluIdeal.τ).loc Cert.ConvSiluIdeal.main_v1)),
      θ_run (Cert.ConvSiluIdeal.defs (F := Ideal)) (onTc (τ := Cert.ConvSiluIdeal.τ) (Cert.ConvSiluIdeal.main (F := Ideal))) ⟨m, fun _ => 0, g⟩ (fun r => ∀ c : Dev Cert.ConvSiluIdeal.nD,
          r.2.mem ((c.tc : Thread Cert.ConvSiluIdeal.nD Cert.ConvSiluIdeal.τ).loc Cert.ConvSiluIdeal.main_v1) = v0 c
          ∧ r.2.mem ((c.tc : Thread Cert.ConvSiluIdeal.nD Cert.ConvSiluIdeal.τ).loc Cert.ConvSiluIdeal.main_arg0) = m ((c.tc : Thread Cert.ConvSiluIdeal.nD Cert.ConvSiluIdeal.τ).loc Cert.ConvSiluIdeal.main_arg0)
          ∧ r.2.mem ((c.tc : Thread Cert.ConvSiluIdeal.nD Cert.ConvSiluIdeal.τ).loc Cert.ConvSiluIdeal.main_arg1) = m ((c.tc : Thread Cert.ConvSiluIdeal.nD Cert.ConvSiluIdeal.τ).loc Cert.ConvSiluIdeal.main_arg1)
          ∧ r.2.mem ((c.tc : Thread Cert.ConvSiluIdeal.nD Cert.ConvSiluIdeal.τ).loc Cert.ConvSiluIdeal.main_arg2) = m ((c.tc : Thread Cert.ConvSiluIdeal.nD Cert.ConvSiluIdeal.τ).loc Cert.ConvSiluIdeal.main_arg2))
      ∧ θ_run (Cert.ConvSiluReferenceIdeal.defs (F := Ideal)) (onTc (τ := Cert.ConvSiluReferenceIdeal.τ) (Cert.ConvSiluReferenceIdeal.main (F := Ideal))) ⟨m', fun _ => 0, g'⟩ (fun r => ∀ c : Dev Cert.ConvSiluReferenceIdeal.nD,
          r.2.mem ((c.tc : Thread Cert.ConvSiluReferenceIdeal.nD Cert.ConvSiluReferenceIdeal.τ).loc Cert.ConvSiluReferenceIdeal.main_v30) = v0 c
          ∧ r.2.mem ((c.tc : Thread Cert.ConvSiluReferenceIdeal.nD Cert.ConvSiluReferenceIdeal.τ).loc Cert.ConvSiluReferenceIdeal.main_arg0) = m' ((c.tc : Thread Cert.ConvSiluReferenceIdeal.nD Cert.ConvSiluReferenceIdeal.τ).loc Cert.ConvSiluReferenceIdeal.main_arg0)
          ∧ r.2.mem ((c.tc : Thread Cert.ConvSiluReferenceIdeal.nD Cert.ConvSiluReferenceIdeal.τ).loc Cert.ConvSiluReferenceIdeal.main_arg1) = m' ((c.tc : Thread Cert.ConvSiluReferenceIdeal.nD Cert.ConvSiluReferenceIdeal.τ).loc Cert.ConvSiluReferenceIdeal.main_arg1)
          ∧ r.2.mem ((c.tc : Thread Cert.ConvSiluReferenceIdeal.nD Cert.ConvSiluReferenceIdeal.τ).loc Cert.ConvSiluReferenceIdeal.main_arg2) = m' ((c.tc : Thread Cert.ConvSiluReferenceIdeal.nD Cert.ConvSiluReferenceIdeal.τ).loc Cert.ConvSiluReferenceIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hOutProj : Cert.OutProj.Facts) (hOutProjIdeal : Cert.OutProjIdeal.Facts) (hOutProjReferenceIdeal : Cert.OutProjReferenceIdeal.Facts) (hPleFinal : Cert.PleFinal.Facts) (hPleFinalIdeal : Cert.PleFinalIdeal.Facts) (hPleFinalReferenceIdeal : Cert.PleFinalReferenceIdeal.Facts) (hInProj : Cert.InProj.Facts) (hInProjIdeal : Cert.InProjIdeal.Facts) (hInProjReferenceIdeal : Cert.InProjReferenceIdeal.Facts) (hConvSilu : Cert.ConvSilu.Facts) (hConvSiluIdeal : Cert.ConvSiluIdeal.Facts) (hConvSiluReferenceIdeal : Cert.ConvSiluReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_PleFinal (hPleFinal := hPleFinal)
    ∧ quiescent_PleFinalIdeal (hPleFinalIdeal := hPleFinalIdeal)
    ∧ quiescent_PleFinalReferenceIdeal (hPleFinalReferenceIdeal := hPleFinalReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_ConvSilu (hConvSilu := hConvSilu)
    ∧ quiescent_ConvSiluIdeal (hConvSiluIdeal := hConvSiluIdeal)
    ∧ quiescent_ConvSiluReferenceIdeal (hConvSiluReferenceIdeal := hConvSiluReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_OutProj_OutProjIdeal
    ∧ algebraic_OutProjIdeal_OutProjReferenceIdeal (hOutProjIdeal := hOutProjIdeal) (hOutProjReferenceIdeal := hOutProjReferenceIdeal)
    ∧ preserves_PleFinal_PleFinalIdeal
    ∧ algebraic_PleFinalIdeal_PleFinalReferenceIdeal (hPleFinalIdeal := hPleFinalIdeal) (hPleFinalReferenceIdeal := hPleFinalReferenceIdeal)
    ∧ preserves_InProj_InProjIdeal
    ∧ algebraic_InProjIdeal_InProjReferenceIdeal (hInProjIdeal := hInProjIdeal) (hInProjReferenceIdeal := hInProjReferenceIdeal)
    ∧ preserves_ConvSilu_ConvSiluIdeal
    ∧ algebraic_ConvSiluIdeal_ConvSiluReferenceIdeal (hConvSiluIdeal := hConvSiluIdeal) (hConvSiluReferenceIdeal := hConvSiluReferenceIdeal)
-- ==== Kernel.lean ====
abbrev S8x4x512x3072 : Shape := ⟨4, ![8, 4, 512, 3072]⟩
abbrev S32x16 : Shape := ⟨2, ![32, 16]⟩
abbrev S384 : Shape := ⟨1, ![384]⟩
abbrev S128x256 : Shape := ⟨2, ![128, 256]⟩
abbrev S_ : Shape := ⟨0, ![]⟩
abbrev S1x128x256 : Shape := ⟨3, ![1, 128, 256]⟩
abbrev S4x128x256 : Shape := ⟨3, ![4, 128, 256]⟩
abbrev S384x1 : Shape := ⟨2, ![384, 1]⟩
abbrev S384x16 : Shape := ⟨2, ![384, 16]⟩
abbrev S128x256x1 : Shape := ⟨3, ![128, 256, 1]⟩
abbrev S128x256x16 : Shape := ⟨3, ![128, 256, 16]⟩
abbrev S16x128x256 : Shape := ⟨3, ![16, 128, 256]⟩
abbrev S4x1x128x256 : Shape := ⟨4, ![4, 1, 128, 256]⟩
abbrev S1x16x128x256 : Shape := ⟨4, ![1, 16, 128, 256]⟩
abbrev S4x16x128x256 : Shape := ⟨4, ![4, 16, 128, 256]⟩
abbrev S8x4x512x1024 : Shape := ⟨4, ![8, 4, 512, 1024]⟩
abbrev S8x4x512x128 : Shape := ⟨4, ![8, 4, 512, 128]⟩
abbrev S1x1x512x1024 : Shape := ⟨4, ![1, 1, 512, 1024]⟩
abbrev S1x1x512x128 : Shape := ⟨4, ![1, 1, 512, 128]⟩
abbrev S1x640x1024 : Shape := ⟨3, ![1, 640, 1024]⟩
abbrev S64x1024 : Shape := ⟨2, ![64, 1024]⟩
abbrev S1x64x1024 : Shape := ⟨3, ![1, 64, 1024]⟩
abbrev S512x1024 : Shape := ⟨2, ![512, 1024]⟩
abbrev S1x512x1024 : Shape := ⟨3, ![1, 512, 1024]⟩
abbrev S1x128 : Shape := ⟨2, ![1, 128]⟩
abbrev S1x1x128x128 : Shape := ⟨4, ![1, 1, 128, 128]⟩
abbrev S128x128 : Shape := ⟨2, ![128, 128]⟩
abbrev S1x256x128 : Shape := ⟨3, ![1, 256, 128]⟩
abbrev S256x128 : Shape := ⟨2, ![256, 128]⟩
abbrev S256x256 : Shape := ⟨2, ![256, 256]⟩
abbrev S1x1x128x256 : Shape := ⟨4, ![1, 1, 128, 256]⟩
abbrev S128 : Shape := ⟨1, ![128]⟩
abbrev S128x1 : Shape := ⟨2, ![128, 1]⟩

abbrev nBuf : Space → Nat
  | .hbm => 80
  | .vmem => 13
  | .smem => 0
  | _ => 0

abbrev bufTy : (tb : Table) → Fin (tcTables nBuf tb) → BufTy
  | .hbm, ⟨0, _⟩ => ⟨S8x4x512x3072, .bf16⟩
  | .hbm, ⟨1, _⟩ => ⟨S32x16, .f32⟩
  | .hbm, ⟨2, _⟩ => ⟨S384, .i32⟩
  | .hbm, ⟨3, _⟩ => ⟨S384, .i1⟩
  | .hbm, ⟨4, _⟩ => ⟨S128x256, .i32⟩
  | .hbm, ⟨5, _⟩ => ⟨S_, .i32⟩
  | .hbm, ⟨6, _⟩ => ⟨S128x256, .i32⟩
  | .hbm, ⟨7, _⟩ => ⟨S128x256, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S_, .i32⟩
  | .hbm, ⟨12, _⟩ => ⟨S128x256, .i32⟩
  | .hbm, ⟨13, _⟩ => ⟨S128x256, .i1⟩
  | .hbm, ⟨14, _⟩ => ⟨S_, .i32⟩
  | .hbm, ⟨15, _⟩ => ⟨S128x256, .i32⟩
  | .hbm, ⟨16, _⟩ => ⟨S128x256, .i1⟩
  | .hbm, ⟨17, _⟩ => ⟨S128x256, .i1⟩
  | .hbm, ⟨18, _⟩ => ⟨S_, .i32⟩
  | .hbm, ⟨19, _⟩ => ⟨S128x256, .i32⟩
  | .hbm, ⟨20, _⟩ => ⟨S128x256, .i1⟩
  | .hbm, ⟨21, _⟩ => ⟨S128x256, .i1⟩
  | .hbm, ⟨22, _⟩ => ⟨S_, .i32⟩
  | .hbm, ⟨23, _⟩ => ⟨S128x256, .i32⟩
  | .hbm, ⟨24, _⟩ => ⟨S128x256, .i1⟩
  | .hbm, ⟨25, _⟩ => ⟨S128x256, .i1⟩
  | .hbm, ⟨26, _⟩ => ⟨S_, .i32⟩
  | .hbm, ⟨27, _⟩ => ⟨S128x256, .i32⟩
  | .hbm, ⟨28, _⟩ => ⟨S128x256, .i1⟩
  | .hbm, ⟨29, _⟩ => ⟨S128x256, .i1⟩
  | .hbm, ⟨30, _⟩ => ⟨S_, .i32⟩
  | .hbm, ⟨31, _⟩ => ⟨S128x256, .i32⟩
  | .hbm, ⟨32, _⟩ => ⟨S128x256, .i1⟩
  | .hbm, ⟨33, _⟩ => ⟨S128x256, .i1⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S128x256, .i1⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S128x256, .i1⟩
  | .hbm, ⟨46, _⟩ => ⟨S1x128x256, .i1⟩
  | .hbm, ⟨47, _⟩ => ⟨S1x128x256, .i1⟩
  | .hbm, ⟨48, _⟩ => ⟨S1x128x256, .i1⟩
  | .hbm, ⟨49, _⟩ => ⟨S1x128x256, .i1⟩
  | .hbm, ⟨50, _⟩ => ⟨S4x128x256, .i1⟩
  | .hbm, ⟨51, _⟩ => ⟨S_, .i32⟩
  | .hbm, ⟨52, _⟩ => ⟨S384, .i32⟩
  | .hbm, ⟨53, _⟩ => ⟨S384, .i32⟩
  | .hbm, ⟨54, _⟩ => ⟨S384, .i32⟩
  | .hbm, ⟨55, _⟩ => ⟨S384x1, .i32⟩
  | .hbm, ⟨56, _⟩ => ⟨S384x16, .f32⟩
  | .hbm, ⟨57, _⟩ => ⟨S_, .i32⟩
  | .hbm, ⟨58, _⟩ => ⟨S128x256, .i32⟩
  | .hbm, ⟨59, _⟩ => ⟨S128x256, .i32⟩
  | .hbm, ⟨60, _⟩ => ⟨S_, .i32⟩
  | .hbm, ⟨61, _⟩ => ⟨S128x256, .i32⟩
  | .hbm, ⟨62, _⟩ => ⟨S128x256, .i1⟩
  | .hbm, ⟨63, _⟩ => ⟨S_, .i32⟩
  | .hbm, ⟨64, _⟩ => ⟨S128x256, .i32⟩
  | .hbm, ⟨65, _⟩ => ⟨S128x256, .i32⟩
  | .hbm, ⟨66, _⟩ => ⟨S128x256, .i32⟩
  | .hbm, ⟨67, _⟩ => ⟨S128x256x1, .i32⟩
  | .hbm, ⟨68, _⟩ => ⟨S128x256x16, .f32⟩
  | .hbm, ⟨69, _⟩ => ⟨S16x128x256, .f32⟩
  | .hbm, ⟨70, _⟩ => ⟨S4x1x128x256, .i1⟩
  | .hbm, ⟨71, _⟩ => ⟨S1x16x128x256, .f32⟩
  | .hbm, ⟨72, _⟩ => ⟨S_, .f32⟩
  | .hbm, ⟨73, _⟩ => ⟨S_, .f32⟩
  | .hbm, ⟨74, _⟩ => ⟨S4x16x128x256, .i1⟩
  | .hbm, ⟨75, _⟩ => ⟨S4x16x128x256, .f32⟩
  | .hbm, ⟨76, _⟩ => ⟨S4x16x128x256, .f32⟩
  | .hbm, ⟨77, _⟩ => ⟨S4x16x128x256, .f32⟩
  | .hbm, ⟨78, _⟩ => ⟨S8x4x512x1024, .f32⟩
  | .hbm, ⟨79, _⟩ => ⟨S8x4x512x128, .f32⟩
  | .local _ .vmem, ⟨0, _⟩ => ⟨S1x1x512x1024, .bf16⟩
  | .local _ .vmem, ⟨1, _⟩ => ⟨S1x1x512x1024, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1x1x512x1024, .bf16⟩
  | .local _ .vmem, ⟨5, _⟩ => ⟨S1x1x512x1024, .bf16⟩
  | .local _ .vmem, ⟨6, _⟩ => ⟨S4x16x128x256, .f32⟩
  | .local _ .vmem, ⟨7, _⟩ => ⟨S1x1x512x1024, .f32⟩
  | .local _ .vmem, ⟨8, _⟩ => ⟨S1x1x512x1024, .f32⟩
  | .local _ .vmem, ⟨9, _⟩ => ⟨S1x1x512x128, .f32⟩
  | .local _ .vmem, ⟨10, _⟩ => ⟨S1x1x512x128, .f32⟩
  | .local _ .vmem, ⟨11, _⟩ => ⟨S1x640x1024, .bf16⟩
  | .local _ .vmem, ⟨12, _⟩ => ⟨S1x640x1024, .bf16⟩
  | _, _ => ⟨S8x4x512x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_2 : Ref sig .tc := ⟨.hbm, 11, rfl⟩
abbrev main_v6 : Ref sig .tc := ⟨.hbm, 12, rfl⟩
abbrev main_v7 : Ref sig .tc := ⟨.hbm, 13, rfl⟩
abbrev main_c_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_4 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_6 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_7 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_8 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_9 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_10 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_11 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_12 : Ref sig .tc := ⟨.hbm, 57, rfl⟩
abbrev main_v42 : Ref sig .tc := ⟨.hbm, 58, rfl⟩
abbrev main_v43 : Ref sig .tc := ⟨.hbm, 59, rfl⟩
abbrev main_c_13 : Ref sig .tc := ⟨.hbm, 60, rfl⟩
abbrev main_v44 : Ref sig .tc := ⟨.hbm, 61, rfl⟩
abbrev main_v45 : Ref sig .tc := ⟨.hbm, 62, rfl⟩
abbrev main_c_14 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_v54 : Ref sig .tc := ⟨.hbm, 77, rfl⟩
abbrev main_v55_0 : Ref sig .tc := ⟨.hbm, 78, rfl⟩
abbrev main_v55_1 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  let c0_i32_0 : BitVec 32 := 0#32
  ![arg0.toNat, arg1.toNat, c0_i32.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![arg0.toNat, arg1.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg2.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S4x16x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== KernelIdeal.lean ====
variable {F : FTy → Type} [FloatOps F] [Named F]
def κ : String → Option EReal := fun
  | "log2e" => some (((Real.log 2)⁻¹ : ℝ) : EReal)
  | "qscale" => some ((8⁻¹ * (Real.log 2)⁻¹ : ℝ) : EReal)
  | _ => none
-- ==== ReferenceIdeal.lean ====
abbrev S8x4x512x3072 : Shape := ⟨4, ![8, 4, 512, 3072]⟩
abbrev S32x16 : Shape := ⟨2, ![32, 16]⟩
abbrev S256 : Shape := ⟨1, ![256]⟩
abbrev S8x4x512x1024 : Shape := ⟨4, ![8, 4, 512, 1024]⟩
abbrev S8x4x512x16x64 : Shape := ⟨5, ![8, 4, 512, 16, 64]⟩
abbrev S8x4x8x64x16x64 : Shape := ⟨6, ![8, 4, 8, 64, 16, 64]⟩
abbrev S_ : Shape := ⟨0, ![]⟩
abbrev S8x4x640x16x64 : Shape := ⟨5, ![8, 4, 640, 16, 64]⟩
abbrev S8x4x10x64x16x64 : Shape := ⟨6, ![8, 4, 10, 64, 16, 64]⟩
abbrev S8x4x8x192x16x64 : Shape := ⟨6, ![8, 4, 8, 192, 16, 64]⟩
abbrev S64x192 : Shape := ⟨2, ![64, 192]⟩
abbrev S8x192 : Shape := ⟨2, ![8, 192]⟩
abbrev S1x64x192 : Shape := ⟨3, ![1, 64, 192]⟩
abbrev S8x1x192 : Shape := ⟨3, ![8, 1, 192]⟩
abbrev S8x64x192 : Shape := ⟨3, ![8, 64, 192]⟩
abbrev S256x1 : Shape := ⟨2, ![256, 1]⟩
abbrev S256x16 : Shape := ⟨2, ![256, 16]⟩
abbrev S64x192x1 : Shape := ⟨3, ![64, 192, 1]⟩
abbrev S64x192x16 : Shape := ⟨3, ![64, 192, 16]⟩
abbrev S16x64x192 : Shape := ⟨3, ![16, 64, 192]⟩
abbrev S8x4x8x16x64x192 : Shape := ⟨6, ![8, 4, 8, 16, 64, 192]⟩
abbrev S1x1x1x16x64x192 : Shape := ⟨6, ![1, 1, 1, 16, 64, 192]⟩
abbrev S8x1x64x192 : Shape := ⟨4, ![8, 1, 64, 192]⟩
abbrev S8x4x8x16x64 : Shape := ⟨5, ![8, 4, 8, 16, 64]⟩
abbrev S8x4x8x16x64x1 : Shape := ⟨6, ![8, 4, 8, 16, 64, 1]⟩
abbrev S8x4x8x16x64x64 : Shape := ⟨6, ![8, 4, 8, 16, 64, 64]⟩
abbrev S8x4x8x64x16 : Shape := ⟨5, ![8, 4, 8, 64, 16]⟩
abbrev S8x4x512x16 : Shape := ⟨4, ![8, 4, 512, 16]⟩
abbrev S8x4x512x96 : Shape := ⟨4, ![8, 4, 512, 96]⟩
abbrev S8x4x512x128 : Shape := ⟨4, ![8, 4, 512, 128]⟩

abbrev nBuf : Space → Nat
  | .hbm => 113
  | .vmem => 0
  | .smem => 0
  | _ => 0

abbrev bufTy : (tb : Table) → Fin (tcTables nBuf tb) → BufTy
  | .hbm, ⟨0, _⟩ => ⟨S8x4x512x3072, .bf16⟩
  | .hbm, ⟨1, _⟩ => ⟨S32x16, .f32⟩
  | .hbm, ⟨2, _⟩ => ⟨S256, .i32⟩
  | .hbm, ⟨3, _⟩ => ⟨S256, .i1⟩
  | .hbm, ⟨4, _⟩ => ⟨S8x4x512x3072, .f32⟩
  | .hbm, ⟨5, _⟩ => ⟨S8x4x512x1024, .f32⟩
  | .hbm, ⟨6, _⟩ => ⟨S8x4x512x16x64, .f32⟩
  | .hbm, ⟨7, _⟩ => ⟨S8x4x512x1024, .f32⟩
  | .hbm, ⟨8, _⟩ => ⟨S8x4x512x16x64, .f32⟩
  | .hbm, ⟨9, _⟩ => ⟨S8x4x512x1024, .f32⟩
  | .hbm, ⟨10, _⟩ => ⟨S8x4x512x16x64, .f32⟩
  | .hbm, ⟨11, _⟩ => ⟨S8x4x8x64x16x64, .f32⟩
  | .hbm, ⟨12, _⟩ => ⟨S_, .i32⟩
  | .hbm, ⟨13, _⟩ => ⟨S_, .f32⟩
  | .hbm, ⟨14, _⟩ => ⟨S8x4x640x16x64, .f32⟩
  | .hbm, ⟨15, _⟩ => ⟨S8x4x10x64x16x64, .f32⟩
  | .hbm, ⟨16, _⟩ => ⟨S8x4x8x64x16x64, .f32⟩
  | .hbm, ⟨17, _⟩ => ⟨S8x4x8x64x16x64, .f32⟩
  | .hbm, ⟨18, _⟩ => ⟨S8x4x8x64x16x64, .f32⟩
  | .hbm, ⟨19, _⟩ => ⟨S8x4x8x192x16x64, .f32⟩
  | .hbm, ⟨20, _⟩ => ⟨S_, .i32⟩
  | .hbm, ⟨21, _⟩ => ⟨S_, .f32⟩
  | .hbm, ⟨22, _⟩ => ⟨S8x4x640x16x64, .f32⟩
  | .hbm, ⟨23, _⟩ => ⟨S8x4x10x64x16x64, .f32⟩
  | .hbm, ⟨24, _⟩ => ⟨S8x4x8x64x16x64, .f32⟩
  | .hbm, ⟨25, _⟩ => ⟨S8x4x8x64x16x64, .f32⟩
  | .hbm, ⟨26, _⟩ => ⟨S8x4x8x64x16x64, .f32⟩
  | .hbm, ⟨27, _⟩ => ⟨S8x4x8x192x16x64, .f32⟩
  | .hbm, ⟨28, _⟩ => ⟨S64x192, .i32⟩
  | .hbm, ⟨29, _⟩ => ⟨S_, .i32⟩
  | .hbm, ⟨30, _⟩ => ⟨S64x192, .i32⟩
  | .hbm, ⟨31, _⟩ => ⟨S64x192, .i32⟩
  | .hbm, ⟨32, _⟩ => ⟨S64x192, .i32⟩
  | .hbm, ⟨33, _⟩ => ⟨S64x192, .i32⟩
  | .hbm, ⟨34, _⟩ => ⟨S64x192, .i32⟩
  | .hbm, ⟨35, _⟩ => ⟨S_, .i32⟩
  | .hbm, ⟨36, _⟩ => ⟨S64x192, .i32⟩
  | .hbm, ⟨37, _⟩ => ⟨S64x192, .i1⟩
  | .hbm, ⟨38, _⟩ => ⟨S8x192, .i32⟩
  | .hbm, ⟨39, _⟩ => ⟨S_, .i32⟩
  | .hbm, ⟨40, _⟩ => ⟨S8x192, .i32⟩
  | .hbm, ⟨41, _⟩ => ⟨S8x192, .i32⟩
  | .hbm, ⟨42, _⟩ => ⟨S_, .i32⟩
  | .hbm, ⟨43, _⟩ => ⟨S8x192, .i32⟩
  | .hbm, ⟨44, _⟩ => ⟨S8x192, .i32⟩
  | .hbm, ⟨45, _⟩ => ⟨S8x192, .i32⟩
  | .hbm, ⟨46, _⟩ => ⟨S8x192, .i32⟩
  | .hbm, ⟨47, _⟩ => ⟨S1x64x192, .i1⟩
  | .hbm, ⟨48, _⟩ => ⟨S_, .i32⟩
  | .hbm, ⟨49, _⟩ => ⟨S8x192, .i32⟩
  | .hbm, ⟨50, _⟩ => ⟨S8x192, .i1⟩
  | .hbm, ⟨51, _⟩ => ⟨S_, .i32⟩
  | .hbm, ⟨52, _⟩ => ⟨S8x192, .i32⟩
  | .hbm, ⟨53, _⟩ => ⟨S8x192, .i1⟩
  | .hbm, ⟨54, _⟩ => ⟨S8x192, .i1⟩
  | .hbm, ⟨55, _⟩ => ⟨S8x1x192, .i1⟩
  | .hbm, ⟨56, _⟩ => ⟨S8x64x192, .i1⟩
  | .hbm, ⟨57, _⟩ => ⟨S8x64x192, .i1⟩
  | .hbm, ⟨58, _⟩ => ⟨S8x64x192, .i1⟩
  | .hbm, ⟨59, _⟩ => ⟨S_, .i32⟩
  | .hbm, ⟨60, _⟩ => ⟨S256, .i32⟩
  | .hbm, ⟨61, _⟩ => ⟨S256, .i32⟩
  | .hbm, ⟨62, _⟩ => ⟨S256, .i32⟩
  | .hbm, ⟨63, _⟩ => ⟨S256x1, .i32⟩
  | .hbm, ⟨64, _⟩ => ⟨S256x16, .f32⟩
  | .hbm, ⟨65, _⟩ => ⟨S_, .i32⟩
  | .hbm, ⟨66, _⟩ => ⟨S64x192, .i32⟩
  | .hbm, ⟨67, _⟩ => ⟨S64x192, .i32⟩
  | .hbm, ⟨68, _⟩ => ⟨S_, .i32⟩
  | .hbm, ⟨69, _⟩ => ⟨S64x192, .i32⟩
  | .hbm, ⟨70, _⟩ => ⟨S64x192, .i1⟩
  | .hbm, ⟨71, _⟩ => ⟨S_, .i32⟩
  | .hbm, ⟨72, _⟩ => ⟨S64x192, .i32⟩
  | .hbm, ⟨73, _⟩ => ⟨S64x192, .i32⟩
  | .hbm, ⟨74, _⟩ => ⟨S64x192, .i32⟩
  | .hbm, ⟨75, _⟩ => ⟨S64x192x1, .i32⟩
  | .hbm, ⟨76, _⟩ => ⟨S64x192x16, .f32⟩
  | .hbm, ⟨77, _⟩ => ⟨S16x64x192, .f32⟩
  | .hbm, ⟨78, _⟩ => ⟨S8x4x8x16x64x192, .f32⟩
  | .hbm, ⟨79, _⟩ => ⟨S_, .f32⟩
  | .hbm, ⟨80, _⟩ => ⟨S8x4x8x16x64x192, .f32⟩
  | .hbm, ⟨81, _⟩ => ⟨S8x4x8x16x64x192, .f32⟩
  | .hbm, ⟨82, _⟩ => ⟨S1x1x1x16x64x192, .f32⟩
  | .hbm, ⟨83, _⟩ => ⟨S8x4x8x16x64x192, .f32⟩
  | .hbm, ⟨84, _⟩ => ⟨S8x4x8x16x64x192, .f32⟩
  | .hbm, ⟨85, _⟩ => ⟨S8x1x64x192, .i1⟩
  | .hbm, ⟨86, _⟩ => ⟨S_, .f32⟩
  | .hbm, ⟨87, _⟩ => ⟨S_, .f32⟩
  | .hbm, ⟨88, _⟩ => ⟨S8x4x8x16x64x192, .i1⟩
  | .hbm, ⟨89, _⟩ => ⟨S8x4x8x16x64x192, .f32⟩
  | .hbm, ⟨90, _⟩ => ⟨S8x4x8x16x64x192, .f32⟩
  | .hbm, ⟨91, _⟩ => ⟨S_, .f32⟩
  | .hbm, ⟨92, _⟩ => ⟨S8x4x8x16x64, .f32⟩
  | .hbm, ⟨93, _⟩ => ⟨S8x4x8x16x64x1, .f32⟩
  | .hbm, ⟨94, _⟩ => ⟨S8x4x8x16x64x192, .f32⟩
  | .hbm, ⟨95, _⟩ => ⟨S8x4x8x16x64x192, .f32⟩
  | .hbm, ⟨96, _⟩ => ⟨S8x4x8x16x64x192, .f32⟩
  | .hbm, ⟨97, _⟩ => ⟨S_, .f32⟩
  | .hbm, ⟨98, _⟩ => ⟨S8x4x8x16x64, .f32⟩
  | .hbm, ⟨99, _⟩ => ⟨S8x4x8x16x64x64, .f32⟩
  | .hbm, ⟨100, _⟩ => ⟨S8x4x8x64x16x64, .f32⟩
  | .hbm, ⟨101, _⟩ => ⟨S8x4x512x1024, .f32⟩
  | .hbm, ⟨102, _⟩ => ⟨S8x4x8x64x16, .f32⟩
  | .hbm, ⟨103, _⟩ => ⟨S8x4x512x16, .f32⟩
  | .hbm, ⟨104, _⟩ => ⟨S8x4x8x64x16, .f32⟩
  | .hbm, ⟨105, _⟩ => ⟨S8x4x512x16, .f32⟩
  | .hbm, ⟨106, _⟩ => ⟨S_, .f32⟩
  | .hbm, ⟨107, _⟩ => ⟨S_, .f32⟩
  | .hbm, ⟨108, _⟩ => ⟨S8x4x512x16, .f32⟩
  | .hbm, ⟨109, _⟩ => ⟨S8x4x512x16, .f32⟩
  | .hbm, ⟨110, _⟩ => ⟨S_, .f32⟩
  | .hbm, ⟨111, _⟩ => ⟨S8x4x512x96, .f32⟩
  | .hbm, ⟨112, _⟩ => ⟨S8x4x512x128, .f32⟩
  | _, _ => ⟨S8x4x512x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_call1_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_5 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_7 : Ref sig .tc := ⟨.hbm, 48, rfl⟩
abbrev main_v36 : Ref sig .tc := ⟨.hbm, 49, rfl⟩
abbrev main_v37 : Ref sig .tc := ⟨.hbm, 50, rfl⟩
abbrev main_c_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_10 : Ref sig .tc := ⟨.hbm, 65, rfl⟩
abbrev main_v50 : Ref sig .tc := ⟨.hbm, 66, rfl⟩
abbrev main_v51 : Ref sig .tc := ⟨.hbm, 67, rfl⟩
abbrev main_c_11 : Ref sig .tc := ⟨.hbm, 68, rfl⟩
abbrev main_v52 : Ref sig .tc := ⟨.hbm, 69, rfl⟩
abbrev main_v53 : Ref sig .tc := ⟨.hbm, 70, rfl⟩
abbrev main_c_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_13 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v67 : Ref sig .tc := ⟨.hbm, 90, rfl⟩
abbrev main_cst_14 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_15 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_16 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_17 : Ref sig .tc := ⟨.hbm, 110, rfl⟩
abbrev main_v84 : Ref sig .tc := ⟨.hbm, 111, rfl⟩
abbrev main_v85 : Ref sig .tc := ⟨.hbm, 112, rfl⟩

abbrev nD : Nat := 1
abbrev τ : Topo := Topo.v7x

variable {F : FTy → Type} [FloatOps F]
-- ==== Ffn.lean ====
abbrev S16384x2048 : Shape := ⟨2, ![16384, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 8
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048x11264, .bf16⟩
  | .hbm, ⟨5, _⟩ => ⟨S5632x2048, .bf16⟩
  | .hbm, ⟨6, _⟩ => ⟨S1x2048, .f32⟩
  | .hbm, ⟨7, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S16384x2048 : Shape := ⟨2, ![16384, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x11264 : Shape := ⟨2, ![16384, 11264]⟩
abbrev S16384x5632 : Shape := ⟨2, ![16384, 5632]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x11264, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S16384x5632, .f32⟩
  | .hbm, ⟨25, _⟩ => ⟨S_, .f32⟩
  | .hbm, ⟨26, _⟩ => ⟨S16384x5632, .f32⟩
  | .hbm, ⟨27, _⟩ => ⟨S16384x5632, .f32⟩
  | .hbm, ⟨28, _⟩ => ⟨S_, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== OutProj.lean ====
abbrev S16384x2048 : Shape := ⟨2, ![16384, 2048]⟩
abbrev S16384x1024 : Shape := ⟨2, ![16384, 1024]⟩
abbrev S2048x2048 : Shape := ⟨2, ![2048, 2048]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S2048x2048, .bf16⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjReferenceIdeal.lean ====
abbrev S16384x2048 : Shape := ⟨2, ![16384, 2048]⟩
abbrev S16384x1024 : Shape := ⟨2, ![16384, 1024]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S16384x2048, .f32⟩
  | .hbm, ⟨8, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== PleFinal.lean ====
abbrev S16384x2048 : Shape := ⟨2, ![16384, 2048]⟩
abbrev S16384x256 : Shape := ⟨2, ![16384, 256]⟩
abbrev S2048 : Shape := ⟨1, ![2048]⟩
abbrev S2048x2048 : Shape := ⟨2, ![2048, 2048]⟩
abbrev S256x2048 : Shape := ⟨2, ![256, 2048]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S2048x2048, .bf16⟩
  | .hbm, ⟨7, _⟩ => ⟨S256x2048, .bf16⟩
  | .hbm, ⟨8, _⟩ => ⟨S1x2048, .f32⟩
  | .hbm, ⟨9, _⟩ => ⟨S1x2048, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleFinalReferenceIdeal.lean ====
abbrev S16384x2048 : Shape := ⟨2, ![16384, 2048]⟩
abbrev S16384x256 : Shape := ⟨2, ![16384, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x2048, .f32⟩
  | .hbm, ⟨46, _⟩ => ⟨S16384x2048, .f32⟩
  | .hbm, ⟨47, _⟩ => ⟨S1x2048, .f32⟩
  | .hbm, ⟨48, _⟩ => ⟨S16384x2048, .f32⟩
  | .hbm, ⟨49, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== InProj.lean ====
abbrev S16384x2048 : Shape := ⟨2, ![16384, 2048]⟩
abbrev S2048 : Shape := ⟨1, ![2048]⟩
abbrev S2048x7184 : Shape := ⟨2, ![2048, 7184]⟩
abbrev S16 : Shape := ⟨1, ![16]⟩
abbrev S2048x7168 : Shape := ⟨2, ![2048, 7168]⟩
abbrev S2048x16 : Shape := ⟨2, ![2048, 16]⟩
abbrev S16x2048 : Shape := ⟨2, ![16, 2048]⟩
abbrev S1x2048 : Shape := ⟨2, ![1, 2048]⟩
abbrev S16x1 : Shape := ⟨2, ![16, 1]⟩
abbrev S8x1x2048x3072 : Shape := ⟨4, ![8, 1, 2048, 3072]⟩
abbrev S8x4x512x3072 : Shape := ⟨4, ![8, 4, 512, 3072]⟩
abbrev S8x16x128x3072 : Shape := ⟨4, ![8, 16, 128, 3072]⟩
abbrev S16384x1024 : Shape := ⟨2, ![16384, 1024]⟩
abbrev S16x16384 : Shape := ⟨2, ![16, 16384]⟩
abbrev S1024x2048 : Shape := ⟨2, ![1024, 2048]⟩
abbrev S2048x512 : Shape := ⟨2, ![2048, 512]⟩
abbrev S1x1x1024x512 : Shape := ⟨4, ![1, 1, 1024, 512]⟩
abbrev S1x4x256x512 : Shape := ⟨4, ![1, 4, 256, 512]⟩
abbrev S1x16x64x512 : Shape := ⟨4, ![1, 16, 64, 512]⟩
abbrev S1024x512 : Shape := ⟨2, ![1024, 512]⟩
abbrev S16x1024 : Shape := ⟨2, ![16, 1024]⟩
abbrev S4x1024x128 : Shape := ⟨3, ![4, 1024, 128]⟩
abbrev S1024 : Shape := ⟨1, ![1024]⟩
abbrev S1024x1 : Shape := ⟨2, ![1024, 1]⟩
abbrev S256x2048 : Shape := ⟨2, ![256, 2048]⟩
abbrev S256x512 : Shape := ⟨2, ![256, 512]⟩
abbrev S1x1x256x512 : Shape := ⟨4, ![1, 1, 256, 512]⟩
abbrev S256x128 : Shape := ⟨2, ![256, 128]⟩
abbrev S1x256x128 : Shape := ⟨3, ![1, 256, 128]⟩
abbrev S1x64x128 : Shape := ⟨3, ![1, 64, 128]⟩
abbrev S64x128 : Shape := ⟨2, ![64, 128]⟩
abbrev S1x1x64x128 : Shape := ⟨4, ![1, 1, 64, 128]⟩
abbrev S1x16x128 : Shape := ⟨3, ![1, 16, 128]⟩
abbrev S16x128 : Shape := ⟨2, ![16, 128]⟩
abbrev S1x1x16x128 : Shape := ⟨4, ![1, 1, 16, 128]⟩

abbrev nBuf : Space → Nat
  | .hbm => 18
  | .vmem => 23
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7184, .f32⟩
  | .hbm, ⟨3, _⟩ => ⟨S16, .f32⟩
  | .hbm, ⟨4, _⟩ => ⟨S2048x7168, .f32⟩
  | .hbm, ⟨5, _⟩ => ⟨S2048x7168, .bf16⟩
  | .hbm, ⟨6, _⟩ => ⟨S2048x16, .f32⟩
  | .hbm, ⟨7, _⟩ => ⟨S16x2048, .f32⟩
  | .hbm, ⟨8, _⟩ => ⟨S16x2048, .bf16⟩
  | .hbm, ⟨9, _⟩ => ⟨S1x2048, .f32⟩
  | .hbm, ⟨10, _⟩ => ⟨S16x1, .f32⟩
  | .hbm, ⟨11, _⟩ => ⟨S8x1x2048x3072, .bf16⟩
  | .hbm, ⟨12, _⟩ => ⟨S8x4x512x3072, .bf16⟩
  | .hbm, ⟨13, _⟩ => ⟨S8x16x128x3072, .bf16⟩
  | .hbm, ⟨14, _⟩ => ⟨S16384x2048, .f32⟩
  | .hbm, ⟨15, _⟩ => ⟨S16384x1024, .bf16⟩
  | .hbm, ⟨16, _⟩ => ⟨S16384x1024, .f32⟩
  | .hbm, ⟨17, _⟩ => ⟨S16x16384, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S16x2048, .bf16⟩
  | .local _ .vmem, ⟨6, _⟩ => ⟨S16x1, .f32⟩
  | .local _ .vmem, ⟨7, _⟩ => ⟨S1x1x1024x512, .bf16⟩
  | .local _ .vmem, ⟨8, _⟩ => ⟨S1x1x1024x512, .bf16⟩
  | .local _ .vmem, ⟨9, _⟩ => ⟨S1x4x256x512, .bf16⟩
  | .local _ .vmem, ⟨10, _⟩ => ⟨S1x4x256x512, .bf16⟩
  | .local _ .vmem, ⟨11, _⟩ => ⟨S1x16x64x512, .bf16⟩
  | .local _ .vmem, ⟨12, _⟩ => ⟨S1x16x64x512, .bf16⟩
  | .local _ .vmem, ⟨13, _⟩ => ⟨S1024x512, .f32⟩
  | .local _ .vmem, ⟨14, _⟩ => ⟨S1024x512, .f32⟩
  | .local _ .vmem, ⟨15, _⟩ => ⟨S1024x512, .bf16⟩
  | .local _ .vmem, ⟨16, _⟩ => ⟨S1024x512, .bf16⟩
  | .local _ .vmem, ⟨17, _⟩ => ⟨S1024x512, .f32⟩
  | .local _ .vmem, ⟨18, _⟩ => ⟨S1024x512, .f32⟩
  | .local _ .vmem, ⟨19, _⟩ => ⟨S16x1024, .f32⟩
  | .local _ .vmem, ⟨20, _⟩ => ⟨S16x1024, .f32⟩
  | .local _ .vmem, ⟨21, _⟩ => ⟨S1024x2048, .bf16⟩
  | .local _ .vmem, ⟨22, _⟩ => ⟨S4x1024x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev main_v7_5 : Ref sig .tc := ⟨.hbm, 16, rfl⟩
abbrev main_v7_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![16, 14], ![false, false]⟩

def k0_cond2 (i : grid0.Coords) : BitVec 1 :=
  let arg1 : BitVec 32 := BitVec.ofNat 32 (i 1).val
  let c6_i32 : BitVec 32 := 6#32
  let v3 : BitVec 1 := Scalar.cmpi .slt arg1 c6_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c6_i32_2 : BitVec 32 := 6#32
  let v6 : BitVec 1 := Scalar.cmpi .sge arg1 c6_i32_2
  let c10_i32 : BitVec 32 := 10#32
  let v7 : BitVec 1 := Scalar.cmpi .slt arg1 c10_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c10_i32_4 : BitVec 32 := 10#32
  let v11 : BitVec 1 := Scalar.cmpi .sge arg1 c10_i32_4
  let c12_i32 : BitVec 32 := 12#32
  let v12 : BitVec 1 := Scalar.cmpi .slt arg1 c12_i32
  let v13 : BitVec 1 := Scalar.andi v11 v12
  let v14 : BitVec 32 := Scalar.extui v13
  let c0_i32_5 : BitVec 32 := 0#32
  let v15 : BitVec 1 := Scalar.cmpi .ne v14 c0_i32_5
  v15

def k0_cond5 (i : grid0.Coords) : BitVec 1 :=
  let arg1 : BitVec 32 := BitVec.ofNat 32 (i 1).val
  let c12_i32_6 : BitVec 32 := 12#32
  let v16 : BitVec 1 := Scalar.cmpi .sge arg1 c12_i32_6
  let v17 : BitVec 32 := Scalar.extui v16
  let c0_i32_7 : BitVec 32 := 0#32
  let v18 : BitVec 1 := Scalar.cmpi .ne v17 c0_i32_7
  v18

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c5_i32 : BitVec 32 := 5#32
  let v27 : BitVec 32 := Scalar.minsi arg1 c5_i32
  let c0_i32_10 : BitVec 32 := 0#32
  let c0_i32_11 : BitVec 32 := 0#32
  ![v16.toNat, c0_i32_10.toNat, v26.toNat, v27.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c5_i32 : BitVec 32 := 5#32
  let v27 : BitVec 32 := Scalar.minsi arg1 c5_i32
  let c0_i32_10 : BitVec 32 := 0#32
  let c0_i32_11 : BitVec 32 := 0#32
  ![v16.toNat, c0_i32_10.toNat, v26.toNat, v27.toNat]

def cc0_transform_7 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c5_i32 : BitVec 32 := 5#32
  let v27 : BitVec 32 := Scalar.minsi arg1 c5_i32
  let c0_i32_10 : BitVec 32 := 0#32
  let c0_i32_11 : BitVec 32 := 0#32
  ![v16.toNat, c0_i32_10.toNat, v26.toNat, v27.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi arg1 c10_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_10 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S16x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== InProjReferenceIdeal.lean ====
abbrev S16384x2048 : Shape := ⟨2, ![16384, 2048]⟩
abbrev S2048 : Shape := ⟨1, ![2048]⟩
abbrev S2048x7184 : Shape := ⟨2, ![2048, 7184]⟩
abbrev S16 : Shape := ⟨1, ![16]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x7184 : Shape := ⟨2, ![16384, 7184]⟩
abbrev S16384x3072 : Shape := ⟨2, ![16384, 3072]⟩
abbrev S8x2048x3072 : Shape := ⟨3, ![8, 2048, 3072]⟩
abbrev S16384x16 : Shape := ⟨2, ![16384, 16]⟩
abbrev S1x16 : Shape := ⟨2, ![1, 16]⟩
abbrev S8x2048x1x3072 : Shape := ⟨4, ![8, 2048, 1, 3072]⟩
abbrev S8x1x2048x3072 : Shape := ⟨4, ![8, 1, 2048, 3072]⟩
abbrev S8x512x4x3072 : Shape := ⟨4, ![8, 512, 4, 3072]⟩
abbrev S8x4x512x3072 : Shape := ⟨4, ![8, 4, 512, 3072]⟩
abbrev S8x128x16x3072 : Shape := ⟨4, ![8, 128, 16, 3072]⟩
abbrev S8x16x128x3072 : Shape := ⟨4, ![8, 16, 128, 3072]⟩
abbrev S16384x1024 : Shape := ⟨2, ![16384, 1024]⟩
abbrev S16x16384 : Shape := ⟨2, ![16, 16384]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7184, .f32⟩
  | .hbm, ⟨3, _⟩ => ⟨S16, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x7184, .f32⟩
  | .hbm, ⟨21, _⟩ => ⟨S16384x3072, .f32⟩
  | .hbm, ⟨22, _⟩ => ⟨S8x2048x3072, .f32⟩
  | .hbm, ⟨23, _⟩ => ⟨S16384x16, .f32⟩
  | .hbm, ⟨24, _⟩ => ⟨S1x16, .f32⟩
  | .hbm, ⟨25, _⟩ => ⟨S16384x16, .f32⟩
  | .hbm, ⟨26, _⟩ => ⟨S16384x16, .f32⟩
  | .hbm, ⟨27, _⟩ => ⟨S8x2048x1x3072, .f32⟩
  | .hbm, ⟨28, _⟩ => ⟨S8x1x2048x3072, .f32⟩
  | .hbm, ⟨29, _⟩ => ⟨S8x1x2048x3072, .bf16⟩
  | .hbm, ⟨30, _⟩ => ⟨S8x512x4x3072, .f32⟩
  | .hbm, ⟨31, _⟩ => ⟨S8x4x512x3072, .f32⟩
  | .hbm, ⟨32, _⟩ => ⟨S8x4x512x3072, .bf16⟩
  | .hbm, ⟨33, _⟩ => ⟨S8x128x16x3072, .f32⟩
  | .hbm, ⟨34, _⟩ => ⟨S8x16x128x3072, .f32⟩
  | .hbm, ⟨35, _⟩ => ⟨S8x16x128x3072, .bf16⟩
  | .hbm, ⟨36, _⟩ => ⟨S16384x2048, .f32⟩
  | .hbm, ⟨37, _⟩ => ⟨S16384x1024, .f32⟩
  | .hbm, ⟨38, _⟩ => ⟨S16384x1024, .bf16⟩
  | .hbm, ⟨39, _⟩ => ⟨S16384x1024, .f32⟩
  | .hbm, ⟨40, _⟩ => ⟨S16x16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== ConvSilu.lean ====
abbrev S8x2048x2048 : Shape := ⟨3, ![8, 2048, 2048]⟩
abbrev S3x2048 : Shape := ⟨2, ![3, 2048]⟩
abbrev S2048 : Shape := ⟨1, ![2048]⟩
abbrev S1x2048 : Shape := ⟨2, ![1, 2048]⟩
abbrev S1x2048x256 : Shape := ⟨3, ![1, 2048, 256]⟩
abbrev S3x256 : Shape := ⟨2, ![3, 256]⟩
abbrev S1x256 : Shape := ⟨2, ![1, 256]⟩
abbrev S512x1 : Shape := ⟨2, ![512, 1]⟩
abbrev S1x512x256 : Shape := ⟨3, ![1, 512, 256]⟩
abbrev S512x256 : Shape := ⟨2, ![512, 256]⟩
abbrev S1x8x256 : Shape := ⟨3, ![1, 8, 256]⟩
abbrev S8x256 : Shape := ⟨2, ![8, 256]⟩

abbrev nBuf : Space → Nat
  | .hbm => 5
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S3x2048, .f32⟩
  | .hbm, ⟨2, _⟩ => ⟨S2048, .f32⟩
  | .hbm, ⟨3, _⟩ => ⟨S1x2048, .f32⟩
  | .hbm, ⟨4, _⟩ => ⟨S8x2048x2048, .bf16⟩
  | .local _ .vmem, ⟨0, _⟩ => ⟨S1x2048x256, .f32⟩
  | .local _ .vmem, ⟨1, _⟩ => ⟨S1x2048x256, .f32⟩
  | .local _ .vmem, ⟨2, _⟩ => ⟨S3x256, .f32⟩
  | .local _ .vmem, ⟨3, _⟩ => ⟨S3x256, .f32⟩
  | .local _ .vmem, ⟨4, _⟩ => ⟨S1x256, .f32⟩
  | .local _ .vmem, ⟨5, _⟩ => ⟨S1x256, .f32⟩
  | .local _ .vmem, ⟨6, _⟩ => ⟨S1x2048x256, .bf16⟩
  | .local _ .vmem, ⟨7, _⟩ => ⟨S1x2048x256, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c4_i32_6 : BitVec 32 := 4#32
  let v8 : BitVec 32 := Scalar.addi c0_i32 c4_i32_6
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v9 : BitVec 32 := Scalar.muli arg6 c512_i32
  v9
def k0_off1 (k0_t1 : Fin k0_t1_loop.trips) : Fin 3 → Nat :=
  let c0_8 : Index := 0#32
  let c0_i32 : BitVec 32 := 0#32
  let c1_i32 : BitVec 32 := 1#32
  let arg6 : BitVec 32 := Scf.iv c0_i32 c1_i32 k0_t1
  let c512_i32 : BitVec 32 := 512#32
  let v9 : BitVec 32 := Scalar.muli arg6 c512_i32
  let v10 : BitVec 32 := v9
  let v11 : Index := Scalar.indexCast v10
  let c0_9 : Index := 0#32
  ![0, v11.toNat, 0]
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v9 : BitVec 32 := Scalar.muli arg6 c512_i32
  let v10 : BitVec 32 := v9
  let c8_i32 : BitVec 32 := 8#32
  let v14 : BitVec 32 := Scalar.subi v10 c8_i32
  let c0_i32_10 : BitVec 32 := 0#32
  let v15 : BitVec 32 := Scalar.maxsi v14 c0_i32_10
  v15
def k0_off2 (k0_t1 : Fin k0_t1_loop.trips) : Fin 3 → Nat :=
  let c0_11 : Index := 0#32
  let c0_i32 : BitVec 32 := 0#32
  let c1_i32 : BitVec 32 := 1#32
  let arg6 : BitVec 32 := Scf.iv c0_i32 c1_i32 k0_t1
  let c512_i32 : BitVec 32 := 512#32
  let v9 : BitVec 32 := Scalar.muli arg6 c512_i32
  let v10 : BitVec 32 := v9
  let c8_i32 : BitVec 32 := 8#32
  let v14 : BitVec 32 := Scalar.subi v10 c8_i32
  let c0_i32_10 : BitVec 32 := 0#32
  let v15 : BitVec 32 := Scalar.maxsi v14 c0_i32_10
  let v16 : BitVec 32 := v15
  let v17 : Index := Scalar.indexCast v16
  let c0_12 : Index := 0#32
  ![0, v17.toNat, 0]
def k0_mult3 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v9 : BitVec 32 := Scalar.muli arg6 c512_i32
  let v10 : BitVec 32 := v9
  let c512_i32_13 : BitVec 32 := 512#32
  let v21 : BitVec 32 := Scalar.addi v10 c512_i32_13
  let c2040_i32 : BitVec 32 := 2040#32
  let v22 : BitVec 32 := Scalar.minsi v21 c2040_i32
  v22
def k0_off3 (k0_t1 : Fin k0_t1_loop.trips) : Fin 3 → Nat :=
  let c0_14 : Index := 0#32
  let c0_i32 : BitVec 32 := 0#32
  let c1_i32 : BitVec 32 := 1#32
  let arg6 : BitVec 32 := Scf.iv c0_i32 c1_i32 k0_t1
  let c512_i32 : BitVec 32 := 512#32
  let v9 : BitVec 32 := Scalar.muli arg6 c512_i32
  let v10 : BitVec 32 := v9
  let c512_i32_13 : BitVec 32 := 512#32
  let v21 : BitVec 32 := Scalar.addi v10 c512_i32_13
  let c2040_i32 : BitVec 32 := 2040#32
  let v22 : BitVec 32 := Scalar.minsi v21 c2040_i32
  let v23 : BitVec 32 := v22
  let v24 : Index := Scalar.indexCast v23
  let c0_15 : Index := 0#32
  ![0, v24.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvSiluReferenceIdeal.lean ====
abbrev S8x2048x2048 : Shape := ⟨3, ![8, 2048, 2048]⟩
abbrev S3x2048 : Shape := ⟨2, ![3, 2048]⟩
abbrev S2048 : Shape := ⟨1, ![2048]⟩
abbrev S_ : Shape := ⟨0, ![]⟩
abbrev S8x2050x2048 : Shape := ⟨3, ![8, 2050, 2048]⟩
abbrev S1x2048 : Shape := ⟨2, ![1, 2048]⟩
abbrev S1x1x2048 : Shape := ⟨3, ![1, 1, 2048]⟩
abbrev S8x2048x1024 : Shape := ⟨3, ![8, 2048, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S3x2048, .f32⟩
  | .hbm, ⟨2, _⟩ => ⟨S2048, .f32⟩
  | .hbm, ⟨3, _⟩ => ⟨S_, .i32⟩
  | .hbm, ⟨4, _⟩ => ⟨S_, .f32⟩
  | .hbm, ⟨5, _⟩ => ⟨S8x2050x2048, .f32⟩
  | .hbm, ⟨6, _⟩ => ⟨S8x2048x2048, .f32⟩
  | .hbm, ⟨7, _⟩ => ⟨S1x2048, .f32⟩
  | .hbm, ⟨8, _⟩ => ⟨S2048, .f32⟩
  | .hbm, ⟨9, _⟩ => ⟨S1x1x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S1x2048, .f32⟩
  | .hbm, ⟨14, _⟩ => ⟨S2048, .f32⟩
  | .hbm, ⟨15, _⟩ => ⟨S1x1x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S1x2048, .f32⟩
  | .hbm, ⟨21, _⟩ => ⟨S2048, .f32⟩
  | .hbm, ⟨22, _⟩ => ⟨S1x1x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S1x1x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x1024, .f32⟩
  | .hbm, ⟨42, _⟩ => ⟨S8x2048x1024, .f32⟩
  | .hbm, ⟨43, _⟩ => ⟨S8x2048x2048, .f32⟩
  | .hbm, ⟨44, _⟩ => ⟨S8x2048x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Proof.AttnPieces.lean ====
/- The stores of the attention kernel at one grid point, as one list: for each pair of heads and each block of 128 queries,
   one store of the block's weighted values and one update of the row statistics. -/
module

public import proofs.«01_k».proof.Proof.Gen.KernelIdeal.Value

@[expose] public section

set_option maxRecDepth 16384

noncomputable section

namespace Cert.KernelIdeal.Value

open Cert.KernelIdeal Cert.KernelIdeal.Gen Idealize.ShloMosaic Idealize.ShloMosaic.TcCoe Idealize.ShloMosaic.Tactic Idealize.SL.Sem
open Idealize.ShloMosaic.Pipeline (Dat)

/-- Block `i` of 128 query rows, head pair `p` of 128 lanes. -/
abbrev rectQ (i : Fin 4) (p : Fin 8) : Rect S1x1x512x1024 :=
  Rect.unit ![0, 0, 128 * i.val, 128 * p.val] S1x1x128x128.size
    (by intro a; match a with
      | ⟨0, _⟩ => show 0 + 1 ≤ 1; omega
      | ⟨1, _⟩ => show 0 + 1 ≤ 1; omega
      | ⟨2, _⟩ => show 128 * i.val + 128 ≤ 512; omega
      | ⟨3, _⟩ => show 128 * p.val + 128 ≤ 1024; omega)

/-- The window of 256 padded keys that block `i` looks at. -/
abbrev rectK (i : Fin 4) (p : Fin 8) : Rect S1x640x1024 :=
  Rect.unit ![0, 128 * i.val, 128 * p.val] S1x256x128.size
    (by intro a; match a with
      | ⟨0, _⟩ => show 0 + 1 ≤ 1; omega
      | ⟨1, _⟩ => show 128 * i.val + 256 ≤ 640; omega
      | ⟨2, _⟩ => show 128 * p.val + 128 ≤ 1024; omega)

/-- Which of the four bias tables block `i` reads. -/
abbrev varOf (i : Fin 4) : Fin 4 := ![1, 0, 0, 2] i

/-- The bias table of block `i` for the pair's head `e`. -/
abbrev rectB (i : Fin 4) (p : Fin 8) (e : Fin 2) : Rect S4x16x128x256 :=
  Rect.unit ![(varOf i).val, 2 * p.val + e.val, 0, 0] S1x1x128x256.size
    (by intro a; match a with
      | ⟨0, _⟩ => show (varOf i).val + 1 ≤ 4; omega
      | ⟨1, _⟩ => show 2 * p.val + e.val + 1 ≤ 16; omega
      | ⟨2, _⟩ => show 0 + 128 ≤ 128; omega
      | ⟨3, _⟩ => show 0 + 256 ≤ 256; omega)

/-- The statistics of block `i`'s rows. -/
abbrev rectS (i : Fin 4) : Rect S1x1x512x128 :=
  Rect.unit ![0, 0, 128 * i.val, 0] S1x1x128x128.size
    (by intro a; match a with
      | ⟨0, _⟩ => show 0 + 1 ≤ 1; omega
      | ⟨1, _⟩ => show 0 + 1 ≤ 1; omega
      | ⟨2, _⟩ => show 128 * i.val + 128 ≤ 512; omega
      | ⟨3, _⟩ => show 0 + 128 ≤ 128; omega)

section
variable {F : FTy → Type} [FloatOps F] [Named F]

/-- The weighted values of one block of queries for one pair of heads. -/
abbrev numBlock (q : Vec F S1x1x128x128 .bf16) (kw vw : Vec F S1x256x128 .bf16) (b0 b1 : Vec F S1x1x128x256 .f32) :
    FVec F S1x1x128x128 .f32 :=
  k0_pay22 k0_pay10 (k0_pay11 vw) (k0_pay13 q kw b0) (k0_pay14 q kw) b1

/-- The row statistics after one block of queries for one pair of heads. -/
abbrev statBlock (p : BitVec 32) (q : Vec F S1x1x128x128 .bf16) (kw : Vec F S1x256x128 .bf16) (b0 b1 : Vec F S1x1x128x256 .f32)
    (prev : Vec F S1x1x128x128 .f32) : FVec F S1x1x128x128 .f32 :=
  k0_pay27 (iota .tc S1x128 32 [1] iota_S1x128_d1_w32) (k0_pay16 (k0_pay13 q kw b0)) (k0_pay17 (k0_pay14 q kw) b1)
    (k0_pay20 (k0_pay13 q kw b0)) (k0_pay21 (k0_pay14 q kw) b1) (Scalar.muli 2#32 p) (k0_pay23 prev)
    (k0_pay24 (iota .tc S1x128 32 [1] iota_S1x128_d1_w32) p) (k0_pay25 (iota .tc S1x128 32 [1] iota_S1x128_d1_w32) p)
    (k0_pay26 (iota .tc S1x128 32 [1] iota_S1x128_d1_w32) p)

end

section
variable {F : FTy → Type} [FloatOps F] [Named F]
variable (c : Dev nD) (i : grid0.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S4x16x128x256 .f32) (harg6 : arg6.IsWhole) (arg7 : Memref sig .tc .vmem S1x1x512x1024 .f32) (harg7 : arg7.IsWhole) (arg8 : Memref sig .tc .vmem S1x1x512x128 .f32) (harg8 : arg8.IsWhole) (arg9 : Memref sig .tc .vmem S1x640x1024 .bf16) (harg9 : arg9.IsWhole) (arg10 : Memref sig .tc .vmem S1x640x1024 .bf16) (harg10 : arg10.IsWhole) (hc0 : cond0_0 i)
    (x0 : Vec F S1x1x512x1024 .bf16) (x1 : Vec F S1x1x512x1024 .bf16) (x2 : Vec F S1x1x512x1024 .bf16) (x3 : Vec F S4x16x128x256 .f32)

/-- The store of head pair `p`'s weighted values for block `b` of queries. -/
def numPiece (b : Fin 4) (p : Fin 8) : View.Piece (Elt F) S1x1x512x1024 .f32 :=
  ⟨rectQ b p, numBlock (View.readAt (Elt F) arg3.view (rectQ b p).toLoadRect (harg3.unread x0))
    (arg9.view.readCov (kernelRun0_A.sl.HS0_3 c arg4 harg4 x1) (rectK b p).toLoadRect)
    (arg10.view.readCov (kernelRun0_A.sl.HS1_3 c arg5 harg5 x2) (rectK b p).toLoadRect)
    (View.readAt (Elt F) arg6.view (rectB b p 0).toLoadRect (harg6.unread x3))
    (View.readAt (Elt F) arg6.view (rectB b p 1).toLoadRect (harg6.unread x3))⟩

/-- The update of block `b`'s row statistics by head pair `p`, over the stores `L` made before it. -/
def statPiece (b : Fin 4) (p : Fin 8) (L : List (View.Piece (Elt F) S1x1x512x128 .f32)) : View.Piece (Elt F) S1x1x512x128 .f32 :=
  ⟨rectS b, statBlock (Scalar.addi (kernelRun0_A.sl.v29 i) (BitVec.ofNat 32 p.val))
    (View.readAt (Elt F) arg3.view (rectQ b p).toLoadRect (harg3.unread x0))
    (arg9.view.readCov (kernelRun0_A.sl.HS0_3 c arg4 harg4 x1) (rectK b p).toLoadRect)
    (View.readAt (Elt F) arg6.view (rectB b p 0).toLoadRect (harg6.unread x3))
    (View.readAt (Elt F) arg6.view (rectB b p 1).toLoadRect (harg6.unread x3))
    (arg8.view.readCov L (rectS b).toLoadRect)⟩

/-- The head pairs and blocks in the order of the stores, the last first. -/
abbrev steps : List (Fin 8 × Fin 4) :=
  [7, 6, 5, 4, 3, 2, 1, 0].flatMap fun p => [(p, 3), (p, 2), (p, 1), (p, 0)]

theorem num_pieces :
    (kernelRun0_A c i arg3 harg3 arg4 harg4 arg5 harg5 arg6 harg6 arg7 harg7 arg8 harg8 arg9 harg9 arg10 harg10 hc0 x0 x1 x2 x3).1
      = steps.map fun s => numPiece c arg3 harg3 arg4 harg4 arg5 harg5 arg6 harg6 arg9 arg10 x0 x1 x2 x3 s.2 s.1 := by
  rfl

/-- The statistics' stores after the steps `l`. -/
def statList (l : List (Fin 8 × Fin 4)) : List (View.Piece (Elt F) S1x1x512x128 .f32) :=
  l.foldr (fun s L => statPiece c i arg3 harg3 arg4 harg4 arg6 harg6 arg8 arg9 x0 x1 x3 s.2 s.1 L :: L)
    [⟨Rect.unit ![0, 0, 0, 0] S1x1x512x128.size inb_S1x1x512x128_S1x1x512x128_0_0_0_0, k0_pay9⟩]

theorem stat_pieces :
    (kernelRun0_A c i arg3 harg3 arg4 harg4 arg5 harg5 arg6 harg6 arg7 harg7 arg8 harg8 arg9 harg9 arg10 harg10 hc0 x0 x1 x2 x3).2.1
      = statList c i arg3 harg3 arg4 harg4 arg6 harg6 arg8 arg9 x0 x1 x3 steps := by
  rfl

end

end Cert.KernelIdeal.Value

end
-- ==== Proof.AttnMath.lean ====
/- The mathematics of one query row of banded attention over the extended reals: moving a finite positive factor through
   sums and maxima, a power of two with its exponent scaled by one over the logarithm of two read as the exponential, and a
   band of 129 keys read inside a longer window. -/
module

public import Idealize.ShloMosaic.Init
public import Idealize.ShloMosaic.Lib.Pointwise
public import Mathlib.Data.EReal.Basic
public import Mathlib.Data.EReal.Operations
public import Mathlib.Analysis.SpecialFunctions.Pow.Real

@[expose] public section

noncomputable section

namespace Cert.Attn

open Idealize.ShloMosaic

/-- One over the logarithm of two. -/
abbrev log2e : EReal := (((Real.log 2)⁻¹ : ℝ) : EReal)

theorem log_two_pos : 0 < Real.log 2 := Real.log_pos (by norm_num)

theorem inv_log_two_pos : 0 < (Real.log 2)⁻¹ := inv_pos.2 log_two_pos

theorem log2e_pos : 0 < log2e := EReal.coe_pos.2 inv_log_two_pos

theorem mul_sum_of_nonneg {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.2 ha) (EReal.coe_ne_top a), ih]

/-- Two to the power `x / log 2` is the exponential of `x`. -/
theorem exp2_scaled (x : EReal) : Ideal.exp2 (log2e * x) = Ideal.exp x := by
  induction x with
  | bot => rw [EReal.mul_bot_of_pos log2e_pos]; rfl
  | top => rw [EReal.mul_top_of_pos log2e_pos]; rfl
  | coe r =>
    rw [← EReal.coe_mul, Ideal.exp2_coe, Ideal.exp_coe]
    congr 1
    show (2 : ℝ) ^ ((Real.log 2)⁻¹ * r) = _
    rw [Real.rpow_def_of_pos (by norm_num), ← mul_assoc, mul_inv_cancel₀ log_two_pos.ne', one_mul]

/-- The factor passes through a difference. -/
theorem scaled_sub (x y : EReal) : log2e * x - log2e * y = log2e * (x - y) := by
  rw [sub_eq_add_neg, sub_eq_add_neg, ← mul_neg,
    EReal.left_distrib_of_nonneg_of_ne_top log2e_pos.le (EReal.coe_ne_top _)]

theorem scaled_mono {x y : EReal} (h : x ≤ y) : log2e * x ≤ log2e * y :=
  mul_le_mul_of_nonneg_left h log2e_pos.le

/-- The factor passes through a greatest element. -/
theorem scaled_sup {ι : Type*} (s : Finset ι) (f : ι → EReal) : s.sup (fun i => log2e * f i) = log2e * s.sup f := by
  refine (Finset.comp_sup_eq_sup_comp (fun x => log2e * x) (fun x y => ?_) (EReal.mul_bot_of_pos log2e_pos)).symm
  exact (Monotone.map_sup (fun _ _ h => scaled_mono h) x y)

/-- A sum over a window of `n` keys that vanishes outside the band of 129 keys starting at `t` is the sum over the band. -/
theorem sum_band {n : ℕ} (t : ℕ) (h : t + 129 ≤ n) (f : Fin n → EReal) (g : Fin 129 → EReal)
    (hin : ∀ u : Fin 129, f ⟨t + u.val, by omega⟩ = g u) (hout : ∀ w : Fin n, ¬(t ≤ w.val ∧ w.val < t + 129) → f w = 0) :
    ∑ w, f w = ∑ u, g u := by
  let e : Fin 129 → Fin n := fun u => ⟨t + u.val, by omega⟩
  have he : Function.Injective e := fun a b hab => Fin.ext (by have := congrArg Fin.val hab; simp only [e] at this; omega)
  rw [← Finset.sum_subset (Finset.subset_univ (Finset.univ.map ⟨e, he⟩)), Finset.sum_map]
  · exact Finset.sum_congr rfl fun u _ => hin u
  · intro w _ hw
    refine hout w fun hb => hw ?_
    rw [Finset.mem_map]
    exact ⟨⟨w.val - t, by omega⟩, Finset.mem_univ _, Fin.ext (by show t + (w.val - t) = _; omega)⟩

/-- The greatest element of a window of `n` keys that is least outside the band of 129 keys starting at `t` is the band's. -/
theorem sup_band {n : ℕ} (t : ℕ) (h : t + 129 ≤ n) (f : Fin n → EReal) (g : Fin 129 → EReal)
    (hin : ∀ u : Fin 129, f ⟨t + u.val, by omega⟩ = g u) (hout : ∀ w : Fin n, ¬(t ≤ w.val ∧ w.val < t + 129) → f w = ⊥) :
    Finset.univ.sup f = Finset.univ.sup g := by
  refine le_antisymm (Finset.sup_le fun w _ => ?_) (Finset.sup_le fun u _ => ?_)
  · by_cases hb : t ≤ w.val ∧ w.val < t + 129
    · have : f w = g ⟨w.val - t, by omega⟩ := by
        rw [← hin]; congr 1; exact Fin.ext (by show _ = t + (w.val - t); omega)
      rw [this]
      exact Finset.le_sup (f := g) (Finset.mem_univ _)
    · rw [hout w hb]; exact bot_le
  · rw [← hin]
    exact Finset.le_sup (f := f) (Finset.mem_univ _)

/-- The weight of a key whose score is least is zero, whatever the row's maximum. -/
theorem exp_masked (m : EReal) : Ideal.exp (⊥ - m) = 0 := by
  rw [sub_eq_add_neg, EReal.bot_add]; rfl

end Cert.Attn

end
-- ==== Proof.AttnBlock.lean ====
/- What one block of 128 queries computes for a pair of heads, read entry by entry over the extended reals. -/
module

public import proofs.«01_k».proof.Proof.AttnPieces
public import proofs.«01_k».proof.Proof.AttnMath
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.Pointwise

open Cert.Attn

/-! ## One row of scores -/

section
variable (t : ℕ) (ht : t + 129 ≤ 256) (f : Fin 256 → EReal) (full : Fin 256 → EReal) (g : Fin 129 → EReal)
  (hf : ∀ w, f w = log2e * full w) (hin : ∀ u : Fin 129, full ⟨t + u.val, by omega⟩ = g u)
  (hout : ∀ w : Fin 256, ¬(t ≤ w.val ∧ w.val < t + 129) → full w = ⊥)
include hf hin hout

/-- The greatest entry of a row of scaled scores. -/
theorem row_top : Finset.univ.fold max (Ideal.ofBits FTy.f32 4286578688#32) f = log2e * Finset.univ.sup g := by
  rw [show Ideal.ofBits FTy.f32 4286578688#32 = ⊥ by simp [Ideal.ofBits, Ideal.ieee], show f = fun w => log2e * full w from funext hf]
  refine (scaled_sup Finset.univ full).trans ?_
  rw [sup_band t ht full g hin hout]

theorem row_exp_in (u : Fin 129) : Ideal.exp2 (f ⟨t + u.val, by omega⟩ - Finset.univ.fold max (Ideal.ofBits FTy.f32 4286578688#32) f)
    = Ideal.exp (g u - Finset.univ.sup g) := by
  rw [row_top t ht f full g hf hin hout, hf, hin, scaled_sub, exp2_scaled]

theorem row_exp_out (w : Fin 256) (hw : ¬(t ≤ w.val ∧ w.val < t + 129)) :
    Ideal.exp2 (f w - Finset.univ.fold max (Ideal.ofBits FTy.f32 4286578688#32) f) = 0 := by
  rw [row_top t ht f full g hf hin hout, hf, hout w hw, scaled_sub, exp2_scaled, exp_masked]

/-- The sum of a row's exponentials. -/
theorem row_den : ∑ w, Ideal.exp2 (f w - Finset.univ.fold max (Ideal.ofBits FTy.f32 4286578688#32) f)
    = ∑ u, Ideal.exp (g u - Finset.univ.sup g) :=
  sum_band t ht _ _ (row_exp_in t ht f full g hf hin hout) (row_exp_out t ht f full g hf hin hout)

/-- A row's weighted values. -/
theorem row_num (v : Fin 256 → EReal) :
    ∑ w, Ideal.exp2 (f w - Finset.univ.fold max (Ideal.ofBits FTy.f32 4286578688#32) f) * v w
      = ∑ u : Fin 129, Ideal.exp (g u - Finset.univ.sup g) * v ⟨t + u.val, by omega⟩ :=
  sum_band t ht _ _ (fun u => congrArg (· * _) (row_exp_in t ht f full g hf hin hout u))
    (fun w hw => (congrArg (· * _) (row_exp_out t ht f full g hf hin hout w hw)).trans (zero_mul _))

end

/-! ## The scores of a pair of heads -/

variable (q : Vec Ideal S1x1x128x128 .bf16) (kw vw : Vec Ideal S1x256x128 .bf16) (b0 b1 b : Vec Ideal S1x1x128x256 .f32)

/-- Head `e`'s product of query `r` and key `w`, over the square root of the head's size. -/
def dots (e : Fin 2) (r : Fin 128) (w : Fin 256) : EReal :=
  (∑ j : Fin 64, (q (ix4 0 0 r ⟨64 * e.val + j.val, by omega⟩) : EReal) * (kw (ix3 0 w ⟨64 * e.val + j.val, by omega⟩) : EReal)) * ((8⁻¹ : ℝ) : EReal)

theorem named_log2e : (Named.named (F := Ideal) κ "log2e" (φ := FTy.f32) 1069066811#32 : EReal) = log2e :=
  IdealRules.named_const.ideal_named_scalar _ _ _ _ rfl

theorem named_qscale : (Named.named (F := Ideal) κ "qscale" (φ := FTy.f32) 1043900987#32 : EReal) = ((8⁻¹ * (Real.log 2)⁻¹ : ℝ) : EReal) :=
  IdealRules.named_const.ideal_named_scalar _ _ _ _ rfl

/-- Scaling the queries scales the product. -/
theorem scaled_dots (x k : Fin 64 → EReal) : ∑ j, (x j * ((8⁻¹ * (Real.log 2)⁻¹ : ℝ) : EReal)) * k j
    = log2e * ((∑ j, x j * k j) * ((8⁻¹ : ℝ) : EReal)) := by
  rw [mul_comm (∑ j, x j * k j), ← mul_assoc, ← EReal.coe_mul, mul_comm (Real.log 2)⁻¹,
    mul_sum_of_nonneg _ _ (mul_nonneg (by norm_num) inv_log_two_pos.le)]
  refine Finset.sum_congr rfl fun j _ => ?_
  rw [mul_comm (x j), mul_assoc]

theorem scaled_bias (a β : EReal) : log2e * a + β * log2e = log2e * (a + β) := by
  rw [mul_comm β, EReal.left_distrib_of_nonneg_of_ne_top log2e_pos.le (EReal.coe_ne_top _)]

theorem low_lane (j : Fin 64) : IntOp.cmpi .slt (BitVec.ofNat 32 j.val) 64#32 = 1#1 := by
  revert j; decide +kernel

theorem high_lane (j : Fin 64) : IntOp.cmpi .slt (BitVec.ofNat 32 (64 + j.val)) 64#32 = 0#1 := by
  revert j; decide +kernel

/-- The lanes of the first head are the lower half of 128. -/
theorem sum_low (y : Fin 128 → EReal) :
    ∑ l : Fin 128, Scalar.select (IntOp.cmpi .slt (BitVec.ofNat 32 l.val) 64#32) (y l) 0
      = ∑ j : Fin 64, y ⟨64 * (0 : Fin 2).val + j.val, by omega⟩ := by
  rw [Fin.sum_univ_add (a := 64) (b := 64)]
  refine (congrArg₂ (· + ·) (Finset.sum_congr rfl fun j _ => ?_) (Finset.sum_eq_zero fun j _ => ?_)).trans (add_zero _)
  · show Scalar.select (IntOp.cmpi .slt (BitVec.ofNat 32 j.val) 64#32) (y (Fin.castAdd 64 j)) 0 = _
    rw [low_lane]
    exact (ValueIdx.select_one _ _).trans (congrArg y (Fin.ext (by simp)))
  · show Scalar.select (IntOp.cmpi .slt (BitVec.ofNat 32 (64 + j.val)) 64#32) (y (Fin.natAdd 64 j)) 0 = _
    rw [high_lane]
    exact ValueIdx.select_zero _ _

/-- The lanes of the second head are the upper half. -/
theorem sum_high (y : Fin 128 → EReal) :
    ∑ l : Fin 128, Scalar.select (IntOp.cmpi .slt (BitVec.ofNat 32 l.val) 64#32) 0 (y l)
      = ∑ j : Fin 64, y ⟨64 * (1 : Fin 2).val + j.val, by omega⟩ := by
  rw [Fin.sum_univ_add (a := 64) (b := 64)]
  refine (congrArg₂ (· + ·) (Finset.sum_eq_zero fun j _ => ?_) (Finset.sum_congr rfl fun j _ => ?_)).trans (zero_add _)
  · show Scalar.select (IntOp.cmpi .slt (BitVec.ofNat 32 j.val) 64#32) 0 (y (Fin.castAdd 64 j)) = _
    rw [low_lane]
    exact ValueIdx.select_one _ _
  · show Scalar.select (IntOp.cmpi .slt (BitVec.ofNat 32 (64 + j.val)) 64#32) 0 (y (Fin.natAdd 64 j)) = _
    rw [high_lane]
    exact (ValueIdx.select_zero _ _).trans (congrArg y (Fin.ext (by simp [add_comm])))

/-- The scores of the pair's first head. -/
theorem first_apply (r : Fin 128) (w : Fin 256) :
    k0_pay13 q kw b0 (ix2 r w) = log2e * (dots q kw 0 r w + b0 (ix4 0 0 r w)) := by
  pointwise [k0_pay13, k0_pay12, k0_pay10]
  rw [named_log2e, named_qscale, sum_low fun x => q (ix4 0 0 r x) * ((8⁻¹ * (Real.log 2)⁻¹ : ℝ) : EReal) * kw (ix3 0 w x),
    ← scaled_bias]
  exact congrArg (· + _) (scaled_dots (fun j => q (ix4 0 0 r ⟨64 * (0 : Fin 2).val + j.val, by omega⟩)) _)

/-- The scores of the pair's second head. -/
theorem second_apply (r : Fin 128) (w : Fin 256) :
    k0_pay14 q kw (ix2 r w) + b1 (ix4 0 0 r w) * log2e = log2e * (dots q kw 1 r w + b1 (ix4 0 0 r w)) := by
  pointwise [k0_pay14, k0_pay12, k0_pay10]
  rw [named_qscale, sum_high fun x => q (ix4 0 0 r x) * ((8⁻¹ * (Real.log 2)⁻¹ : ℝ) : EReal) * kw (ix3 0 w x),
    ← scaled_bias]
  exact congrArg (· + _) (scaled_dots (fun j => q (ix4 0 0 r ⟨64 * (1 : Fin 2).val + j.val, by omega⟩)) _)

/-! ## The block's results -/

section
variable (g : Fin 2 → Fin 128 → Fin 129 → EReal)

/-- The scores of a block are those of its band: the window of query `r` starts at key `r`. -/
structure Banded : Prop where
  in0 : ∀ (r : Fin 128) (u : Fin 129), dots q kw 0 r ⟨r.val + u.val, by omega⟩ + b0 (ix4 0 0 r ⟨r.val + u.val, by omega⟩) = g 0 r u
  in1 : ∀ (r : Fin 128) (u : Fin 129), dots q kw 1 r ⟨r.val + u.val, by omega⟩ + b1 (ix4 0 0 r ⟨r.val + u.val, by omega⟩) = g 1 r u
  out0 : ∀ (r : Fin 128) (w : Fin 256), ¬(r.val ≤ w.val ∧ w.val < r.val + 129) → dots q kw 0 r w + b0 (ix4 0 0 r w) = ⊥
  out1 : ∀ (r : Fin 128) (w : Fin 256), ¬(r.val ≤ w.val ∧ w.val < r.val + 129) → dots q kw 1 r w + b1 (ix4 0 0 r w) = ⊥

variable (hb : Banded q kw b0 b1 g)
include hb

/-- The weighted values of a block: its lanes are the features of the pair's two heads. -/
theorem numBlock_apply (r l : Fin 128) : numBlock q kw vw b0 b1 (ix4 0 0 r l)
    = ∑ u : Fin 129, Ideal.exp (g ⟨l.val / 64, by omega⟩ r u - Finset.univ.sup (g ⟨l.val / 64, by omega⟩ r))
        * vw (ix3 0 ⟨r.val + u.val, by omega⟩ l) := by
  pointwise [numBlock, k0_pay22, k0_pay18, k0_pay19, k0_pay17, k0_pay16, k0_pay15, k0_pay10, k0_pay11]
  rw [named_log2e]
  have e0 := row_num r.val (by omega) (fun w => k0_pay13 q kw b0 (ix2 r w)) _ (g 0 r) (first_apply q kw b0 r) (hb.in0 r) (hb.out0 r)
    (fun w => vw (ix3 0 w l))
  have e1 := row_num r.val (by omega) (fun w => k0_pay14 q kw (ix2 r w) + b1 (ix4 0 0 r w) * log2e) _ (g 1 r) (second_apply q kw b1 r)
    (hb.in1 r) (hb.out1 r) (fun w => vw (ix3 0 w l))
  by_cases hl : l.val < 64
  · have : (⟨l.val / 64, by omega⟩ : Fin 2) = 0 := Fin.ext (Nat.div_eq_of_lt hl)
    rw [this, low_lane ⟨l.val, hl⟩]
    exact (ValueIdx.select_one _ _).trans e0
  · have : (⟨l.val / 64, by omega⟩ : Fin 2) = 1 := Fin.ext (show l.val / 64 = 1 by omega)
    have hs : IntOp.cmpi .slt (BitVec.ofNat 32 l.val) 64#32 = 0#1 := by
      rw [show l.val = 64 + (l.val - 64) by omega]
      exact high_lane ⟨l.val - 64, by omega⟩
    rw [this, hs]
    exact (ValueIdx.select_zero _ _).trans e1

omit hb in
/-- The four lanes a pair of heads writes. -/
theorem lane_at (l : Fin 128) (p : Fin 8) :
    IntOp.cmpi .eq (BitVec.ofNat 32 l.val) (Scalar.muli 2#32 (BitVec.ofNat 32 p.val)) = (if l.val = 2 * p.val then 1#1 else 0#1)
      ∧ IntOp.cmpi .eq (BitVec.ofNat 32 l.val) (Scalar.addi (Scalar.muli 2#32 (BitVec.ofNat 32 p.val)) 1#32)
        = (if l.val = 2 * p.val + 1 then 1#1 else 0#1)
      ∧ IntOp.cmpi .eq (BitVec.ofNat 32 l.val) (Scalar.addi 16#32 (Scalar.muli 2#32 (BitVec.ofNat 32 p.val)))
        = (if l.val = 16 + 2 * p.val then 1#1 else 0#1)
      ∧ IntOp.cmpi .eq (BitVec.ofNat 32 l.val) (Scalar.addi (Scalar.addi 16#32 (Scalar.muli 2#32 (BitVec.ofNat 32 p.val))) 1#32)
        = (if l.val = 16 + 2 * p.val + 1 then 1#1 else 0#1) := by
  revert l p; decide +kernel

omit hb in
theorem select_if {P : Prop} [Decidable P] (x y : EReal) : Scalar.select (if P then 1#1 else 0#1) x y = if P then x else y := by
  split_ifs
  · exact ValueIdx.select_one x y
  · exact ValueIdx.select_zero x y

/-- The row statistics after a block: the pair's lanes, and the earlier contents elsewhere. -/
theorem statBlock_apply (p : Fin 8) (prev : Vec Ideal S1x1x128x128 .f32) (r l : Fin 128) :
    statBlock (BitVec.ofNat 32 p.val) q kw b0 b1 prev (ix4 0 0 r l)
      = if l.val / 2 = p.val then log2e * Finset.univ.sup (g ⟨l.val % 2, by omega⟩ r)
        else if l.val / 2 = 8 + p.val then
          ∑ u : Fin 129, Ideal.exp (g ⟨l.val % 2, by omega⟩ r u - Finset.univ.sup (g ⟨l.val % 2, by omega⟩ r))
        else prev (ix4 0 0 r l) := by
  pointwise [statBlock, k0_pay27, k0_pay26, k0_pay25, k0_pay24, k0_pay23, k0_pay16, k0_pay20, k0_pay21, k0_pay18, k0_pay17, k0_pay19, k0_pay15]
  rw [named_log2e]
  have h0 := fun r => first_apply q kw b0 r
  have h1 := fun r => second_apply q kw b1 r
  have t0 := row_top r.val (by omega) (fun w => k0_pay13 q kw b0 (ix2 r w)) _ (g 0 r) (h0 r) (hb.in0 r) (hb.out0 r)
  have t1 := row_top r.val (by omega) (fun w => k0_pay14 q kw (ix2 r w) + b1 (ix4 0 0 r w) * log2e) _ (g 1 r) (h1 r) (hb.in1 r) (hb.out1 r)
  have d0 := row_den r.val (by omega) (fun w => k0_pay13 q kw b0 (ix2 r w)) _ (g 0 r) (h0 r) (hb.in0 r) (hb.out0 r)
  have d1 := row_den r.val (by omega) (fun w => k0_pay14 q kw (ix2 r w) + b1 (ix4 0 0 r w) * log2e) _ (g 1 r) (h1 r) (hb.in1 r) (hb.out1 r)
  obtain ⟨l0, l1, l2, l3⟩ := lane_at l p
  rw [l0, l1, l2, l3]
  refine (select_if _ _).trans ?_
  by_cases c0 : l.val = 2 * p.val
  · rw [if_pos c0, if_pos (by omega), show (⟨l.val % 2, by omega⟩ : Fin 2) = 0 from Fin.ext (show l.val % 2 = 0 by omega)]
    exact t0
  rw [if_neg c0]
  refine (select_if _ _).trans ?_
  by_cases c1 : l.val = 2 * p.val + 1
  · rw [if_pos c1, if_pos (by omega), show (⟨l.val % 2, by omega⟩ : Fin 2) = 1 from Fin.ext (show l.val % 2 = 1 by omega)]
    exact t1
  rw [if_neg c1, if_neg (show ¬l.val / 2 = p.val by omega)]
  refine (select_if _ _).trans ?_
  by_cases c2 : l.val = 16 + 2 * p.val
  · rw [if_pos c2, if_pos (by omega), show (⟨l.val % 2, by omega⟩ : Fin 2) = 0 from Fin.ext (show l.val % 2 = 0 by omega)]
    exact d0
  rw [if_neg c2]
  refine (select_if _ _).trans ?_
  by_cases c3 : l.val = 16 + 2 * p.val + 1
  · rw [if_pos c3, if_pos (by omega), show (⟨l.val % 2, by omega⟩ : Fin 2) = 1 from Fin.ext (show l.val % 2 = 1 by omega)]
    exact d1
  rw [if_neg c3, if_neg (show ¬l.val / 2 = 8 + p.val by omega)]

end

end Cert.KernelIdeal.Value

end
-- ==== Proof.AttnSpec.lean ====
/- Banded attention of one head at one query, from the shared array of queries, keys and values and the table of bias rows:
   the 129 scores around the query, their maximum, the sum of their weights and the weighted values. -/
module

public import proofs.«01_k».proof.Proof.AttnMath
public import proofs.«01_k».proof.ReferenceIdeal

@[expose] public section

set_option maxRecDepth 16384

noncomputable section

namespace Cert.Attn

open Idealize.ShloMosaic Idealize.ShloMosaic.Pointwise

/-- Queries, keys and values side by side. -/
abbrev Att := (⟨4, ![8, 4, 512, 3072]⟩ : Shape).Idx → EReal

/-- One row of biases per bucket, one column per head. -/
abbrev Rel := (⟨2, ![32, 16]⟩ : Shape).Idx → EReal

/-- The bucket of the `u`-th key of the band around a query. -/
def bucket (u : Fin 129) : Fin 32 := ⟨min (Cert.ReferenceIdeal.lit0 ⟨64 + u.val, by omega⟩).toInt.toNat 31, by omega⟩

/-- Row `j` of the keys (`o = 1024`) or values (`o = 2048`) with 64 rows of zeros before and after. -/
def padded (att : Att) (o : ℕ) (ho : o ≤ 2048) (b : Fin 8) (d : Fin 4) (j : ℕ) (ch : Fin 1024) : EReal :=
  if h : 64 ≤ j ∧ j - 64 < 512 then att (ix4 b d ⟨j - 64, h.2⟩ ⟨o + ch.val, by omega⟩) else 0

/-- The channel of feature `e` of head `h`. -/
abbrev chan (h : Fin 16) (e : Fin 64) : Fin 1024 := ⟨h.val * 64 + e.val, by omega⟩

/-- The score of the `u`-th key of the band around query `l`; a key outside the sequence has none. -/
def score (att : Att) (rel : Rel) (b : Fin 8) (d : Fin 4) (l : Fin 512) (h : Fin 16) (u : Fin 129) : EReal :=
  if 64 ≤ l.val + u.val ∧ l.val + u.val - 64 < 512 then
    (∑ e : Fin 64, att (ix4 b d l ⟨(chan h e).val, by omega⟩) * padded att 1024 (by omega) b d (l.val + u.val) (chan h e)) * ((8⁻¹ : ℝ) : EReal)
      + rel (ix2 (bucket u) h)
  else ⊥

/-- The greatest score. -/
def top (att : Att) (rel : Rel) (b : Fin 8) (d : Fin 4) (l : Fin 512) (h : Fin 16) : EReal :=
  Finset.univ.sup (score att rel b d l h)

/-- The weight of the `u`-th key of the band. -/
def weight (att : Att) (rel : Rel) (b : Fin 8) (d : Fin 4) (l : Fin 512) (h : Fin 16) (u : Fin 129) : EReal :=
  Ideal.exp (score att rel b d l h u - top att rel b d l h)

/-- The sum of the weights. -/
def den (att : Att) (rel : Rel) (b : Fin 8) (d : Fin 4) (l : Fin 512) (h : Fin 16) : EReal := ∑ u, weight att rel b d l h u

/-- The head of a channel. -/
abbrev headOf (ch : Fin 1024) : Fin 16 := ⟨ch.val / 64, by omega⟩

/-- The weighted values of a channel. -/
def num (att : Att) (rel : Rel) (b : Fin 8) (d : Fin 4) (l : Fin 512) (ch : Fin 1024) : EReal :=
  ∑ u, weight att rel b d l (headOf ch) u * padded att 2048 (by omega) b d (l.val + u.val) ch

/-- The row statistics: the maxima in units of the logarithm of two, the sums of weights, and zeros. -/
def stat (att : Att) (rel : Rel) (b : Fin 8) (d : Fin 4) (l : Fin 512) (ln : Fin 128) : EReal :=
  if h : ln.val < 16 then log2e * top att rel b d l ⟨ln.val, h⟩
  else if h : ln.val - 16 < 16 then den att rel b d l ⟨ln.val - 16, h⟩
  else 0

end Cert.Attn

end
-- ==== Proof.AttnTake.lean ====
/- Taking rows of a table by an array of row numbers, read entry by entry: a row number is read signed and clamped into the
   table. -/
module

public import Idealize.ShloMosaic.Init
public import Idealize.ShloMosaic.Lib.Pointwise

@[expose] public section

noncomputable section

namespace Cert.Attn

open Idealize.ShloMosaic Idealize.ShloMosaic.Pointwise

variable {α : Type} {N C R K B w : Nat}

/-- Rows of a table by a matrix of row numbers. -/
theorem take_rows (hN : 0 < N)
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (r : Fin R) (k : Fin K) (h : Fin C) :
    Host.gather (⟨[2], [0], [], [], [0], 2, ![1, C], wf⟩ : GatherDims ⟨2, ![N, C]⟩ ⟨3, ![R, K, 1]⟩ ⟨3, ![R, K, C]⟩) x idx (ix3 r k h)
      = x (ix2 ⟨min (idx (ix3 r k 0)).toInt.toNat (N - 1), by omega⟩ h) := by
  unfold Host.gather
  congr 1
  funext a
  refine Fin.ext ?_
  match a with
  | ⟨0, _⟩ =>
    show GatherDims.start _ (ix3 r k h) idx 0 + 0 + 0 = min (idx (ix3 r k 0)).toInt.toNat (N - 1)
    unfold GatherDims.start
    rw [dif_pos (show (0 : Fin 2) ∈ [(0 : Fin 2)] from List.mem_singleton.mpr rfl)]
    refine congrArg (fun v => min (idx v).toInt.toNat (N - 1)) (funext fun b => Fin.ext ?_)
    match b with
    | ⟨0, _⟩ => rfl
    | ⟨1, _⟩ => rfl
    | ⟨2, _⟩ => rfl
  | ⟨1, _⟩ =>
    show 0 + 0 + h.val = h.val
    omega

/-- Rows of a table by a list of row numbers. -/
theorem take_rows2 (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (k : Fin B) (h : Fin C) :
    Host.gather (⟨[1], [0], [], [], [0], 1, ![1, C], wf⟩ : GatherDims ⟨2, ![N, C]⟩ ⟨2, ![B, 1]⟩ ⟨2, ![B, C]⟩) x idx (ix2 k h)
      = x (ix2 ⟨min (idx (ix2 k 0)).toInt.toNat (N - 1), by omega⟩ h) := by
  unfold Host.gather
  congr 1
  funext a
  refine Fin.ext ?_
  match a with
  | ⟨0, _⟩ =>
    show GatherDims.start _ (ix2 k h) idx 0 + 0 + 0 = min (idx (ix2 k 0)).toInt.toNat (N - 1)
    unfold GatherDims.start
    rw [dif_pos (show (0 : Fin 2) ∈ [(0 : Fin 2)] from List.mem_singleton.mpr rfl)]
    refine congrArg (fun v => min (idx v).toInt.toNat (N - 1)) (funext fun b => Fin.ext ?_)
    match b with
    | ⟨0, _⟩ => rfl
    | ⟨1, _⟩ => rfl
  | ⟨1, _⟩ =>
    show 0 + 0 + h.val = h.val
    omega

end Cert.Attn

end
-- ==== Proof.AttnBias.lean ====
/- The kernel's bias table read entry by entry: for each of the four edges of the sequence, each head and each query, the bias of
   a key of the band that lies in the sequence, and the least value for every other key. -/
module

public import proofs.«01_k».proof.Proof.AttnSpec
public import proofs.«01_k».proof.Proof.AttnTake
public import proofs.«01_k».proof.Proof.Gen.KernelIdeal.Value
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.ShloMosaic.Pointwise
open Cert.Attn

/-- A constant over a block of queries and its window. -/
abbrev allK (k : BitVec 32) : IVec S128x256 32 := broadcastInDim S128x256 ![] facts.bcast_S_S128x256 (constantI S_ 32 k)

/-- The offsets of a window's key from the query. -/
abbrev offK : IVec S128x256 32 := subi (subi (iotaInDim S128x256 32 1) (allK 64#32)) (iotaInDim S128x256 32 0)

/-- The band, cut to the keys from `lo` up to `hi`. -/
abbrev keepK (lo hi : BitVec 32) : IVec S128x256 1 :=
  andi (andi (cmpi .sle (absi offK) (allK 64#32)) (cmpi .sge (iotaInDim S128x256 32 1) (allK lo))) (cmpi .slt (iotaInDim S128x256 32 1) (allK hi))

/-- The four cuts of the band: neither edge, the first, the last, both. -/
def keeps : IVec S4x128x256 1 :=
  have one : IVec S128x256 1 → IVec S1x128x256 1 := broadcastInDim S1x128x256 ![1, 2] facts.bcast_S128x256_S1x128x256_1_2
  concatenate S4x128x256 0 [⟨S1x128x256, one (keepK 0#32 256#32)⟩, ⟨S1x128x256, one (keepK 64#32 256#32)⟩,
    ⟨S1x128x256, one (keepK 0#32 192#32)⟩, ⟨S1x128x256, one (keepK 64#32 192#32)⟩] facts.concatenates_S1x128x256_S1x128x256_S1x128x256_S1x128x256_S4x128x256_d0

/-- The first key of a cut, and the key after its last. -/
abbrev loOf (v : Fin 4) : ℕ := 64 * (v.val % 2)
abbrev hiOf (v : Fin 4) : ℕ := 256 - 64 * (v.val / 2)

theorem band_at (r : Fin 128) (w : Fin 256) :
    IntOp.cmpi .sle (IntOp.absi (IntOp.subi (IntOp.subi (BitVec.ofNat 32 w.val) 64#32) (BitVec.ofNat 32 r.val))) 64#32
      = if r.val ≤ w.val ∧ w.val ≤ r.val + 128 then 1#1 else 0#1 := by
  revert r w; decide +kernel

theorem keeps_apply (v : Fin 4) (r : Fin 128) (w : Fin 256) :
    keeps (ix3 v r w) = if (r.val ≤ w.val ∧ w.val ≤ r.val + 128) ∧ loOf v ≤ w.val ∧ w.val < hiOf v then 1#1 else 0#1 := by
  pointwise [keeps]
  simp only [band_at]
  by_cases P : r.val ≤ w.val ∧ w.val ≤ r.val + 128
  · simp only [P, and_self, if_true, true_and]
    clear P
    revert v w; decide +kernel
  · simp only [P, if_false, false_and]
    clear P
    revert v w; decide +kernel

/-- The rows of the bias table by offset. -/
def rowsK (rel : FVec Ideal S32x16 .f32) : FVec Ideal S384x16 .f32 :=
  Host.gather gather_S32x16_S384x1_S384x16_1_0_n_n_0_1_116 rel (broadcastInDim S384x1 ![0] facts.bcast_S384_S384x1_0
    (select (constantI S384 1 0#1) (addi (fun i => lit0 (S384.rowMajor i)) (broadcastInDim S384 ![] facts.bcast_S_S384 (constantI S_ 32 32#32)))
      (fun i => lit0 (S384.rowMajor i))))

theorem rowsK_apply (rel : FVec Ideal S32x16 .f32) (k : Fin 384) (h : Fin 16) :
    rowsK rel (ix2 k h) = rel (ix2 ⟨min (lit0 k).toInt.toNat 31, by omega⟩ h) := by
  refine (take_rows2 (by omega) _ rel _ k h).trans ?_
  pointwise []
  exact congrArg (fun j : Fin 384 => rel (ix2 ⟨min (lit0 j).toInt.toNat 31, by omega⟩ h)) (Fin.ext (rowMajor_val1 _) : S384.rowMajor (ix1 k) = k)

/-- The row numbers of a block of queries and its window. -/
def numbersK : IVec S128x256x1 32 :=
  broadcastInDim S128x256x1 ![0, 1] facts.bcast_S128x256_S128x256x1_0_1 (select (cmpi .slt (addi offK (allK 192#32)) (allK 0#32))
    (addi (addi offK (allK 192#32)) (allK 384#32)) (addi offK (allK 192#32)))

theorem numbersK_apply (r : Fin 128) (u : Fin 129) :
    min (numbersK (ix3 r ⟨r.val + u.val, by omega⟩ 0)).toInt.toNat 383 = 128 + u.val := by
  pointwise [numbersK]
  revert r u; decide +kernel

theorem pairsK_gather (x : FVec Ideal S384x16 .f32) (idx : IVec S128x256x1 32) (t : Fin 128) (w : Fin 256) (h : Fin 16) :
    Host.gather gather_S384x16_S128x256x1_S128x256x16_2_0_n_n_0_2_116 x idx (ix3 t w h)
      = x (ix2 ⟨min (idx (ix3 t w 0)).toInt.toNat 383, by omega⟩ h) :=
  take_rows (by omega) facts.gather_S384x16_S128x256x1_S128x256x16_2_0_n_n_0_2_116_wf x idx t w h

theorem rowsK_eq (v r : ℕ) (e : min v 383 = r) : (⟨min v 383, by omega⟩ : Fin 384) = ⟨r, by omega⟩ := Fin.ext e

/-- Both tables of buckets agree on the band. -/
theorem tables_agree (u : Fin 129) : lit0 ⟨128 + u.val, by omega⟩ = Cert.ReferenceIdeal.lit0 ⟨64 + u.val, by omega⟩ := by
  revert u; decide +kernel

/-- The biases of a block of queries and its window. -/
def pairsK (rel : FVec Ideal S32x16 .f32) : FVec Ideal S128x256x16 .f32 :=
  Host.gather gather_S384x16_S128x256x1_S128x256x16_2_0_n_n_0_2_116 (rowsK rel) numbersK

theorem pairsK_apply (rel : FVec Ideal S32x16 .f32) (r : Fin 128) (u : Fin 129) (h : Fin 16) :
    pairsK rel (ix3 r ⟨r.val + u.val, by omega⟩ h) = rel (ix2 (bucket u) h) := by
  unfold pairsK
  rw [pairsK_gather, rowsK_eq _ _ (numbersK_apply r u), rowsK_apply]
  unfold bucket
  simp only [tables_agree]

/-- The bias table. -/
def tableK (rel : FVec Ideal S32x16 .f32) : FVec Ideal S4x16x128x256 .f32 :=
  select (broadcastInDim S4x16x128x256 ![0, 1, 2, 3] facts.bcast_S4x1x128x256_S4x16x128x256_0_1_2_3
      (broadcastInDim S4x1x128x256 ![0, 2, 3] facts.bcast_S4x128x256_S4x1x128x256_0_2_3 keeps))
    (broadcastInDim S4x16x128x256 ![0, 1, 2, 3] facts.bcast_S1x16x128x256_S4x16x128x256_0_1_2_3
      (shapeCast S1x16x128x256 (transpose S16x128x256 [2, 0, 1] (pairsK rel) facts.transposes_S128x256x16_S16x128x256_2_0_1)
        facts.shapeCasts_S16x128x256_S1x16x128x256))
    (broadcastInDim S4x16x128x256 ![] facts.bcast_S_S4x16x128x256 (id (constant S_ .f32 0xFF800000#32)))

theorem tableK_apply (rel : FVec Ideal S32x16 .f32) (v : Fin 4) (h : Fin 16) (r : Fin 128) (w : Fin 256) :
    tableK rel (ix4 v h r w) = if (r.val ≤ w.val ∧ w.val ≤ r.val + 128) ∧ loOf v ≤ w.val ∧ w.val < hiOf v then pairsK rel (ix3 r w h) else ⊥ := by
  pointwise [tableK]
  rw [keeps_apply]
  split_ifs with g
  · exact ValueIdx.select_one _ _
  · refine (ValueIdx.select_zero _ _).trans ?_
    show Ideal.ofBits FTy.f32 4286578688#32 = ⊥
    simp [Ideal.ofBits, Ideal.ieee]

theorem tableK_in (rel : FVec Ideal S32x16 .f32) (v : Fin 4) (h : Fin 16) (r : Fin 128) (u : Fin 129) :
    tableK rel (ix4 v h r ⟨r.val + u.val, by omega⟩)
      = if loOf v ≤ r.val + u.val ∧ r.val + u.val < hiOf v then rel (ix2 (bucket u) h) else ⊥ := by
  rw [tableK_apply, pairsK_apply]
  exact if_congr (by simp only; omega) rfl rfl

theorem tableK_out (rel : FVec Ideal S32x16 .f32) (v : Fin 4) (h : Fin 16) (r : Fin 128) (w : Fin 256)
    (hw : ¬(r.val ≤ w.val ∧ w.val < r.val + 129)) : tableK rel (ix4 v h r w) = ⊥ := by
  rw [tableK_apply, if_neg (by omega)]

end Cert.KernelIdeal.Value

end
-- ==== Proof.AttnPoint.lean ====
/- What the attention kernel leaves at one grid point: the weighted values and the row statistics of one sequence, entry by
   entry. -/
module

public import proofs.«01_k».proof.Proof.AttnBlock
public import proofs.«01_k».proof.Proof.AttnBias

@[expose] public section

set_option maxRecDepth 16384

noncomputable section

namespace Cert.KernelIdeal.Value

open Cert.KernelIdeal Cert.KernelIdeal.Gen Idealize.ShloMosaic Idealize.ShloMosaic.TcCoe Idealize.ShloMosaic.Tactic Idealize.ShloMosaic.Pointwise
open Cert.Attn

/-! ## The padded keys and values -/

/-- `n` rows from row `o` of the padded array. -/
abbrev rectP (o n : ℕ) (h : o + n ≤ 640) : Rect S1x640x1024 :=
  Rect.unit ![0, o, 0] ![1, n, 1024]
    (by intro a; match a with
      | ⟨0, _⟩ => show 0 + 1 ≤ 1; omega
      | ⟨1, _⟩ => show o + n ≤ 640; omega
      | ⟨2, _⟩ => show 0 + 1024 ≤ 1024; omega)

/-- The whole block of keys or values. -/
abbrev rectW : Rect S1x1x512x1024 :=
  Rect.unit ![0, 0, 0, 0] S1x1x512x1024.size
    (by intro a; match a with
      | ⟨0, _⟩ => show 0 + 1 ≤ 1; omega
      | ⟨1, _⟩ => show 0 + 1 ≤ 1; omega
      | ⟨2, _⟩ => show 0 + 512 ≤ 512; omega
      | ⟨3, _⟩ => show 0 + 1024 ≤ 1024; omega)

variable (c : Dev nD) (i : grid0.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S4x16x128x256 .f32) (harg6 : arg6.IsWhole) (arg7 : Memref sig .tc .vmem S1x1x512x1024 .f32) (harg7 : arg7.IsWhole) (arg8 : Memref sig .tc .vmem S1x1x512x128 .f32) (harg8 : arg8.IsWhole) (arg9 : Memref sig .tc .vmem S1x640x1024 .bf16) (harg9 : arg9.IsWhole) (arg10 : Memref sig .tc .vmem S1x640x1024 .bf16) (harg10 : arg10.IsWhole) (hc0 : cond0_0 i)
    (x0 : Vec Ideal S1x1x512x1024 .bf16) (x1 : Vec Ideal S1x1x512x1024 .bf16) (x2 : Vec Ideal S1x1x512x1024 .bf16) (x3 : Vec Ideal S4x16x128x256 .f32)

/-- The stores of the padded array: zeros before and after, and the block between. -/
abbrev padStores (z0 z1 : Vec Ideal S1x64x1024 .bf16) (x : Vec Ideal S1x512x1024 .bf16) : List (View.Piece (Elt Ideal) S1x640x1024 .bf16) :=
  [⟨rectP 64 512 (by omega), x⟩, ⟨rectP 576 64 (by omega), z1⟩, ⟨rectP 0 64 (by omega), z0⟩]

theorem keys_stores : kernelRun0_A.sl.HS0_3 c arg4 harg4 x1
    = padStores (k0_pay3 (F := Ideal)) (k0_pay5 (F := Ideal)) (k0_pay7 (View.readAt (Elt Ideal) arg4.view rectW.toLoadRect (harg4.unread x1))) := by
  rfl

theorem values_stores : kernelRun0_A.sl.HS1_3 c arg5 harg5 x2
    = padStores (k0_pay4 (F := Ideal)) (k0_pay6 (F := Ideal)) (k0_pay8 (View.readAt (Elt Ideal) arg5.view rectW.toLoadRect (harg5.unread x2))) := by
  rfl

/-- A row of the padded array of a block. -/
def padRow (x : Vec Ideal S1x1x512x1024 .bf16) (j : ℕ) (ch : Fin 1024) : EReal :=
  if h : 64 ≤ j ∧ j - 64 < 512 then x (ix4 0 0 ⟨j - 64, h.2⟩ ch) else 0

/-- An index of a stack of rows. -/
theorem eq_row {n : ℕ} (z : (⟨3, ![1, n, 1024]⟩ : Shape).Idx) : z = ix3 (0 : Fin 1) (z 1) (z 2) := by
  funext a; apply Fin.ext
  match a with
  | ⟨0, _⟩ => exact Nat.lt_one_iff.1 (z 0).isLt
  | ⟨1, _⟩ | ⟨2, _⟩ => rfl

theorem padRow_at (x : Vec Ideal S1x1x512x1024 .bf16) (o n : ℕ) (h : o + n ≤ 640) (z : (rectP o n h).shape.Idx) :
    padRow x ((rectP o n h).emb z 1).val ((rectP o n h).emb z 2) = padRow x (o + (z 1).val) (z 2) := by
  congr 1
  · show o + 1 * (z 1).val = _
    omega
  · exact Fin.ext (show 0 + 1 * (z 2).val = (z 2).val by omega)

theorem mem_rectP (o n : ℕ) (h : o + n ≤ 640) (j : Fin 640) (ch : Fin 1024) (lo : o ≤ j.val) (hi : j.val < o + n) :
    (ix3 0 j ch : S1x640x1024.Idx) ∈ (rectP o n h).set := by
  refine Rect.mem_set_unit.2 fun a => ?_
  match a with
  | ⟨0, _⟩ => exact ⟨Nat.zero_le _, Nat.zero_lt_one⟩
  | ⟨1, _⟩ => exact ⟨lo, hi⟩
  | ⟨2, _⟩ => exact ⟨Nat.zero_le _, show ch.val < 0 + 1024 by omega⟩

theorem padStores_apply (z0 z1 : Vec Ideal S1x64x1024 .bf16) (x : Vec Ideal S1x1x512x1024 .bf16) (y : Vec Ideal S1x512x1024 .bf16)
    (h0 : ∀ r ch, z0 (ix3 0 r ch) = 0) (h1 : ∀ r ch, z1 (ix3 0 r ch) = 0) (hx : ∀ r ch, y (ix3 0 r ch) = x (ix4 0 0 r ch))
    (j : Fin 640) (ch : Fin 1024) : View.canon (padStores z0 z1 y) (ix3 0 j ch) = padRow x j.val ch := by
  refine View.canon_apply_of_pieces (Val := Elt Ideal) (e := .bf16) (fun y : S1x640x1024.Idx => padRow x (y 1).val (y 2)) _ ?_ _ ?_
  · intro p hp
    simp only [List.mem_cons, List.not_mem_nil, or_false] at hp
    rcases hp with rfl | rfl | rfl
    · intro z
      refine Eq.trans ?_ (padRow_at x 64 512 (by omega) z).symm
      unfold padRow
      rw [dif_pos ⟨by omega, by have : (z 1).val < 512 := (z 1).isLt; omega⟩]
      refine (congrArg y (eq_row z)).trans ((hx (z 1) (z 2)).trans ?_)
      exact congrArg (fun k : Fin 512 => x (ix4 0 0 k (z 2))) (Fin.ext (by simp))
    · intro z
      refine Eq.trans ?_ (padRow_at x 576 64 (by omega) z).symm
      unfold padRow
      rw [dif_neg (by omega)]
      exact (congrArg z1 (eq_row z)).trans (h1 (z 1) (z 2))
    · intro z
      refine Eq.trans ?_ (padRow_at x 0 64 (by omega) z).symm
      unfold padRow
      rw [dif_neg (by have : (z 1).val < 64 := (z 1).isLt; omega)]
      exact (congrArg z0 (eq_row z)).trans (h0 (z 1) (z 2))
  · by_cases a0 : j.val < 64
    · exact ⟨_, List.mem_cons_of_mem _ (List.mem_cons_of_mem _ List.mem_cons_self), mem_rectP 0 64 (by omega) j ch (Nat.zero_le _) (by omega)⟩
    · by_cases a1 : j.val < 576
      · exact ⟨_, List.mem_cons_self, mem_rectP 64 512 (by omega) j ch (by omega) (by omega)⟩
      · exact ⟨_, List.mem_cons_of_mem _ List.mem_cons_self, mem_rectP 576 64 (by omega) j ch (by omega) (by omega)⟩

/-- A window of the padded array. -/
theorem window_apply (v : View sig .tc .vmem S1x640x1024 .bf16) (z0 z1 : Vec Ideal S1x64x1024 .bf16) (x : Vec Ideal S1x1x512x1024 .bf16) (y : Vec Ideal S1x512x1024 .bf16)
    (h0 : ∀ r ch, z0 (ix3 0 r ch) = 0) (h1 : ∀ r ch, z1 (ix3 0 r ch) = 0) (hx : ∀ r ch, y (ix3 0 r ch) = x (ix4 0 0 r ch))
    (b : Fin 4) (p : Fin 8) (w : Fin 256) (l : Fin 128) :
    v.readCov (padStores z0 z1 y) (rectK b p).toLoadRect (ix3 0 w l) = padRow x (128 * b.val + w.val) ⟨128 * p.val + l.val, by omega⟩ := by
  rw [View.readCov_eq_canon']
  refine Eq.trans ?_ (padStores_apply z0 z1 x y h0 h1 hx ⟨128 * b.val + w.val, by omega⟩ ⟨128 * p.val + l.val, by omega⟩)
  refine congrArg (View.canon (padStores z0 z1 y)) (funext fun a => Fin.ext ?_)
  match a with
  | ⟨0, _⟩ => rfl
  | ⟨1, _⟩ => show 128 * b.val + 1 * w.val = 128 * b.val + w.val; omega
  | ⟨2, _⟩ => show 128 * p.val + 1 * l.val = 128 * p.val + l.val; omega

theorem block_apply (v : Memref sig .tc .vmem S1x1x512x1024 .bf16) (hv : v.IsWhole) (x : Vec Ideal S1x1x512x1024 .bf16) (r : Fin 512) (ch : Fin 1024) :
    View.readAt (Elt Ideal) v.view rectW.toLoadRect (hv.unread x) (ix4 0 0 r ch) = x (ix4 0 0 r ch) := by
  rw [View.readAt_eq_ld, hv.read_unread]
  refine congrArg x (funext fun a => Fin.ext ?_)
  match a with
  | ⟨0, _⟩ => rfl
  | ⟨1, _⟩ => rfl
  | ⟨2, _⟩ => show 0 + 1 * r.val = r.val; omega
  | ⟨3, _⟩ => show 0 + 1 * ch.val = ch.val; omega

theorem keys_apply (b : Fin 4) (p : Fin 8) (w : Fin 256) (l : Fin 128) :
    arg9.view.readCov (kernelRun0_A.sl.HS0_3 c arg4 harg4 x1) (rectK b p).toLoadRect (ix3 0 w l)
      = padRow x1 (128 * b.val + w.val) ⟨128 * p.val + l.val, by omega⟩ := by
  rw [keys_stores]
  refine window_apply arg9.view _ _ x1 _ (fun r ch => ?_) (fun r ch => ?_) (fun r ch => ?_) b p w l
  · pointwise [k0_pay3, k0_pay2]
  · pointwise [k0_pay5, k0_pay2]
  · refine Eq.trans ?_ (block_apply arg4 harg4 x1 r ch)
    pointwise [k0_pay7]

theorem values_apply (b : Fin 4) (p : Fin 8) (w : Fin 256) (l : Fin 128) :
    arg10.view.readCov (kernelRun0_A.sl.HS1_3 c arg5 harg5 x2) (rectK b p).toLoadRect (ix3 0 w l)
      = padRow x2 (128 * b.val + w.val) ⟨128 * p.val + l.val, by omega⟩ := by
  rw [values_stores]
  refine window_apply arg10.view _ _ x2 _ (fun r ch => ?_) (fun r ch => ?_) (fun r ch => ?_) b p w l
  · pointwise [k0_pay4, k0_pay2]
  · pointwise [k0_pay6, k0_pay2]
  · refine Eq.trans ?_ (block_apply arg5 harg5 x2 r ch)
    pointwise [k0_pay8]

theorem queries_apply (b : Fin 4) (p : Fin 8) (r l : Fin 128) :
    View.readAt (Elt Ideal) arg3.view (rectQ b p).toLoadRect (harg3.unread x0) (ix4 0 0 r l)
      = x0 (ix4 0 0 ⟨128 * b.val + r.val, by omega⟩ ⟨128 * p.val + l.val, by omega⟩) := by
  rw [View.readAt_eq_ld, harg3.read_unread]
  refine congrArg x0 (funext fun a => Fin.ext ?_)
  match a with
  | ⟨0, _⟩ => rfl
  | ⟨1, _⟩ => rfl
  | ⟨2, _⟩ => show 128 * b.val + 1 * r.val = 128 * b.val + r.val; omega
  | ⟨3, _⟩ => show 128 * p.val + 1 * l.val = 128 * p.val + l.val; omega

theorem biases_apply (b : Fin 4) (p : Fin 8) (e : Fin 2) (r : Fin 128) (w : Fin 256) :
    View.readAt (Elt Ideal) arg6.view (rectB b p e).toLoadRect (harg6.unread x3) (ix4 0 0 r w)
      = x3 (ix4 (varOf b) ⟨2 * p.val + e.val, by omega⟩ r w) := by
  rw [View.readAt_eq_ld, harg6.read_unread]
  refine congrArg x3 (funext fun a => Fin.ext ?_)
  match a with
  | ⟨0, _⟩ => rfl
  | ⟨1, _⟩ => rfl
  | ⟨2, _⟩ => show 0 + 1 * r.val = r.val; omega
  | ⟨3, _⟩ => show 0 + 1 * w.val = w.val; omega

/-! ## One store -/

/-- Channel `ch` of the queries, of the keys and of the values in the shared array. -/
abbrev queryAt (ch : Fin 1024) : Fin 3072 := ⟨ch.val, by omega⟩
abbrev keyAt (ch : Fin 1024) : Fin 3072 := ⟨1024 + ch.val, by omega⟩
abbrev valueAt (ch : Fin 1024) : Fin 3072 := ⟨2048 + ch.val, by omega⟩

section
variable (att : Att) (rel : Rel) (bb : Fin 8) (d : Fin 4)
  (hq : ∀ l ch, x0 (ix4 0 0 l ch) = att (ix4 bb d l (queryAt ch)))
  (hk : ∀ l ch, x1 (ix4 0 0 l ch) = att (ix4 bb d l (keyAt ch)))
  (hv : ∀ l ch, x2 (ix4 0 0 l ch) = att (ix4 bb d l (valueAt ch)))
  (h3 : ∀ v h r w, x3 (ix4 v h r w) = tableK rel (ix4 v h r w))

include hk in
theorem padRow_keys (j : ℕ) (ch : Fin 1024) : padRow x1 j ch = padded att 1024 (by omega) bb d j ch := by
  unfold padRow padded
  split_ifs
  · exact hk _ _
  · rfl

include hv in
theorem padRow_values (j : ℕ) (ch : Fin 1024) : padRow x2 j ch = padded att 2048 (by omega) bb d j ch := by
  unfold padRow padded
  split_ifs
  · exact hv _ _
  · rfl

/-- The scores of block `b` for the pair `p`. -/
abbrev blockScores (b : Fin 4) (p : Fin 8) (e : Fin 2) (r : Fin 128) : Fin 129 → EReal :=
  score att rel bb d ⟨128 * b.val + r.val, by omega⟩ ⟨2 * p.val + e.val, by omega⟩

include hq hk in
theorem dots_apply (b : Fin 4) (p : Fin 8) (e : Fin 2) (r : Fin 128) (w : Fin 256) :
    dots (View.readAt (Elt Ideal) arg3.view (rectQ b p).toLoadRect (harg3.unread x0))
        (arg9.view.readCov (kernelRun0_A.sl.HS0_3 c arg4 harg4 x1) (rectK b p).toLoadRect) e r w
      = (∑ j : Fin 64, att (ix4 bb d ⟨128 * b.val + r.val, by omega⟩ ⟨(chan ⟨2 * p.val + e.val, by omega⟩ j).val, by omega⟩)
          * padded att 1024 (by omega) bb d (128 * b.val + w.val) (chan ⟨2 * p.val + e.val, by omega⟩ j)) * ((8⁻¹ : ℝ) : EReal) := by
  unfold dots
  refine congrArg (· * _) (Finset.sum_congr rfl fun j _ => ?_)
  have hc : ∀ h, (⟨128 * p.val + (64 * e.val + j.val), h⟩ : Fin 1024) = chan ⟨2 * p.val + e.val, by omega⟩ j :=
    fun h => Fin.ext (show 128 * p.val + (64 * e.val + j.val) = (2 * p.val + e.val) * 64 + j.val by ring)
  rw [queries_apply, keys_apply, padRow_keys x1 att bb d hk, hq, hc]

/-- A key of the band is inside the sequence when block `b`'s table keeps it. -/
theorem inside_iff (b : Fin 4) (r : Fin 128) (u : Fin 129) : (loOf (varOf b) ≤ r.val + u.val ∧ r.val + u.val < hiOf (varOf b))
    ↔ (64 ≤ 128 * b.val + r.val + u.val ∧ 128 * b.val + r.val + u.val - 64 < 512) := by
  have h : ∀ b : Fin 4, loOf (varOf b) = (if b.val = 0 then 64 else 0) ∧ hiOf (varOf b) = (if b.val = 3 then 192 else 256) := by decide
  rw [(h b).1, (h b).2]
  split_ifs <;> omega

include hq hk h3 in
theorem scores_band (b : Fin 4) (p : Fin 8) (e : Fin 2) (r : Fin 128) (u : Fin 129) :
    dots (View.readAt (Elt Ideal) arg3.view (rectQ b p).toLoadRect (harg3.unread x0))
        (arg9.view.readCov (kernelRun0_A.sl.HS0_3 c arg4 harg4 x1) (rectK b p).toLoadRect) e r ⟨r.val + u.val, by omega⟩
      + View.readAt (Elt Ideal) arg6.view (rectB b p e).toLoadRect (harg6.unread x3) (ix4 0 0 r ⟨r.val + u.val, by omega⟩)
      = blockScores att rel bb d b p e r u := by
  rw [dots_apply c arg3 harg3 arg4 harg4 arg9 x0 x1 att bb d hq hk, biases_apply, h3, tableK_in]
  unfold blockScores score
  by_cases g : loOf (varOf b) ≤ r.val + u.val ∧ r.val + u.val < hiOf (varOf b)
  · rw [if_pos g, if_pos ((inside_iff b r u).1 g)]
    simp only [← Nat.add_assoc]
  · rw [if_neg g, if_neg (fun h => g ((inside_iff b r u).2 h)), EReal.add_bot]

include h3 in
theorem scores_off (b : Fin 4) (p : Fin 8) (e : Fin 2) (r : Fin 128) (w : Fin 256) (hw : ¬(r.val ≤ w.val ∧ w.val < r.val + 129)) (x : EReal) :
    x + View.readAt (Elt Ideal) arg6.view (rectB b p e).toLoadRect (harg6.unread x3) (ix4 0 0 r w) = ⊥ := by
  rw [biases_apply, h3, tableK_out _ _ _ _ _ hw, EReal.add_bot]

include hq hk h3 in
theorem banded (b : Fin 4) (p : Fin 8) : Banded (View.readAt (Elt Ideal) arg3.view (rectQ b p).toLoadRect (harg3.unread x0))
    (arg9.view.readCov (kernelRun0_A.sl.HS0_3 c arg4 harg4 x1) (rectK b p).toLoadRect)
    (View.readAt (Elt Ideal) arg6.view (rectB b p 0).toLoadRect (harg6.unread x3))
    (View.readAt (Elt Ideal) arg6.view (rectB b p 1).toLoadRect (harg6.unread x3)) (blockScores att rel bb d b p) where
  in0 := scores_band c arg3 harg3 arg4 harg4 arg6 harg6 arg9 x0 x1 x3 att rel bb d hq hk h3 b p 0
  in1 := scores_band c arg3 harg3 arg4 harg4 arg6 harg6 arg9 x0 x1 x3 att rel bb d hq hk h3 b p 1
  out0 := fun r w hw => scores_off arg6 harg6 x3 rel h3 b p 0 r w hw _
  out1 := fun r w hw => scores_off arg6 harg6 x3 rel h3 b p 1 r w hw _

include hq hk hv h3 in
/-- The weighted values one store writes. -/
theorem numPiece_apply (b : Fin 4) (p : Fin 8) (r l : Fin 128) :
    (numPiece c arg3 harg3 arg4 harg4 arg5 harg5 arg6 harg6 arg9 arg10 x0 x1 x2 x3 b p).2 (ix4 0 0 r l)
      = num att rel bb d ⟨128 * b.val + r.val, by omega⟩ ⟨128 * p.val + l.val, by omega⟩ := by
  refine (numBlock_apply _ _ _ _ _ _ (banded c arg3 harg3 arg4 harg4 arg6 harg6 arg9 x0 x1 x3 att rel bb d hq hk h3 b p) r l).trans ?_
  refine Finset.sum_congr rfl fun u _ => ?_
  rw [values_apply, padRow_values x2 att bb d hv]
  have hh : headOf ⟨128 * p.val + l.val, by omega⟩ = ⟨2 * p.val + (⟨l.val / 64, by omega⟩ : Fin 2).val, by omega⟩ :=
    Fin.ext (show (128 * p.val + l.val) / 64 = 2 * p.val + l.val / 64 by omega)
  rw [hh]
  simp only [← Nat.add_assoc]
  rfl

include hq hk hv h3 in
/-- The weighted values the point leaves. -/
theorem out_num (l : Fin 512) (ch : Fin 1024) :
    out0_A_4 c i arg3 harg3 arg4 harg4 arg5 harg5 arg6 harg6 arg7 harg7 arg8 harg8 arg9 harg9 arg10 harg10 hc0 x0 x1 x2 x3 (ix4 0 0 l ch)
      = num att rel bb d l ch := by
  unfold out0_A_4
  rw [View.read_writes_eq_canon _ _ _ (cover0_A_4 c i arg3 harg3 arg4 harg4 arg5 harg5 arg6 harg6 arg7 harg7 arg8 harg8 arg9 harg9 arg10 harg10 hc0 x0 x1 x2 x3)]
  refine View.canon_apply_of_pieces (Val := Elt Ideal) (e := .f32) (fun y : S1x1x512x1024.Idx => num att rel bb d (y 2) (y 3)) _ ?_ _
    (cover0_A_4 c i arg3 harg3 arg4 harg4 arg5 harg5 arg6 harg6 arg7 harg7 arg8 harg8 arg9 harg9 arg10 harg10 hc0 x0 x1 x2 x3 _)
  rw [num_pieces]
  intro q hq'
  obtain ⟨⟨p, b⟩, _, rfl⟩ := List.mem_map.1 hq'
  intro z
  have hz : z = ix4 (0 : Fin 1) (0 : Fin 1) (z 2) (z 3) := by
    funext a; apply Fin.ext
    match a with
    | ⟨0, _⟩ => exact Nat.lt_one_iff.1 (z 0).isLt
    | ⟨1, _⟩ => exact Nat.lt_one_iff.1 (z 1).isLt
    | ⟨2, _⟩ | ⟨3, _⟩ => rfl
  refine (congrArg _ hz).trans ((numPiece_apply c arg3 harg3 arg4 harg4 arg5 harg5 arg6 harg6 arg9 arg10 x0 x1 x2 x3 att rel bb d hq hk hv h3
    b p (z 2) (z 3)).trans ?_)
  refine congrArg₂ (num att rel bb d) (Fin.ext ?_) (Fin.ext ?_)
  · show 128 * b.val + (z 2).val = 128 * b.val + 1 * (z 2).val
    omega
  · show 128 * p.val + (z 3).val = 128 * p.val + 1 * (z 3).val
    omega

/-! ## The row statistics -/

/-- The statistics a list of steps has written: the steps' rows and columns, zeros elsewhere. -/
def statAfter (l : List (Fin 8 × Fin 4)) (row : Fin 512) (ln : Fin 128) : EReal :=
  if ln.val < 32 ∧ ((⟨ln.val % 16 / 2, by omega⟩ : Fin 8), (⟨row.val / 128, by omega⟩ : Fin 4)) ∈ l then stat att rel bb d row ln else 0

/-- A column of the statistics belongs to a head pair's maxima or sums. -/
theorem stat_columns (p : Fin 8) (b : Fin 4) (r l : Fin 128) :
    stat att rel bb d ⟨128 * b.val + r.val, by omega⟩ l
      = if l.val / 2 = p.val then log2e * Finset.univ.sup (blockScores att rel bb d b p ⟨l.val % 2, by omega⟩ r)
        else if l.val / 2 = 8 + p.val then
          ∑ u : Fin 129, Ideal.exp (blockScores att rel bb d b p ⟨l.val % 2, by omega⟩ r u
            - Finset.univ.sup (blockScores att rel bb d b p ⟨l.val % 2, by omega⟩ r))
        else stat att rel bb d ⟨128 * b.val + r.val, by omega⟩ l := by
  split_ifs with h0 h1
  · have hh : ∀ h, (⟨l.val, h⟩ : Fin 16) = ⟨2 * p.val + (⟨l.val % 2, by omega⟩ : Fin 2).val, by omega⟩ :=
      fun h => Fin.ext (show l.val = 2 * p.val + l.val % 2 by omega)
    unfold stat
    rw [dif_pos (show l.val < 16 by omega), hh]
    rfl
  · have hh : ∀ h, (⟨l.val - 16, h⟩ : Fin 16) = ⟨2 * p.val + (⟨l.val % 2, by omega⟩ : Fin 2).val, by omega⟩ :=
      fun h => Fin.ext (show l.val - 16 = 2 * p.val + l.val % 2 by omega)
    unfold stat
    rw [dif_neg (show ¬l.val < 16 by omega), dif_pos (show l.val - 16 < 16 by omega), hh]
    rfl
  · rfl

theorem zero_f32 : (Scalar.ofBits (F := Ideal) .f32 0x00000000#32 : EReal) = 0 := by
  show Ideal.ofBits FTy.f32 0#32 = 0
  simp [Ideal.ofBits, Ideal.ieee]

/-- Row `r` of block `b`. -/
abbrev rowOf (b : Fin 4) (r : Fin 128) : Fin 512 := ⟨128 * b.val + r.val, by omega⟩

/-- The rows of block `b` in the statistics. -/
theorem rectS_at (b : Fin 4) (r l : Fin 128) :
    (rectS b).emb (ix4 0 0 r l) = (ix4 0 0 (⟨128 * b.val + r.val, by omega⟩ : Fin 512) l : S1x1x512x128.Idx) := by
  funext a; apply Fin.ext
  match a with
  | ⟨0, _⟩ | ⟨1, _⟩ => rfl
  | ⟨2, _⟩ => show 128 * b.val + 1 * r.val = 128 * b.val + r.val; omega
  | ⟨3, _⟩ => show 0 + 1 * l.val = l.val; omega

theorem statPiece_rect (b : Fin 4) (p : Fin 8) (L : List (View.Piece (Elt Ideal) S1x1x512x128 .f32)) :
    (statPiece c i arg3 harg3 arg4 harg4 arg6 harg6 arg8 arg9 x0 x1 x3 b p L).1 = rectS b := rfl

include hq hk h3 in
theorem stat_canon (hi : ∀ p : Fin 8, Scalar.addi (kernelRun0_A.sl.v29 i) (BitVec.ofNat 32 p.val) = BitVec.ofNat 32 p.val)
    (l : List (Fin 8 × Fin 4)) (row : Fin 512) (ln : Fin 128) :
    View.canon (statList c i arg3 harg3 arg4 harg4 arg6 harg6 arg8 arg9 x0 x1 x3 l) (ix4 0 0 row ln) = statAfter att rel bb d l row ln := by
  induction l generalizing row ln with
  | nil =>
    have h : (Rect.unit ![0, 0, 0, 0] S1x1x512x128.size inb_S1x1x512x128_S1x1x512x128_0_0_0_0).emb (ix4 0 0 row ln)
        = (ix4 0 0 row ln : S1x1x512x128.Idx) := by
      funext a; apply Fin.ext
      match a with
      | ⟨0, _⟩ | ⟨1, _⟩ => rfl
      | ⟨2, _⟩ => show 0 + 1 * row.val = row.val; omega
      | ⟨3, _⟩ => show 0 + 1 * ln.val = ln.val; omega
    rw [statAfter, if_neg (fun h => List.not_mem_nil h.2)]
    refine (congrArg _ h.symm).trans ((View.canon_cons_emb _ _ _ _).trans ?_)
    exact zero_f32
  | cons s l ih =>
    obtain ⟨p, b⟩ := s
    show View.canon (statPiece c i arg3 harg3 arg4 harg4 arg6 harg6 arg8 arg9 x0 x1 x3 b p
      (statList c i arg3 harg3 arg4 harg4 arg6 harg6 arg8 arg9 x0 x1 x3 l) :: statList c i arg3 harg3 arg4 harg4 arg6 harg6 arg8 arg9 x0 x1 x3 l) _ = _
    by_cases hb : row.val / 128 = b.val
    · obtain ⟨r, hr⟩ : ∃ r : Fin 128, row = rowOf b r :=
        ⟨⟨row.val - 128 * b.val, by omega⟩, Fin.ext (show row.val = 128 * b.val + (row.val - 128 * b.val) by omega)⟩
      subst hr
      refine (congrArg _ (rectS_at b r ln).symm).trans ((View.canon_cons_emb _ _ _ _).trans ?_)
      show statBlock (Scalar.addi (kernelRun0_A.sl.v29 i) (BitVec.ofNat 32 p.val)) _ _ _ _ _ _ = _
      rw [hi p]
      refine (statBlock_apply _ _ _ _ _ (banded c arg3 harg3 arg4 harg4 arg6 harg6 arg9 x0 x1 x3 att rel bb d hq hk h3 b p) p _ r ln).trans ?_
      have hprev : View.readCov arg8.view (statList c i arg3 harg3 arg4 harg4 arg6 harg6 arg8 arg9 x0 x1 x3 l) (rectS b).toLoadRect (ix4 0 0 r ln)
          = statAfter att rel bb d l ⟨128 * b.val + r.val, by omega⟩ ln := by
        rw [View.readCov_eq_canon']
        exact (congrArg _ (rectS_at b r ln)).trans (ih _ _)
      rw [hprev]
      have hbb : (⟨(128 * b.val + r.val) / 128, by omega⟩ : Fin 4) = b := Fin.ext hb
      unfold statAfter
      by_cases hm : ln.val < 32 ∧ (⟨ln.val % 16 / 2, by omega⟩ : Fin 8) = p
      · rw [if_pos (show ln.val < 32 ∧ _ ∈ (p, b) :: l from ⟨hm.1, by rw [hm.2, hbb]; exact List.mem_cons_self⟩), stat_columns att rel bb d p b r ln]
        have hp : ln.val % 16 / 2 = p.val := congrArg Fin.val hm.2
        split_ifs <;> first | rfl | omega
      · have hp : ¬(ln.val < 32 ∧ ln.val % 16 / 2 = p.val) := fun h => hm ⟨h.1, Fin.ext h.2⟩
        rw [if_neg (show ¬ln.val / 2 = p.val by omega), if_neg (show ¬ln.val / 2 = 8 + p.val by omega)]
        refine if_congr (and_congr_right fun h32 => ?_) rfl rfl
        rw [List.mem_cons]
        exact ⟨Or.inr, fun h => h.resolve_left fun h => hm ⟨h32, congrArg Prod.fst h⟩⟩
    · have hn : (ix4 0 0 row ln : S1x1x512x128.Idx) ∉ (statPiece c i arg3 harg3 arg4 harg4 arg6 harg6 arg8 arg9 x0 x1 x3 b p
          (statList c i arg3 harg3 arg4 harg4 arg6 harg6 arg8 arg9 x0 x1 x3 l)).1.set := by
        rw [statPiece_rect]
        intro h
        have h2 := (Rect.mem_set_unit.1 h) 2
        have h0 : 128 * b.val ≤ row.val := h2.1
        have h1 : row.val < 128 * b.val + 128 := h2.2
        exact hb (by omega)
      refine (View.canon_cons_of_not_mem _ _ hn).trans ((ih row ln).trans ?_)
      unfold statAfter
      refine if_congr (and_congr_right fun _ => ?_) rfl rfl
      rw [List.mem_cons]
      exact ⟨Or.inr, fun h => h.resolve_left fun h => hb (congrArg (fun s : Fin 8 × Fin 4 => s.2.val) h)⟩

include hq hk h3 in
/-- The row statistics the point leaves. -/
theorem out_stat (hi : ∀ p : Fin 8, Scalar.addi (kernelRun0_A.sl.v29 i) (BitVec.ofNat 32 p.val) = BitVec.ofNat 32 p.val) (l : Fin 512) (ln : Fin 128) :
    out0_A_5 c i arg3 harg3 arg4 harg4 arg5 harg5 arg6 harg6 arg7 harg7 arg8 harg8 arg9 harg9 arg10 harg10 hc0 x0 x1 x2 x3 (ix4 0 0 l ln)
      = stat att rel bb d l ln := by
  unfold out0_A_5
  rw [View.read_writes_eq_canon _ _ _ (cover0_A_5 c i arg3 harg3 arg4 harg4 arg5 harg5 arg6 harg6 arg7 harg7 arg8 harg8 arg9 harg9 arg10 harg10 hc0 x0 x1 x2 x3),
    stat_pieces, stat_canon c i arg3 harg3 arg4 harg4 arg6 harg6 arg8 arg9 x0 x1 x3 att rel bb d hq hk h3 hi]
  unfold statAfter
  have hall : ∀ (p : Fin 8) (b : Fin 4), (p, b) ∈ steps := by decide
  split_ifs with h
  · rfl
  · unfold stat
    have h32 : ¬ln.val < 32 := fun g => h ⟨g, hall _ _⟩
    rw [dif_neg (by omega), dif_neg (by omega)]

end

end Cert.KernelIdeal.Value

end
-- ==== Proof.AttnHost.lean ====
/- The attention's fourth input array after the host's operations is the bias table. -/
module

public import proofs.«01_k».proof.Proof.AttnBias

@[expose] public section

set_option maxRecDepth 16384

noncomputable section

namespace Cert.KernelIdeal.Value

open Cert.KernelIdeal Cert.KernelIdeal.Gen Idealize.ShloMosaic Idealize.ShloMosaic.TcCoe Idealize.ShloMosaic.Pointwise
open Cert.Attn

variable (m : (ℓ : Loc nD τ sig) → Buf (Elt Ideal) ℓ)

/-- The fourth input array is the bias table. -/
theorem V_bias (c : Dev nD) : V m c main_v54 = tableK (m ((c.tc : Thread nD τ).loc main_arg1)) := by
  unfold V
  simp only [hostOps0, hostOps0_1, List.flatten_cons, List.flatten_nil, List.append_nil, List.cons_append, List.nil_append]
  after_results
  rfl

end Cert.KernelIdeal.Value

end
-- ==== Proof.AttnReference.lean ====
/- The reference of the attention read row by row: its windows of 192 keys around blocks of 64 queries hold, for each query,
   the band of 129 keys, and every key outside the band has weight zero. -/
module

public import proofs.«01_k».proof.Proof.AttnSpec
public import proofs.«01_k».proof.Proof.AttnTake
public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.ShloMosaic.Pointwise
open Cert.Attn

/-! ## The last axis' reduction, and the windows -/

/-- The source indices of the last axis' reduction. -/
theorem fiber_last (j : S8x4x8x16x64.Idx) (i : S8x4x8x16x64x192.Idx) :
    facts.reducesTo_S8x4x8x16x64x192_S8x4x8x16x64_d5.drop i = j
      ↔ ∃ k : Fin 192, (ix6 (j 0) (j 1) (j 2) (j 3) (j 4) k : S8x4x8x16x64x192.Idx) = i := by
  constructor
  · rintro rfl
    refine ⟨i 5, ?_⟩
    funext a; apply Fin.ext
    match a with
    | ⟨0, _⟩ | ⟨1, _⟩ | ⟨2, _⟩ | ⟨3, _⟩ | ⟨4, _⟩ | ⟨5, _⟩ => rfl
  · rintro ⟨k, rfl⟩
    funext a; apply Fin.ext
    match a with
    | ⟨0, _⟩ | ⟨1, _⟩ | ⟨2, _⟩ | ⟨3, _⟩ | ⟨4, _⟩ => rfl

/-- The reference's windows of 192 padded rows. -/
def windows (x : FVec Ideal S8x4x512x1024 .f32) : FVec Ideal S8x4x8x192x16x64 .f32 :=
  have t : FVec Ideal S8x4x10x64x16x64 .f32 := shapeCast _ (pad S8x4x640x16x64 ![0, 0, 64, 0, 0] ![0, 0, 64, 0, 0] ![0, 0, 0, 0, 0]
    (shapeCast _ x facts.shapeCasts_S8x4x512x1024_S8x4x512x16x64 : FVec Ideal S8x4x512x16x64 .f32) (sitofp .f32 (constantI S_ 32 0#32))
    facts.pads_S8x4x512x16x64_S8x4x640x16x64_000_000_64640_000_000 h_S_) facts.shapeCasts_S8x4x640x16x64_S8x4x10x64x16x64
  fn_main_v13 (F := Ideal) (extractStridedSlice S8x4x8x64x16x64 ![0, 0, 0, 0, 0, 0] t facts.slices_S8x4x10x64x16x64_S8x4x8x64x16x64_0_0_0_0_0_0)
    (extractStridedSlice S8x4x8x64x16x64 ![0, 0, 1, 0, 0, 0] t facts.slices_S8x4x10x64x16x64_S8x4x8x64x16x64_0_0_1_0_0_0)
    (extractStridedSlice S8x4x8x64x16x64 ![0, 0, 2, 0, 0, 0] t facts.slices_S8x4x10x64x16x64_S8x4x8x64x16x64_0_0_2_0_0_0)

theorem windows_apply (x : FVec Ideal S8x4x512x1024 .f32) (b : Fin 8) (d : Fin 4) (n : Fin 8) (w : Fin 192) (h : Fin 16) (e : Fin 64) :
    windows x (ix6 b d n w h e) = if g : 64 ≤ n.val * 64 + w.val ∧ n.val * 64 + w.val - 64 < 512 then
      x (ix4 b d ⟨n.val * 64 + w.val - 64, g.2⟩ (chan h e)) else 0 := by
  pointwise [windows, fn_main_v13]
  have z : (FloatOps.sitofp FTy.f32 0#32 : Ideal .f32) = 0 := by
    show ((((0#32 : BitVec 32).toInt : ℝ)) : EReal) = 0
    simp
  have key : ∀ j, j = n.val * 64 + w.val → (if g : 64 ≤ j ∧ j - 64 < 512 then x (ix4 b d ⟨j - 64, g.2⟩ (chan h e))
      else FloatOps.sitofp FTy.f32 0#32) = if g : 64 ≤ n.val * 64 + w.val ∧ n.val * 64 + w.val - 64 < 512 then
      x (ix4 b d ⟨n.val * 64 + w.val - 64, g.2⟩ (chan h e)) else 0 := by
    rintro _ rfl
    rw [z]
  by_cases h1 : w.val < 64
  · rw [dif_pos h1]; exact key _ rfl
  · rw [dif_neg h1]
    by_cases h2 : w.val - 64 < 64
    · rw [dif_pos h2]; exact key _ (by omega)
    · rw [dif_neg h2]; exact key _ (by omega)

/-- The windows of the keys. -/
theorem windows_keys (att : FVec Ideal S8x4x512x3072 .bf16) (b : Fin 8) (d : Fin 4) (n : Fin 8) (w : Fin 192) (h : Fin 16) (e : Fin 64) :
    windows (extractStridedSlice S8x4x512x1024 ![0, 0, 0, 1024] (extf .f32 att facts.bitsLt_bf16_f32) facts.slices_S8x4x512x3072_S8x4x512x1024_0_0_0_1024)
      (ix6 b d n w h e) = padded att 1024 (by omega) b d (n.val * 64 + w.val) (chan h e) := by
  rw [windows_apply]
  unfold padded
  split_ifs with g
  · pointwise []
  · rfl

/-- The windows of the values. -/
theorem windows_values (att : FVec Ideal S8x4x512x3072 .bf16) (b : Fin 8) (d : Fin 4) (n : Fin 8) (w : Fin 192) (h : Fin 16) (e : Fin 64) :
    windows (extractStridedSlice S8x4x512x1024 ![0, 0, 0, 2048] (extf .f32 att facts.bitsLt_bf16_f32) facts.slices_S8x4x512x3072_S8x4x512x1024_0_0_0_2048)
      (ix6 b d n w h e) = padded att 2048 (by omega) b d (n.val * 64 + w.val) (chan h e) := by
  rw [windows_apply]
  unfold padded
  split_ifs with g
  · pointwise []
  · rfl

/-! ## The scores -/

/-- The reference's offsets of a window's key from the query, in rows. -/
abbrev offs : IVec S64x192 32 :=
  subi (subi (iotaInDim S64x192 32 1) (broadcastInDim S64x192 ![] facts.bcast_S_S64x192 (constantI S_ 32 64#32))) (iotaInDim S64x192 32 0)

/-- Where a key is in the band and in the sequence. -/
def mask : IVec S8x4x8x16x64x192 1 :=
  broadcastInDim S8x4x8x16x64x192 ![2, 3, 4, 5] facts.bcast_S8x1x64x192_S8x4x8x16x64x192_2_3_4_5 (broadcastInDim S8x1x64x192 ![0, 2, 3] facts.bcast_S8x64x192_S8x1x64x192_0_2_3 (andi (broadcastInDim S8x64x192 ![0, 1, 2] facts.bcast_S1x64x192_S8x64x192_0_1_2 (broadcastInDim S1x64x192 ![1, 2] facts.bcast_S64x192_S1x64x192_1_2 (cmpi .sle (absi offs) (broadcastInDim S64x192 ![] facts.bcast_S_S64x192 (constantI S_ 32 64#32))))) (broadcastInDim S8x64x192 ![0, 1, 2] facts.bcast_S8x1x192_S8x64x192_0_1_2 (broadcastInDim S8x1x192 ![0, 2] facts.bcast_S8x192_S8x1x192_0_2 (andi (cmpi .sge (addi (muli (subi (iotaInDim S8x192 32 0) (broadcastInDim S8x192 ![] facts.bcast_S_S8x192 (constantI S_ 32 1#32))) (broadcastInDim S8x192 ![] facts.bcast_S_S8x192 (constantI S_ 32 64#32))) (iotaInDim S8x192 32 1)) (broadcastInDim S8x192 ![] facts.bcast_S_S8x192 (constantI S_ 32 0#32))) (cmpi .slt (addi (muli (subi (iotaInDim S8x192 32 0) (broadcastInDim S8x192 ![] facts.bcast_S_S8x192 (constantI S_ 32 1#32))) (broadcastInDim S8x192 ![] facts.bcast_S_S8x192 (constantI S_ 32 64#32))) (iotaInDim S8x192 32 1)) (broadcastInDim S8x192 ![] facts.bcast_S_S8x192 (constantI S_ 32 512#32))))))))

theorem mask_apply (b : Fin 8) (d : Fin 4) (n : Fin 8) (h : Fin 16) (t : Fin 64) (w : Fin 192) :
    mask (ix6 b d n h t w) = if (t.val ≤ w.val ∧ w.val ≤ t.val + 128) ∧ 64 ≤ n.val * 64 + w.val ∧ n.val * 64 + w.val < 576 then 1#1 else 0#1 := by
  pointwise [mask]
  have h1 : ∀ (t : Fin 64) (w : Fin 192), IntOp.cmpi .sle (IntOp.absi (IntOp.subi (IntOp.subi (BitVec.ofNat 32 w.val) 64#32) (BitVec.ofNat 32 t.val))) 64#32
      = if t.val ≤ w.val ∧ w.val ≤ t.val + 128 then 1#1 else 0#1 := by decide +kernel
  have h2 : ∀ (n : Fin 8) (w : Fin 192), IntOp.andi
      (IntOp.cmpi .sge (IntOp.addi (IntOp.muli (IntOp.subi (BitVec.ofNat 32 n.val) 1#32) 64#32) (BitVec.ofNat 32 w.val)) 0#32)
      (IntOp.cmpi .slt (IntOp.addi (IntOp.muli (IntOp.subi (BitVec.ofNat 32 n.val) 1#32) 64#32) (BitVec.ofNat 32 w.val)) 512#32)
      = if 64 ≤ n.val * 64 + w.val ∧ n.val * 64 + w.val < 576 then 1#1 else 0#1 := by decide +kernel
  rw [h1, h2]
  by_cases p : t.val ≤ w.val ∧ w.val ≤ t.val + 128 <;> by_cases q : 64 ≤ n.val * 64 + w.val ∧ n.val * 64 + w.val < 576 <;>
    simp only [p, q, if_true, if_false, true_and, and_true, and_false, false_and, and_self] <;> rfl

/-- The rows of the bias table by offset. -/
def biasRows (rel : FVec Ideal S32x16 .f32) : FVec Ideal S256x16 .f32 :=
  Host.gather gather_S32x16_S256x1_S256x16_1_0_n_n_0_1_116 rel (broadcastInDim S256x1 ![0] facts.bcast_S256_S256x1_0
    (select (constantI S256 1 0#1) (addi (fun i => lit0 (S256.rowMajor i)) (broadcastInDim S256 ![] facts.bcast_S_S256 (constantI S_ 32 32#32)))
      (fun i => lit0 (S256.rowMajor i))))

theorem biasRows_apply (rel : FVec Ideal S32x16 .f32) (k : Fin 256) (h : Fin 16) :
    biasRows rel (ix2 k h) = rel (ix2 ⟨min (lit0 k).toInt.toNat 31, by omega⟩ h) := by
  refine (take_rows2 (by omega) _ rel _ k h).trans ?_
  pointwise []
  exact congrArg (fun j : Fin 256 => rel (ix2 ⟨min (lit0 j).toInt.toNat 31, by omega⟩ h)) (Fin.ext (rowMajor_val1 _) : S256.rowMajor (ix1 k) = k)

/-- The row numbers of a block of queries and its window. -/
def rowNumbers : IVec S64x192x1 32 :=
  broadcastInDim S64x192x1 ![0, 1] facts.bcast_S64x192_S64x192x1_0_1 (select (cmpi .slt (addi offs (broadcastInDim S64x192 ![] facts.bcast_S_S64x192 (constantI S_ 32 128#32))) (broadcastInDim S64x192 ![] facts.bcast_S_S64x192 (constantI S_ 32 0#32))) (addi (addi offs (broadcastInDim S64x192 ![] facts.bcast_S_S64x192 (constantI S_ 32 128#32))) (broadcastInDim S64x192 ![] facts.bcast_S_S64x192 (constantI S_ 32 256#32))) (addi offs (broadcastInDim S64x192 ![] facts.bcast_S_S64x192 (constantI S_ 32 128#32))))

theorem rowNumbers_apply (t : Fin 64) (u : Fin 129) :
    min (rowNumbers (ix3 t ⟨t.val + u.val, by omega⟩ 0)).toInt.toNat 255 = 64 + u.val := by
  pointwise [rowNumbers]
  revert t u
  decide +kernel

theorem pairs_apply (x : FVec Ideal S256x16 .f32) (idx : IVec S64x192x1 32) (t : Fin 64) (w : Fin 192) (h : Fin 16) :
    Host.gather gather_S256x16_S64x192x1_S64x192x16_2_0_n_n_0_2_116 x idx (ix3 t w h)
      = x (ix2 ⟨min (idx (ix3 t w 0)).toInt.toNat 255, by omega⟩ h) :=
  take_rows (by omega) facts.gather_S256x16_S64x192x1_S64x192x16_2_0_n_n_0_2_116_wf x idx t w h

theorem rows_eq (v r : ℕ) (e : min v 255 = r) : (⟨min v 255, by omega⟩ : Fin 256) = ⟨r, by omega⟩ := Fin.ext e

/-- The biases of a block of queries and its window. -/
def biasPairs (rel : FVec Ideal S32x16 .f32) : FVec Ideal S64x192x16 .f32 :=
  Host.gather gather_S256x16_S64x192x1_S64x192x16_2_0_n_n_0_2_116 (biasRows rel) rowNumbers

theorem biasPairs_apply (rel : FVec Ideal S32x16 .f32) (h : Fin 16) (t : Fin 64) (u : Fin 129) :
    biasPairs rel (ix3 t ⟨t.val + u.val, by omega⟩ h) = rel (ix2 (bucket u) h) := by
  unfold biasPairs
  rw [pairs_apply, biasRows_apply, rows_eq _ _ (rowNumbers_apply t u)]
  rfl

/-- The reference's scores, the least where a key is masked. -/
def scores (att : FVec Ideal S8x4x512x3072 .bf16) (rel : FVec Ideal S32x16 .f32) : FVec Ideal S8x4x8x16x64x192 .f32 :=
  select mask (addf (mulf (Host.dotGeneral dot_S8x4x8x64x16x64_S8x4x8x192x16x64_S8x4x8x16x64x192_5_5_3_3_0124_0124 none
      (shapeCast _ (shapeCast _ (extractStridedSlice S8x4x512x1024 ![0, 0, 0, 0] (extf .f32 att bitsLt_bf16_f32) facts.slices_S8x4x512x3072_S8x4x512x1024_0_0_0_0 : FVec Ideal S8x4x512x1024 .f32) facts.shapeCasts_S8x4x512x1024_S8x4x512x16x64 : FVec Ideal S8x4x512x16x64 .f32) facts.shapeCasts_S8x4x512x16x64_S8x4x8x64x16x64)
      (windows (extractStridedSlice S8x4x512x1024 ![0, 0, 0, 1024] (extf .f32 att bitsLt_bf16_f32) facts.slices_S8x4x512x3072_S8x4x512x1024_0_0_0_1024)))
      (broadcastInDim S8x4x8x16x64x192 ![] facts.bcast_S_S8x4x8x16x64x192 (constant S_ .f32 0x3E000000#32)))
      (broadcastInDim S8x4x8x16x64x192 ![0, 1, 2, 3, 4, 5] facts.bcast_S1x1x1x16x64x192_S8x4x8x16x64x192_0_1_2_3_4_5 (broadcastInDim S1x1x1x16x64x192 ![3, 4, 5] facts.bcast_S16x64x192_S1x1x1x16x64x192_3_4_5
        (transpose S16x64x192 [2, 0, 1] (biasPairs rel) facts.transposes_S64x192x16_S16x64x192_2_0_1))))
    (broadcastInDim S8x4x8x16x64x192 ![] facts.bcast_S_S8x4x8x16x64x192 (id (constant S_ .f32 0xFF800000#32)))

theorem scores_apply (att : FVec Ideal S8x4x512x3072 .bf16) (rel : FVec Ideal S32x16 .f32) (b : Fin 8) (d : Fin 4) (n : Fin 8) (h : Fin 16)
    (t : Fin 64) (w : Fin 192) : scores att rel (ix6 b d n h t w)
      = if (t.val ≤ w.val ∧ w.val ≤ t.val + 128) ∧ 64 ≤ n.val * 64 + w.val ∧ n.val * 64 + w.val < 576 then
          (∑ e : Fin 64, att (ix4 b d ⟨n.val * 64 + t.val, by omega⟩ ⟨(chan h e).val, by omega⟩)
            * padded att 1024 (by omega) b d (n.val * 64 + w.val) (chan h e)) * ((8⁻¹ : ℝ) : EReal) + biasPairs rel (ix3 t w h)
        else ⊥ := by
  pointwise [scores]
  rw [mask_apply, show Ideal.ofBits FTy.f32 1040187392#32 = ((8⁻¹ : ℝ) : EReal) by
    simp [Ideal.ofBits, Ideal.ieee, -EReal.coe_mul]; norm_num]
  have hb : (id (constant (F := Ideal) S_ FTy.f32 4286578688#32) ix0 : EReal) = ⊥ := by
    show Ideal.ofBits FTy.f32 4286578688#32 = ⊥
    simp [Ideal.ofBits, Ideal.ieee]
  by_cases g : (t.val ≤ w.val ∧ w.val ≤ t.val + 128) ∧ 64 ≤ n.val * 64 + w.val ∧ n.val * 64 + w.val < 576
  · rw [if_pos g, if_pos g]
    refine (ValueIdx.select_one _ _).trans ?_
    congr 2
    refine Finset.sum_congr rfl fun e _ => ?_
    rw [windows_keys]
  · rw [if_neg g, if_neg g]
    exact (ValueIdx.select_zero _ _).trans hb

/-- The score of a key of the band. -/
theorem scores_in (att : FVec Ideal S8x4x512x3072 .bf16) (rel : FVec Ideal S32x16 .f32) (b : Fin 8) (d : Fin 4) (n : Fin 8) (h : Fin 16)
    (t : Fin 64) (u : Fin 129) : scores att rel (ix6 b d n h t ⟨t.val + u.val, by omega⟩)
      = score att rel b d ⟨n.val * 64 + t.val, by omega⟩ h u := by
  rw [scores_apply, biasPairs_apply]
  unfold score
  simp only [← Nat.add_assoc]
  refine if_congr (by omega) rfl rfl

/-- A key outside the band has the least score. -/
theorem scores_out (att : FVec Ideal S8x4x512x3072 .bf16) (rel : FVec Ideal S32x16 .f32) (b : Fin 8) (d : Fin 4) (n : Fin 8) (h : Fin 16)
    (t : Fin 64) (w : Fin 192) (hw : ¬(t.val ≤ w.val ∧ w.val < t.val + 129)) : scores att rel (ix6 b d n h t w) = ⊥ := by
  rw [scores_apply, if_neg (by omega)]

/-- The greatest scores. -/
def maxima (att : FVec Ideal S8x4x512x3072 .bf16) (rel : FVec Ideal S32x16 .f32) : FVec Ideal S8x4x8x16x64 .f32 :=
  Host.reduce FloatOps.maximumf (scores att rel) (constant S_ .f32 0xFF800000#32) facts.reducesTo_S8x4x8x16x64x192_S8x4x8x16x64_d5 h_S_

theorem maxima_apply (att : FVec Ideal S8x4x512x3072 .bf16) (rel : FVec Ideal S32x16 .f32) (b : Fin 8) (d : Fin 4) (n : Fin 8) (h : Fin 16)
    (t : Fin 64) : maxima att rel (ix5 b d n h t) = top att rel b d ⟨n.val * 64 + t.val, by omega⟩ h := by
  pointwise [maxima]
  refine (Finset.fold_filter_eq_fold_of_fiber max _ (fun k : Fin 192 => (ix6 b d n h t k : S8x4x8x16x64x192.Idx))
    (fun _ _ e => congrFun e 5) (fiber_last (ix5 b d n h t)) _ _).trans ?_
  rw [show Ideal.ofBits FTy.f32 4286578688#32 = ⊥ by simp [Ideal.ofBits, Ideal.ieee]]
  exact sup_band t.val (by omega) (fun k => scores att rel (ix6 b d n h t k)) _ (scores_in att rel b d n h t) (scores_out att rel b d n h t)

def exps (att : FVec Ideal S8x4x512x3072 .bf16) (rel : FVec Ideal S32x16 .f32) : FVec Ideal S8x4x8x16x64x192 .f32 :=
  Host.exp (subf (scores att rel) (broadcastInDim S8x4x8x16x64x192 ![0, 1, 2, 3, 4, 5] facts.bcast_S8x4x8x16x64x1_S8x4x8x16x64x192_0_1_2_3_4_5 (broadcastInDim S8x4x8x16x64x1 ![0, 1, 2, 3, 4] facts.bcast_S8x4x8x16x64_S8x4x8x16x64x1_0_1_2_3_4 (maxima att rel))))

theorem exps_apply (att : FVec Ideal S8x4x512x3072 .bf16) (rel : FVec Ideal S32x16 .f32) (b : Fin 8) (d : Fin 4) (n : Fin 8) (h : Fin 16)
    (t : Fin 64) (w : Fin 192) : exps att rel (ix6 b d n h t w)
      = Ideal.exp (scores att rel (ix6 b d n h t w) - top att rel b d ⟨n.val * 64 + t.val, by omega⟩ h) := by
  pointwise [exps]
  rw [maxima_apply]

theorem exps_in (att : FVec Ideal S8x4x512x3072 .bf16) (rel : FVec Ideal S32x16 .f32) (b : Fin 8) (d : Fin 4) (n : Fin 8) (h : Fin 16)
    (t : Fin 64) (u : Fin 129) : exps att rel (ix6 b d n h t ⟨t.val + u.val, by omega⟩)
      = weight att rel b d ⟨n.val * 64 + t.val, by omega⟩ h u := by
  rw [exps_apply, scores_in]
  rfl

theorem exps_out (att : FVec Ideal S8x4x512x3072 .bf16) (rel : FVec Ideal S32x16 .f32) (b : Fin 8) (d : Fin 4) (n : Fin 8) (h : Fin 16)
    (t : Fin 64) (w : Fin 192) (hw : ¬(t.val ≤ w.val ∧ w.val < t.val + 129)) : exps att rel (ix6 b d n h t w) = 0 := by
  rw [exps_apply, scores_out att rel b d n h t w hw]
  exact exp_masked _

/-- The sums of the weights. -/
def sums (att : FVec Ideal S8x4x512x3072 .bf16) (rel : FVec Ideal S32x16 .f32) : FVec Ideal S8x4x8x16x64 .f32 :=
  Host.reduceAdd (exps att rel) (constant S_ .f32 0x00000000#32) facts.reducesTo_S8x4x8x16x64x192_S8x4x8x16x64_d5 h_S_

theorem sums_apply (att : FVec Ideal S8x4x512x3072 .bf16) (rel : FVec Ideal S32x16 .f32) (b : Fin 8) (d : Fin 4) (n : Fin 8) (h : Fin 16)
    (t : Fin 64) : sums att rel (ix5 b d n h t) = den att rel b d ⟨n.val * 64 + t.val, by omega⟩ h := by
  pointwise [sums]
  refine (zero_add _).trans ((Finset.sum_filter_eq_sum_of_fiber _ (fun k : Fin 192 => (ix6 b d n h t k : S8x4x8x16x64x192.Idx))
    (fun _ _ e => congrFun e 5) (fiber_last (ix5 b d n h t)) (exps att rel)).trans ?_)
  refine sum_band t.val (by omega) (fun k => exps att rel (ix6 b d n h t k)) (weight att rel b d ⟨n.val * 64 + t.val, by omega⟩ h) (fun u => ?_)
    (fun w hw => ?_)
  · exact exps_in att rel b d n h t u
  · exact exps_out att rel b d n h t w hw

variable (m : (ℓ : Loc nD τ sig) → Buf (Elt Ideal) ℓ) (c : Dev nD)

theorem num_eq : res_main_v76 m c = shapeCast _ (transpose S8x4x8x64x16x64 [0, 1, 2, 5, 3, 4] (Host.dotGeneral dot_S8x4x8x192x16x64_S8x4x8x16x64x192_S8x4x8x16x64x64_3_5_5_4_0124_0123 none
      (windows (extractStridedSlice S8x4x512x1024 ![0, 0, 0, 2048] (extf .f32 (m ((c.tc : Thread nD τ).loc main_arg0)) bitsLt_bf16_f32) facts.slices_S8x4x512x3072_S8x4x512x1024_0_0_0_2048))
      (exps (m ((c.tc : Thread nD τ).loc main_arg0)) (m ((c.tc : Thread nD τ).loc main_arg1)))) facts.transposes_S8x4x8x16x64x64_S8x4x8x64x16x64_0_1_2_5_3_4) facts.shapeCasts_S8x4x8x64x16x64_S8x4x512x1024 := by
  rfl

/-- The reference's weighted values. -/
theorem num_apply (b : Fin 8) (d : Fin 4) (l : Fin 512) (ch : Fin 1024) :
    (res_main_v76 m c : FVec Ideal S8x4x512x1024 .f32) (ix4 b d l ch)
      = num (m ((c.tc : Thread nD τ).loc main_arg0)) (m ((c.tc : Thread nD τ).loc main_arg1)) b d l ch := by
  rw [num_eq]
  pointwise []
  have hl : (⟨l.val / 64 * 64 + l.val % 64, by omega⟩ : Fin 512) = l := Fin.ext (by simp only; omega)
  have hc : chan (headOf ch) ⟨ch.val % 64, by omega⟩ = ch := Fin.ext (by simp only [chan, headOf]; omega)
  refine sum_band (l.val % 64) (by omega) _ (fun u => _) (fun u => ?_) (fun w hw => ?_)
  · refine (congrArg₂ (· * ·) (windows_values _ b d ⟨l.val / 64, by omega⟩ _ (headOf ch) ⟨ch.val % 64, by omega⟩)
      (exps_in _ _ b d ⟨l.val / 64, by omega⟩ (headOf ch) ⟨l.val % 64, by omega⟩ u)).trans ?_
    rw [mul_comm, hc]
    simp only [← Nat.add_assoc]
    rw [hl, show l.val / 64 * 64 + l.val % 64 = l.val by omega]
  · refine (congrArg₂ (· * ·) rfl (exps_out _ _ b d ⟨l.val / 64, by omega⟩ (headOf ch) ⟨l.val % 64, by omega⟩ w hw)).trans (mul_zero _)

theorem stat_eq : res_main_v85 m c = fn_main_v85 (F := Ideal) (Host.divf (shapeCast _ (transpose S8x4x8x64x16 [0, 1, 2, 4, 3]
      (maxima (m ((c.tc : Thread nD τ).loc main_arg0)) (m ((c.tc : Thread nD τ).loc main_arg1)))
      facts.transposes_S8x4x8x16x64_S8x4x8x64x16_0_1_2_4_3 : FVec Ideal S8x4x8x64x16 .f32) facts.shapeCasts_S8x4x8x64x16_S8x4x512x16)
      (broadcastInDim S8x4x512x16 ![] facts.bcast_S_S8x4x512x16 (Host.log (constant (F := Ideal) S_ .f32 0x40000000#32)) : FVec Ideal S8x4x512x16 .f32))
    (shapeCast _ (transpose S8x4x8x64x16 [0, 1, 2, 4, 3]
      (sums (m ((c.tc : Thread nD τ).loc main_arg0)) (m ((c.tc : Thread nD τ).loc main_arg1)))
      facts.transposes_S8x4x8x16x64_S8x4x8x64x16_0_1_2_4_3 : FVec Ideal S8x4x8x64x16 .f32) facts.shapeCasts_S8x4x8x64x16_S8x4x512x16)
    (broadcastInDim S8x4x512x96 ![] facts.bcast_S_S8x4x512x96 (constant (F := Ideal) S_ .f32 0x00000000#32) : FVec Ideal S8x4x512x96 .f32) := by
  rfl

theorem stat_apply (b : Fin 8) (d : Fin 4) (l : Fin 512) (ln : Fin 128) :
    (res_main_v85 m c : FVec Ideal S8x4x512x128 .f32) (ix4 b d l ln)
      = stat (m ((c.tc : Thread nD τ).loc main_arg0)) (m ((c.tc : Thread nD τ).loc main_arg1)) b d l ln := by
  rw [stat_eq]
  pointwise [fn_main_v85]
  have hl : (⟨l.val / 64 * 64 + l.val % 64, by omega⟩ : Fin 512) = l := Fin.ext (by simp only; omega)
  have h2 : Ideal.log (Ideal.ofBits FTy.f32 1073741824#32) = ((Real.log 2 : ℝ) : EReal) := by
    rw [show Ideal.ofBits FTy.f32 1073741824#32 = ((2 : ℝ) : EReal) by
      simp [Ideal.ofBits, Ideal.ieee, -EReal.coe_mul]; norm_num]
    rw [Ideal.log_coe, if_neg (by norm_num)]
  rw [h2]
  unfold stat
  by_cases h : ln.val < 16
  · rw [dif_pos h, dif_pos h, Ideal.div_coe log_two_pos.ne', maxima_apply, mul_comm, one_div]
    simp only [hl]
  · rw [dif_neg h, dif_neg h]
    by_cases h' : ln.val - 16 < 16
    · rw [dif_pos h', dif_pos h', sums_apply]
      simp only [hl]
    · rw [dif_neg h', dif_neg h']

end Cert.ReferenceIdeal.Value

end
-- ==== Proof.AttnValue.lean ====
/- The attention's two results: every point writes the weighted values and the statistics of its sequence, and the points'
   blocks fill the two arrays, so the kernel ends with the reference's results. -/
module

public import proofs.«01_k».proof.Proof.AttnPoint
public import proofs.«01_k».proof.Proof.AttnHost
public import proofs.«01_k».proof.Proof.AttnReference
public import proofs.«01_k».proof.Proof.Gen.KernelIdeal.Value
public import proofs.«01_k».proof.Defs

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pointwise Cert.Attn
open Idealize.ShloMosaic.Pipeline (Dat)

variable (m : (ℓ : Loc nD τ sig) → Buf (Elt Ideal) ℓ) (ρ : Dev nD → PrngReg)

/-- Point `t` works on batch `t / 4`, sequence `t % 4`: its queries, keys and values are the three thirds of the shared
    array, and the table of biases is read whole. -/
theorem index_at : ∀ t : Fin cfg0.N,
    (win0_0.index t 0 = t.val / 4 ∧ win0_0.index t 1 = t.val % 4 ∧ win0_0.index t 2 = 0 ∧ win0_0.index t 3 = 0)
    ∧ (win0_1.index t 0 = t.val / 4 ∧ win0_1.index t 1 = t.val % 4 ∧ win0_1.index t 2 = 0 ∧ win0_1.index t 3 = 1)
    ∧ (win0_2.index t 0 = t.val / 4 ∧ win0_2.index t 1 = t.val % 4 ∧ win0_2.index t 2 = 0 ∧ win0_2.index t 3 = 2)
    ∧ (win0_3.index t 0 = 0 ∧ win0_3.index t 1 = 0 ∧ win0_3.index t 2 = 0 ∧ win0_3.index t 3 = 0)
    ∧ (win0_4.index t 0 = t.val / 4 ∧ win0_4.index t 1 = t.val % 4 ∧ win0_4.index t 2 = 0 ∧ win0_4.index t 3 = 0)
    ∧ (win0_5.index t 0 = t.val / 4 ∧ win0_5.index t 1 = t.val % 4 ∧ win0_5.index t 2 = 0 ∧ win0_5.index t 3 = 0) :=
  (by decide +kernel : ∀ t : Fin grid0.N, _)

/-- The grid has 32 points. -/
theorem point_lt (t : Fin cfg0.N) : t.val < 32 := t.isLt

/-- The batch of a point. -/
abbrev batch (t : Fin cfg0.N) : Fin 8 := ⟨t.val / 4, by have := point_lt t; omega⟩

/-- The sequence of a point. -/
abbrev seq (t : Fin cfg0.N) : Fin 4 := ⟨t.val % 4, by omega⟩

theorem iblk0 (c : Dev nD) (t : Fin cfg0.N) (l : Fin 512) (ch : Fin 1024) :
    iblk m c 0 t (ix4 0 0 l ch) = m ((c.tc : Thread nD τ).loc main_arg0) (ix4 (batch t) (seq t) l (queryAt ch)) := by
  have hi := (index_at t).1
  unfold iblk
  rw [View.read_apply]
  show V m c main_arg0 _ = _
  rw [V_main_arg0]
  congr 1
  funext a
  apply Fin.ext
  match a with
  | ⟨0, _⟩ => show win0_0.index t 0 * 1 + 1 * 0 = t.val / 4; rw [hi.1]; omega
  | ⟨1, _⟩ => show win0_0.index t 1 * 1 + 1 * 0 = t.val % 4; rw [hi.2.1]; omega
  | ⟨2, _⟩ => show win0_0.index t 2 * 512 + 1 * l.val = l.val; rw [hi.2.2.1]; omega
  | ⟨3, _⟩ => show win0_0.index t 3 * 1024 + 1 * ch.val = ch.val; rw [hi.2.2.2]; omega

theorem iblk1 (c : Dev nD) (t : Fin cfg0.N) (l : Fin 512) (ch : Fin 1024) :
    iblk m c 1 t (ix4 0 0 l ch) = m ((c.tc : Thread nD τ).loc main_arg0) (ix4 (batch t) (seq t) l (keyAt ch)) := by
  have hi := (index_at t).2.1
  unfold iblk
  rw [View.read_apply]
  show V m c main_arg0 _ = _
  rw [V_main_arg0]
  congr 1
  funext a
  apply Fin.ext
  match a with
  | ⟨0, _⟩ => show win0_1.index t 0 * 1 + 1 * 0 = t.val / 4; rw [hi.1]; omega
  | ⟨1, _⟩ => show win0_1.index t 1 * 1 + 1 * 0 = t.val % 4; rw [hi.2.1]; omega
  | ⟨2, _⟩ => show win0_1.index t 2 * 512 + 1 * l.val = l.val; rw [hi.2.2.1]; omega
  | ⟨3, _⟩ => show win0_1.index t 3 * 1024 + 1 * ch.val = 1024 + ch.val; rw [hi.2.2.2]; omega

theorem iblk2 (c : Dev nD) (t : Fin cfg0.N) (l : Fin 512) (ch : Fin 1024) :
    iblk m c 2 t (ix4 0 0 l ch) = m ((c.tc : Thread nD τ).loc main_arg0) (ix4 (batch t) (seq t) l (valueAt ch)) := by
  have hi := (index_at t).2.2.1
  unfold iblk
  rw [View.read_apply]
  show V m c main_arg0 _ = _
  rw [V_main_arg0]
  congr 1
  funext a
  apply Fin.ext
  match a with
  | ⟨0, _⟩ => show win0_2.index t 0 * 1 + 1 * 0 = t.val / 4; rw [hi.1]; omega
  | ⟨1, _⟩ => show win0_2.index t 1 * 1 + 1 * 0 = t.val % 4; rw [hi.2.1]; omega
  | ⟨2, _⟩ => show win0_2.index t 2 * 512 + 1 * l.val = l.val; rw [hi.2.2.1]; omega
  | ⟨3, _⟩ => show win0_2.index t 3 * 1024 + 1 * ch.val = 2048 + ch.val; rw [hi.2.2.2]; omega

theorem iblk3 (c : Dev nD) (t : Fin cfg0.N) (v : Fin 4) (h : Fin 16) (r : Fin 128) (w : Fin 256) :
    iblk m c 3 t (ix4 v h r w) = tableK (m ((c.tc : Thread nD τ).loc main_arg1)) (ix4 v h r w) := by
  have hi := (index_at t).2.2.2.1
  unfold iblk
  rw [View.read_apply]
  show V m c main_v54 _ = _
  rw [V_bias]
  congr 1
  funext a
  apply Fin.ext
  match a with
  | ⟨0, _⟩ => show win0_3.index t 0 * 4 + 1 * v.val = v.val; rw [hi.1]; omega
  | ⟨1, _⟩ => show win0_3.index t 1 * 16 + 1 * h.val = h.val; rw [hi.2.1]; omega
  | ⟨2, _⟩ => show win0_3.index t 2 * 128 + 1 * r.val = r.val; rw [hi.2.2.1]; omega
  | ⟨3, _⟩ => show win0_3.index t 3 * 256 + 1 * w.val = w.val; rw [hi.2.2.2]; omega

/-- The first pair of a point is the pair 0: the third grid axis has one point. -/
theorem first_pair : ∀ (t : Fin cfg0.N) (p : Fin 8),
    Scalar.addi (kernelRun0_A.sl.v29 (grid0.coords t)) (BitVec.ofNat 32 p.val) = BitVec.ofNat 32 p.val :=
  (by decide +kernel : ∀ (t : Fin grid0.N) (p : Fin 8),
    Scalar.addi (kernelRun0_A.sl.v29 (grid0.coords t)) (BitVec.ofNat 32 p.val) = BitVec.ofNat 32 p.val)

/-! ## The result arrays -/

/-- What the array of weighted values ends holding. -/
def result4 (c : Dev nD) : S8x4x512x1024.Idx → Elt Ideal .f32 := fun y =>
  num (m ((c.tc : Thread nD τ).loc main_arg0)) (m ((c.tc : Thread nD τ).loc main_arg1)) (y 0) (y 1) (y 2) (y 3)

/-- What the array of statistics ends holding. -/
def result5 (c : Dev nD) : S8x4x512x128.Idx → Elt Ideal .f32 := fun y =>
  stat (m ((c.tc : Thread nD τ).loc main_arg0)) (m ((c.tc : Thread nD τ).loc main_arg1)) (y 0) (y 1) (y 2) (y 3)

theorem eq_block {n k : ℕ} (z : (⟨4, ![1, 1, n, k]⟩ : Shape).Idx) : z = ix4 (0 : Fin 1) (0 : Fin 1) (z 2) (z 3) := by
  funext a; apply Fin.ext
  match a with
  | ⟨0, _⟩ => exact Nat.lt_one_iff.1 (z 0).isLt
  | ⟨1, _⟩ => exact Nat.lt_one_iff.1 (z 1).isLt
  | ⟨2, _⟩ | ⟨3, _⟩ => rfl

theorem flushed4_eq (c : Dev nD) (t : Fin cfg0.N) :
    (dats m 0 c).flushed 4 t = ((cfg0.win 4).blk t).view.read (Elt Ideal) (result4 m c) := by
  rw [flushed4_A]
  funext j
  have hi := (index_at t).2.2.2.2.1
  obtain ⟨l, ch, rfl⟩ : ∃ (l : Fin 512) (ch : Fin 1024), j = ix4 0 0 l ch := ⟨j 2, j 3, eq_block j⟩
  rw [View.read_apply]
  have he : ((cfg0.win 4).blk t).view.emb (ix4 0 0 l ch) = ix4 (batch t) (seq t) l ch := by
    funext a
    apply Fin.ext
    match a with
    | ⟨0, _⟩ => show win0_4.index t 0 * 1 + 1 * 0 = t.val / 4; rw [hi.1]; omega
    | ⟨1, _⟩ => show win0_4.index t 1 * 1 + 1 * 0 = t.val % 4; rw [hi.2.1]; omega
    | ⟨2, _⟩ => show win0_4.index t 2 * 512 + 1 * l.val = l.val; rw [hi.2.2.1]; omega
    | ⟨3, _⟩ => show win0_4.index t 3 * 1024 + 1 * ch.val = ch.val; rw [hi.2.2.2]; omega
  rw [he]
  exact out_num c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (Memref.isWhole_whole _) scM0_1 (Memref.isWhole_whole _) (hcond0_0 t) (iblk m c 0 t) (iblk m c 1 t)
    (iblk m c 2 t) (iblk m c 3 t) _ _ (batch t) (seq t) (iblk0 m c t) (iblk1 m c t) (iblk2 m c t) (iblk3 m c t) l ch

theorem flushed5_eq (c : Dev nD) (t : Fin cfg0.N) :
    (dats m 0 c).flushed 5 t = ((cfg0.win 5).blk t).view.read (Elt Ideal) (result5 m c) := by
  rw [flushed5_A]
  funext j
  have hi := (index_at t).2.2.2.2.2
  obtain ⟨l, ln, rfl⟩ : ∃ (l : Fin 512) (ln : Fin 128), j = ix4 0 0 l ln := ⟨j 2, j 3, eq_block j⟩
  rw [View.read_apply]
  have he : ((cfg0.win 5).blk t).view.emb (ix4 0 0 l ln) = ix4 (batch t) (seq t) l ln := by
    funext a
    apply Fin.ext
    match a with
    | ⟨0, _⟩ => show win0_5.index t 0 * 1 + 1 * 0 = t.val / 4; rw [hi.1]; omega
    | ⟨1, _⟩ => show win0_5.index t 1 * 1 + 1 * 0 = t.val % 4; rw [hi.2.1]; omega
    | ⟨2, _⟩ => show win0_5.index t 2 * 512 + 1 * l.val = l.val; rw [hi.2.2.1]; omega
    | ⟨3, _⟩ => show win0_5.index t 3 * 128 + 1 * ln.val = ln.val; rw [hi.2.2.2]; omega
  rw [he]
  exact out_stat c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (Memref.isWhole_whole _) scM0_1 (Memref.isWhole_whole _) (hcond0_0 t) (iblk m c 0 t) (iblk m c 1 t)
    (iblk m c 2 t) (iblk m c 3 t) _ _ (batch t) (seq t) (iblk0 m c t) (iblk1 m c t) (iblk3 m c t) (first_pair t) l ln

theorem cover4 (i : S8x4x512x1024.Idx) : ∃ t : Fin cfg0.N, (cfg0.win 4).flush t = true ∧ i ∈ ((cfg0.win 4).blk t).view.set := by
  have h0 : (i 0 : Nat) < 8 := (i 0).isLt
  have h1 : (i 1 : Nat) < 4 := (i 1).isLt
  have h2 : (i 2 : Nat) < 512 := (i 2).isLt
  have h3 : (i 3 : Nat) < 1024 := (i 3).isLt
  let t : Fin cfg0.N := ⟨(i 0 : Nat) * 4 + (i 1 : Nat), (by omega : (i 0 : Nat) * 4 + (i 1 : Nat) < 32)⟩
  have hi := (index_at t).2.2.2.2.1
  refine ⟨t, (by decide +kernel : ∀ t : Fin grid0.N, win0_4.flush t = true) t, ?_⟩
  show i ∈ ((View.whole main_v55_0).slice (win0_4.rect t)).set
  rw [View.set_slice_whole, Rect.mem_set_unit]
  intro a
  match a with
  | ⟨0, _⟩ => show win0_4.index t 0 * 1 ≤ (i 0 : Nat) ∧ (i 0 : Nat) < win0_4.index t 0 * 1 + 1
              rw [hi.1]; show ((i 0 : Nat) * 4 + (i 1 : Nat)) / 4 * 1 ≤ _ ∧ _ < ((i 0 : Nat) * 4 + (i 1 : Nat)) / 4 * 1 + 1; omega
  | ⟨1, _⟩ => show win0_4.index t 1 * 1 ≤ (i 1 : Nat) ∧ (i 1 : Nat) < win0_4.index t 1 * 1 + 1
              rw [hi.2.1]; show ((i 0 : Nat) * 4 + (i 1 : Nat)) % 4 * 1 ≤ _ ∧ _ < ((i 0 : Nat) * 4 + (i 1 : Nat)) % 4 * 1 + 1; omega
  | ⟨2, _⟩ => show win0_4.index t 2 * 512 ≤ (i 2 : Nat) ∧ (i 2 : Nat) < win0_4.index t 2 * 512 + 512
              rw [hi.2.2.1]; omega
  | ⟨3, _⟩ => show win0_4.index t 3 * 1024 ≤ (i 3 : Nat) ∧ (i 3 : Nat) < win0_4.index t 3 * 1024 + 1024
              rw [hi.2.2.2]; omega

theorem cover5 (i : S8x4x512x128.Idx) : ∃ t : Fin cfg0.N, (cfg0.win 5).flush t = true ∧ i ∈ ((cfg0.win 5).blk t).view.set := by
  have h0 : (i 0 : Nat) < 8 := (i 0).isLt
  have h1 : (i 1 : Nat) < 4 := (i 1).isLt
  have h2 : (i 2 : Nat) < 512 := (i 2).isLt
  have h3 : (i 3 : Nat) < 128 := (i 3).isLt
  let t : Fin cfg0.N := ⟨(i 0 : Nat) * 4 + (i 1 : Nat), (by omega : (i 0 : Nat) * 4 + (i 1 : Nat) < 32)⟩
  have hi := (index_at t).2.2.2.2.2
  refine ⟨t, (by decide +kernel : ∀ t : Fin grid0.N, win0_5.flush t = true) t, ?_⟩
  show i ∈ ((View.whole main_v55_1).slice (win0_5.rect t)).set
  rw [View.set_slice_whole, Rect.mem_set_unit]
  intro a
  match a with
  | ⟨0, _⟩ => show win0_5.index t 0 * 1 ≤ (i 0 : Nat) ∧ (i 0 : Nat) < win0_5.index t 0 * 1 + 1
              rw [hi.1]; show ((i 0 : Nat) * 4 + (i 1 : Nat)) / 4 * 1 ≤ _ ∧ _ < ((i 0 : Nat) * 4 + (i 1 : Nat)) / 4 * 1 + 1; omega
  | ⟨1, _⟩ => show win0_5.index t 1 * 1 ≤ (i 1 : Nat) ∧ (i 1 : Nat) < win0_5.index t 1 * 1 + 1
              rw [hi.2.1]; show ((i 0 : Nat) * 4 + (i 1 : Nat)) % 4 * 1 ≤ _ ∧ _ < ((i 0 : Nat) * 4 + (i 1 : Nat)) % 4 * 1 + 1; omega
  | ⟨2, _⟩ => show win0_5.index t 2 * 512 ≤ (i 2 : Nat) ∧ (i 2 : Nat) < win0_5.index t 2 * 512 + 512
              rw [hi.2.2.1]; omega
  | ⟨3, _⟩ => show win0_5.index t 3 * 128 ≤ (i 3 : Nat) ∧ (i 3 : Nat) < win0_5.index t 3 * 128 + 128
              rw [hi.2.2.2]; omega

theorem final4 (c : Dev nD) : (dats m 0 c).arrAt 4 cfg0.N = result4 m c :=
  (dats m 0 c).arrAt_eq_of_cover 4 (result4 m c) (fun t _ => flushed4_eq m c t) cover4

theorem final5 (c : Dev nD) : (dats m 0 c).arrAt 5 cfg0.N = result5 m c :=
  (dats m 0 c).arrAt_eq_of_cover 5 (result5 m c) (fun t _ => flushed5_eq m c t) cover5

/-- The kernel and the reference end with equal weighted values and equal statistics. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨fun c => result4 m c, fun c => result5 m c,
    (θ_run _ _ _).mono (fun r h c => ⟨((h c).1).trans (final4 m c), ((h c).2.1).trans (final5 m c), (h c).2.2⟩) (run_blocks (F := Ideal) m g),
    (θ_run _ _ _).mono (fun r h c => ⟨((h c).1).trans ?_, ((h c).2.1).trans ?_, (h c).2.2⟩) (Cert.ReferenceIdeal.Value.run (F := Ideal) m' g')⟩
  · funext y
    obtain ⟨b, d, l, ch, rfl⟩ : ∃ (b : Fin 8) (d : Fin 4) (l : Fin 512) (ch : Fin 1024), y = ix4 b d l ch := ⟨y 0, y 1, y 2, y 3, eq_ix4 y⟩
    refine (Cert.ReferenceIdeal.Value.num_apply m' c b d l ch).trans ?_
    rw [(hag c).1, (hag c).2]
    rfl
  · funext y
    obtain ⟨b, d, l, ln, rfl⟩ : ∃ (b : Fin 8) (d : Fin 4) (l : Fin 512) (ln : Fin 128), y = ix4 b d l ln := ⟨y 0, y 1, y 2, y 3, eq_ix4 y⟩
    refine (Cert.ReferenceIdeal.Value.stat_apply m' c b d l ln).trans ?_
    rw [(hag c).1, (hag c).2]
    rfl

end Cert.KernelIdeal.Value

end
-- ==== Proof.InProjAtt.lean ====
module

public import proofs.«01_k».proof.Proof.Gen.InProjIdeal.Launch
public import proofs.«01_k».proof.Proof.Gen.InProjIdeal.Skeleton
public import proofs.«01_k».proof.Proof.Gen.InProjIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The attention branch of the body: what the points of the first six column blocks run. -/
def attBody (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S16x2048 .bf16) (harg5 : arg5.IsWhole) (arg6 : Memref sig .tc .vmem S16x1 .f32) (harg6 : arg6.IsWhole) (arg7 : Memref sig .tc .vmem S1x1x1024x512 .bf16) (harg7 : arg7.IsWhole) (arg8 : Memref sig .tc .vmem S1x4x256x512 .bf16) (harg8 : arg8.IsWhole) (arg9 : Memref sig .tc .vmem S1x16x64x512 .bf16) (harg9 : arg9.IsWhole) (arg10 : Memref sig .tc .vmem S1024x512 .f32) (harg10 : arg10.IsWhole) (arg11 : Memref sig .tc .vmem S1024x512 .bf16) (harg11 : arg11.IsWhole) (arg12 : Memref sig .tc .vmem S1024x512 .f32) (harg12 : arg12.IsWhole) (arg13 : Memref sig .tc .vmem S16x1024 .f32) (harg13 : arg13.IsWhole) (arg14 : Memref sig .tc .vmem S1024x2048 .bf16) (harg14 : arg14.IsWhole) (arg15 : Memref sig .tc .vmem S4x1024x128 .f32) (harg15 : arg15.IsWhole) :
    Prog (TpuEff nD τ sig (Elt F) Λ₀ .tc) PUnit := do
  let v1569 : FVec F S64x128 .bf16 ← k0_part79 i arg2 harg2 arg3 harg3 arg4 harg4 arg5 harg5 arg6 harg6 arg7 harg7 arg8 harg8 arg9 harg9 arg10 harg10 arg11 harg11 arg12 harg12 arg13 harg13 arg14 harg14 arg15 harg15
  k0_part61 i arg2 harg2 arg3 harg3 arg4 harg4 arg5 harg5 arg6 harg6 arg7 harg7 arg8 harg8 arg9 harg9 arg10 harg10 arg11 harg11 arg12 harg12 arg13 harg13 arg14 harg14 arg15 harg15 v1569
  let v1623 : FVec F S64x128 .bf16 ← k0_part62 i arg2 harg2 arg3 harg3 arg4 harg4 arg5 harg5 arg6 harg6 arg7 harg7 arg8 harg8 arg9 harg9 arg10 harg10 arg11 harg11 arg12 harg12 arg13 harg13 arg14 harg14 arg15 harg15
  let v1647 : FVec F S64x128 .bf16 ← k0_part63 i arg2 harg2 arg3 harg3 arg4 harg4 arg5 harg5 arg6 harg6 arg7 harg7 arg8 harg8 arg9 harg9 arg10 harg10 arg11 harg11 arg12 harg12 arg13 harg13 arg14 harg14 arg15 harg15 v1623
  k0_part64 i arg2 harg2 arg3 harg3 arg4 harg4 arg5 harg5 arg6 harg6 arg7 harg7 arg8 harg8 arg9 harg9 arg10 harg10 arg11 harg11 arg12 harg12 arg13 harg13 arg14 harg14 arg15 harg15 v1647
  let v1699 : Vec F S1x16x128 .f32 ← k0_part65 i arg2 harg2 arg3 harg3 arg4 harg4 arg5 harg5 arg6 harg6 arg7 harg7 arg8 harg8 arg9 harg9 arg10 harg10 arg11 harg11 arg12 harg12 arg13 harg13 arg14 harg14 arg15 harg15
  let v1725 : FVec F S16x128 .bf16 ← k0_part66 i arg2 harg2 arg3 harg3 arg4 harg4 arg5 harg5 arg6 harg6 arg7 harg7 arg8 harg8 arg9 harg9 arg10 harg10 arg11 harg11 arg12 harg12 arg13 harg13 arg14 harg14 arg15 harg15 v1699
  let v1749 : FVec F S16x128 .bf16 ← k0_part67 i arg2 harg2 arg3 harg3 arg4 harg4 arg5 harg5 arg6 harg6 arg7 harg7 arg8 harg8 arg9 harg9 arg10 harg10 arg11 harg11 arg12 harg12 arg13 harg13 arg14 harg14 arg15 harg15 v1725
  k0_part68 i arg2 harg2 arg3 harg3 arg4 harg4 arg5 harg5 arg6 harg6 arg7 harg7 arg8 harg8 arg9 harg9 arg10 harg10 arg11 harg11 arg12 harg12 arg13 harg13 arg14 harg14 arg15 harg15 v1749
  let v1803 : FVec F S16x128 .bf16 ← k0_part69 i arg2 harg2 arg3 harg3 arg4 harg4 arg5 harg5 arg6 harg6 arg7 harg7 arg8 harg8 arg9 harg9 arg10 harg10 arg11 harg11 arg12 harg12 arg13 harg13 arg14 harg14 arg15 harg15
  let v1827 : FVec F S16x128 .bf16 ← k0_part70 i arg2 harg2 arg3 harg3 arg4 harg4 arg5 harg5 arg6 harg6 arg7 harg7 arg8 harg8 arg9 harg9 arg10 harg10 arg11 harg11 arg12 harg12 arg13 harg13 arg14 harg14 arg15 harg15 v1803
  k0_part71 i arg2 harg2 arg3 harg3 arg4 harg4 arg5 harg5 arg6 harg6 arg7 harg7 arg8 harg8 arg9 harg9 arg10 harg10 arg11 harg11 arg12 harg12 arg13 harg13 arg14 harg14 arg15 harg15 v1827
  let v1879 : Vec F S1x16x128 .f32 ← k0_part72 i arg2 harg2 arg3 harg3 arg4 harg4 arg5 harg5 arg6 harg6 arg7 harg7 arg8 harg8 arg9 harg9 arg10 harg10 arg11 harg11 arg12 harg12 arg13 harg13 arg14 harg14 arg15 harg15
  let v1905 : FVec F S16x128 .bf16 ← k0_part73 i arg2 harg2 arg3 harg3 arg4 harg4 arg5 harg5 arg6 harg6 arg7 harg7 arg8 harg8 arg9 harg9 arg10 harg10 arg11 harg11 arg12 harg12 arg13 harg13 arg14 harg14 arg15 harg15 v1879
  let v1929 : FVec F S16x128 .bf16 ← k0_part74 i arg2 harg2 arg3 harg3 arg4 harg4 arg5 harg5 arg6 harg6 arg7 harg7 arg8 harg8 arg9 harg9 arg10 harg10 arg11 harg11 arg12 harg12 arg13 harg13 arg14 harg14 arg15 harg15 v1905
  k0_part75 i arg2 harg2 arg3 harg3 arg4 harg4 arg5 harg5 arg6 harg6 arg7 harg7 arg8 harg8 arg9 harg9 arg10 harg10 arg11 harg11 arg12 harg12 arg13 harg13 arg14 harg14 arg15 harg15 v1929
  let v1983 : FVec F S16x128 .bf16 ← k0_part76 i arg2 harg2 arg3 harg3 arg4 harg4 arg5 harg5 arg6 harg6 arg7 harg7 arg8 harg8 arg9 harg9 arg10 harg10 arg11 harg11 arg12 harg12 arg13 harg13 arg14 harg14 arg15 harg15
  let v2007 : FVec F S16x128 .bf16 ← k0_part77 i arg2 harg2 arg3 harg3 arg4 harg4 arg5 harg5 arg6 harg6 arg7 harg7 arg8 harg8 arg9 harg9 arg10 harg10 arg11 harg11 arg12 harg12 arg13 harg13 arg14 harg14 arg15 harg15 v1983
  k0_part78 i arg2 harg2 arg3 harg3 arg4 harg4 arg5 harg5 arg6 harg6 arg7 harg7 arg8 harg8 arg9 harg9 arg10 harg10 arg11 harg11 arg12 harg12 arg13 harg13 arg14 harg14 arg15 harg15 v2007
  pure ⟨⟩

set_option maxHeartbeats 20000000 in
/-- The pieces the attention branch of the body leaves in the three results it stores and in the
    staging scratch, with the proof that it runs to them from the normalised rows `h` and the
    weight block `w`. -/
def attRun (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S16x2048 .bf16) (harg5 : arg5.IsWhole) (arg6 : Memref sig .tc .vmem S16x1 .f32) (harg6 : arg6.IsWhole) (arg7 : Memref sig .tc .vmem S1x1x1024x512 .bf16) (harg7 : arg7.IsWhole) (arg8 : Memref sig .tc .vmem S1x4x256x512 .bf16) (harg8 : arg8.IsWhole) (arg9 : Memref sig .tc .vmem S1x16x64x512 .bf16) (harg9 : arg9.IsWhole) (arg10 : Memref sig .tc .vmem S1024x512 .f32) (harg10 : arg10.IsWhole) (arg11 : Memref sig .tc .vmem S1024x512 .bf16) (harg11 : arg11.IsWhole) (arg12 : Memref sig .tc .vmem S1024x512 .f32) (harg12 : arg12.IsWhole) (arg13 : Memref sig .tc .vmem S16x1024 .f32) (harg13 : arg13.IsWhole) (arg14 : Memref sig .tc .vmem S1024x2048 .bf16) (harg14 : arg14.IsWhole) (arg15 : Memref sig .tc .vmem S4x1024x128 .f32) (harg15 : arg15.IsWhole)
    (w : Vec F S2048x512 .bf16) (h : Vec F S1024x2048 .bf16) :
    Σ' (L5 : List (View.Piece (Elt F) S1x1x1024x512 .bf16)), Σ' (L6 : List (View.Piece (Elt F) S1x4x256x512 .bf16)),
      Σ' (L7 : List (View.Piece (Elt F) S1x16x64x512 .bf16)), { LZ : List (View.Piece (Elt F) S4x1024x128 .f32) //
      ∀ (E : Set ℕ) (K : PUnit → sProp 𝕄),
        iprop(owns (c : Thread nD τ) arg4 fullShare w ∗ owns (c : Thread nD τ) arg14 fullShare h
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg15 fullShare d)
            ∗ (iprop(owns (c : Thread nD τ) arg4 fullShare w ∗ owns (c : Thread nD τ) arg14 fullShare h
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg15.view.loc (c : Thread nD τ) ↦[arg15.view.set]{fullShare} arg15.view.writes (Elt F) f LZ)) -∗ K ⟨⟩))
          ⊢ wp frame (wpE (defs₀ (F := F)) Variants.none c none) E
              (attBody i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    unfold attBody
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part1_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part2_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part3_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part4_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part5_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part6_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part7_eq_skeleton, k0_part8_eq_skeleton, k0_part9_eq_skeleton]
    unfold owns
    iintro ⟨⟨%f4, %hf4, H4⟩, ⟨%f14, %hf14, H14⟩, ⟨%d7, %f7, -, H7⟩, ⟨%d8, %f8, -, H8⟩, ⟨%d9, %f9, -, H9⟩, ⟨%d15, %f15, -, H15⟩, Hk⟩
    obtain rfl := harg4.eq_unread hf4; obtain rfl := harg14.eq_unread hf14
    sl_exec
    sl_step
    iapply Hk
    isplitl [H4]
    · iexists _; isplitr; · ipureintro; exact harg4.read_unread _
      iexact H4
    isplitl [H14]
    · iexists _; isplitr; · ipureintro; exact harg14.read_unread _
      iexact H14
    isplitl [H7]; · iexists _; iexact H7
    isplitl [H8]; · iexists _; iexact H8
    isplitl [H9]; · iexists _; iexact H9
    iexists _; iexact H15

end Cert.InProjIdeal.Gen

end
-- ==== Proof.InProjRuns.lean ====
module

public import proofs.«01_k».proof.Proof.InProjAtt
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## @main up to the launch -/

section Prefix

variable (m : (ℓ : Loc nD τ sig) → Buf (Elt F) ℓ) (ρ : Dev nD → PrngReg)

/-- Core `c`'s buffers when the launch is entered, after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the launch: the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write none of the four arguments. -/
theorem V_arg (c : Dev nD) (b : Ref sig .tc) (hb : b = main_arg0 ∨ b = main_arg1 ∨ b = main_arg2 ∨ b = main_arg3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals (rcases hb with rfl | rfl | rfl | rfl <;> exact StableHlo.devRef_ne_of_ne (by decide))))

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Prefix

/-! ## The branch conditions, by the point's column block -/

/-- The column block of a point. -/
abbrev colBlk (t : Fin cfg0.N) : ℕ := t.val % 14

theorem hcond1 (t : Fin cfg0.N) : k0_cond1 (grid0.coords t) = 1#1 ↔ colBlk t = 0 := by
  have ht : t.val < 224 := Nat.lt_of_lt_of_eq t.isLt N_0
  have e1 : (grid0.coords t 1).val = t.val / 1 % 14 := Pipeline.Grid.coords_val t 1 (by decide) rfl
  simp only [k0_cond1, e1, colBlk]
  word_cmp

theorem hcond2 (t : Fin cfg0.N) : k0_cond2 (grid0.coords t) = 1#1 ↔ colBlk t < 6 := by
  have ht : t.val < 224 := Nat.lt_of_lt_of_eq t.isLt N_0
  have e1 : (grid0.coords t 1).val = t.val / 1 % 14 := Pipeline.Grid.coords_val t 1 (by decide) rfl
  simp only [k0_cond2, e1, colBlk]
  word_cmp

theorem hcond3 (t : Fin cfg0.N) : k0_cond3 (grid0.coords t) = 1#1 ↔ 6 ≤ colBlk t ∧ colBlk t < 10 := by
  have ht : t.val < 224 := Nat.lt_of_lt_of_eq t.isLt N_0
  have e1 : (grid0.coords t 1).val = t.val / 1 % 14 := Pipeline.Grid.coords_val t 1 (by decide) rfl
  simp only [k0_cond3, e1, colBlk]
  word_cmp

theorem hcond4 (t : Fin cfg0.N) : k0_cond4 (grid0.coords t) = 1#1 ↔ 10 ≤ colBlk t ∧ colBlk t < 12 := by
  have ht : t.val < 224 := Nat.lt_of_lt_of_eq t.isLt N_0
  have e1 : (grid0.coords t 1).val = t.val / 1 % 14 := Pipeline.Grid.coords_val t 1 (by decide) rfl
  simp only [k0_cond4, e1, colBlk]
  word_cmp

theorem hcond5 (t : Fin cfg0.N) : k0_cond5 (grid0.coords t) = 1#1 ↔ 12 ≤ colBlk t := by
  have ht : t.val < 224 := Nat.lt_of_lt_of_eq t.isLt N_0
  have e1 : (grid0.coords t 1).val = t.val / 1 % 14 := Pipeline.Grid.coords_val t 1 (by decide) rfl
  simp only [k0_cond5, e1, colBlk]
  word_cmp

/-! ## The staging memrefs at a point -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x2048 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1024x512 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x4x256x512 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x16x64x512 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x512 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1024x512 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S16x1024 .f32 := win0_11.stage (cfg0.slots t 11)
abbrev hs11 (t : Fin cfg0.N) : (ms11 t).IsWhole := hstage0_11 ((cfg0.slots t 11).cast nbuf0_11)
/-- The scratch buffers: the normalised rows, and the staging of a column block. -/
abbrev scH : Memref sig .tc .vmem S1024x2048 .bf16 := Memref.whole cc0_scratch0
abbrev scZ : Memref sig .tc .vmem S4x1024x128 .f32 := Memref.whole cc0_scratch1

/-- The launch's own invariant, with the scratch buffers as memrefs owned at some contents. -/
theorem PhiA_eq (c : Dev nD) :
    (Pipeline.ΦA spec0 c : sProp 𝕄)
      = iprop(iprop((∃ d, owns (c : Thread nD τ) scH fullShare d) ∗ (∃ d, owns (c : Thread nD τ) scZ fullShare d)) ∗ (∃ r, prngReg c r)) := by
  unfold Pipeline.ΦA; rw [scopedRest0_eq]; simp only [scH, scZ, owns_whole]; try rfl

/-! ## The runs of the body -/

section Runs

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S2048x512 .bf16) (harg4 : arg4.IsWhole)
  (arg5 : Memref sig .tc .vmem S16x2048 .bf16) (harg5 : arg5.IsWhole)
  (arg6 : Memref sig .tc .vmem S16x1 .f32) (harg6 : arg6.IsWhole)
  (arg7 : Memref sig .tc .vmem S1x1x1024x512 .bf16) (harg7 : arg7.IsWhole)
  (arg8 : Memref sig .tc .vmem S1x4x256x512 .bf16) (harg8 : arg8.IsWhole)
  (arg9 : Memref sig .tc .vmem S1x16x64x512 .bf16) (harg9 : arg9.IsWhole)
  (arg10 : Memref sig .tc .vmem S1024x512 .f32) (harg10 : arg10.IsWhole)
  (arg11 : Memref sig .tc .vmem S1024x512 .bf16) (harg11 : arg11.IsWhole)
  (arg12 : Memref sig .tc .vmem S1024x512 .f32) (harg12 : arg12.IsWhole)
  (arg13 : Memref sig .tc .vmem S16x1024 .f32) (harg13 : arg13.IsWhole)
  (arg14 : Memref sig .tc .vmem S1024x2048 .bf16) (harg14 : arg14.IsWhole)
  (arg15 : Memref sig .tc .vmem S4x1024x128 .f32) (harg15 : arg15.IsWhole)

/-- The first branch of the body: the normalised rows and the gates of a row block. -/
def headBody : Prog (TpuEff nD τ sig (Elt F) Λ₀ .tc) PUnit := do
  let v19 : Vec F S1024x2048 .f32 ← Prog.lift (.load arg2 (Rect.unit (s := S1024x2048) ![0, 0] S1024x2048.size inb_S1024x2048_S1024x2048_0_0).toLoadRect (View.loadsAt_vmem h_S1024x2048))
  let v20 : Vec F S1x2048 .f32 ← Prog.lift (.load arg3 (Rect.unit (s := S1x2048) ![0, 0] S1x2048.size inb_S1x2048_S1x2048_0_0).toLoadRect (View.loadsAt_vmem h_S1x2048))
  let v35 : Vec F S1024x2048 .bf16 ← Prog.lift (.load arg14 (Rect.unit (s := S1024x2048) ![0, 0] S1024x2048.size inb_S1024x2048_S1024x2048_0_0).toLoadRect (View.loadsAt_vmem h_S1024x2048))
  Prog.lift (.store arg14 (Rect.unit (s := S1024x2048) ![0, 0] S1024x2048.size inb_S1024x2048_S1024x2048_0_0) (k0_pay2 v19 v20) Finset.univ (View.stores_vmem h_S1024x2048 (harg14.storeExact_slice rfl _ packedbf16_S1024x2048_S1024x2048_0_0) (fun _ => rfl)) (.inl rfl))
  let v38 : Vec F S16x2048 .bf16 ← Prog.lift (.load arg5 (Rect.unit (s := S16x2048) ![0, 0] S16x2048.size inb_S16x2048_S16x2048_0_0).toLoadRect (View.loadsAt_vmem h_S16x2048))
  let v41 : Vec F S16x1 .f32 ← Prog.lift (.load arg6 (Rect.unit (s := S16x1) ![0, 0] S16x1.size inb_S16x1_S16x1_0_0).toLoadRect (View.loadsAt_vmem h_S16x1))
  let v45 : Vec F S16x1024 .f32 ← Prog.lift (.load arg13 (Rect.unit (s := S16x1024) ![0, 0] S16x1024.size inb_S16x1024_S16x1024_0_0).toLoadRect (View.loadsAt_vmem h_S16x1024))
  Prog.lift (.store arg13 (Rect.unit (s := S16x1024) ![0, 0] S16x1024.size inb_S16x1024_S16x1024_0_0) (k0_pay3 v19 v20 v38 v41) Finset.univ (View.stores_vmem_bits_univ h_S16x1024 rfl) (.inl rfl))
  pure ⟨⟩

theorem zero2 : (![0, 0] : Fin 2 → ℕ) = fun _ => 0 := by
  funext a; fin_cases a <;> rfl

/-- A single store over a whole buffer of two axes leaves its payload. -/
theorem read_whole {S : Shape} {e : EltTy} (v : View sig .tc .vmem S e) (f : v.ty.Contents (Elt F)) {off : Fin S.rank → ℕ} (h : off = fun _ => 0)
    (inb : ∀ a, off a + S.size a ≤ S.size a) (x : (Rect.unit off S.size inb).shape.Idx → Elt F e) :
    v.read (Elt F) (v.writes (Elt F) f [⟨Rect.unit off S.size inb, x⟩]) = x := by
  subst h; exact View.read_writes_whole v f x

set_option maxHeartbeats 1000000 in
include harg2 harg3 harg5 harg6 in
/-- The first branch leaves the normalised rows in the scratch and the gates in their result. -/
theorem headRun (x0 : Vec F S1024x2048 .f32) (x1 : Vec F S1x2048 .f32) (x3 : Vec F S16x2048 .bf16) (x4 : Vec F S16x1 .f32)
    (E : Set ℕ) (K : PUnit → sProp 𝕄) :
    iprop(owns (c : Thread nD τ) arg2 fullShare x0 ∗ owns (c : Thread nD τ) arg3 fullShare x1
        ∗ owns (c : Thread nD τ) arg5 fullShare x3 ∗ owns (c : Thread nD τ) arg6 fullShare x4
        ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1
            ∗ owns (c : Thread nD τ) arg5 fullShare x3 ∗ owns (c : Thread nD τ) arg6 fullShare x4
            ∗ owns (c : Thread nD τ) arg13 fullShare (k0_pay3 x0 x1 x3 x4) ∗ owns (c : Thread nD τ) arg14 fullShare (k0_pay2 x0 x1)) -∗ K ⟨⟩))
      ⊢ wp frame (wpE (defs₀ (F := F)) Variants.none c none) E (headBody arg2 arg3 arg5 arg6 arg13 arg14 harg14) K := by
  unfold headBody
  unfold owns
  iintro ⟨⟨%f2, %hf2, H2⟩, ⟨%f3, %hf3, H3⟩, ⟨%f5, %hf5, H5⟩, ⟨%f6, %hf6, H6⟩, ⟨%d13, %f13, -, H13⟩, ⟨%d14, %f14, -, H14⟩, Hk⟩
  obtain rfl := harg2.eq_unread hf2; obtain rfl := harg3.eq_unread hf3
  obtain rfl := harg5.eq_unread hf5; obtain rfl := harg6.eq_unread hf6
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6
  isplitl [H13]
  · iexists _; isplitr
    swap; · iexact H13
    ipureintro
    refine (read_whole _ _ zero2 _ _).trans ?_
    simp only [View.readAt_eq_ld, harg2.read_unread, harg3.read_unread, harg5.read_unread, harg6.read_unread,
      View.ld_unit_zero (S := S1024x2048) zero2, View.ld_unit_zero (S := S1x2048) zero2, View.ld_unit_zero (S := S16x2048) zero2,
      View.ld_unit_zero (S := S16x1) zero2]
  · iexists _; isplitr
    swap; · iexact H14
    ipureintro
    refine (read_whole _ _ zero2 _ _).trans ?_
    simp only [View.readAt_eq_ld, harg2.read_unread, harg3.read_unread,
      View.ld_unit_zero (S := S1024x2048) zero2, View.ld_unit_zero (S := S1x2048) zero2]

set_option maxHeartbeats 1000000 in
/-- The pieces the body leaves in the query and key columns of the recurrence, with the proof that it runs to them. -/
def midRun (hc1 : ¬ k0_cond1 i = 1#1) (hc2 : ¬ k0_cond2 i = 1#1) (hc3 : k0_cond3 i = 1#1) (hc4 : ¬ k0_cond4 i = 1#1) (hc5 : ¬ k0_cond5 i = 1#1)
    (w : Vec F S2048x512 .bf16) (h : Vec F S1024x2048 .bf16) :
    { L : List (View.Piece (Elt F) S1024x512 .f32) //
      ∀ (E : Set ℕ) (K : PUnit → sProp 𝕄),
        iprop(owns (c : Thread nD τ) arg4 fullShare w ∗ owns (c : Thread nD τ) arg14 fullShare h
            ∗ (∃ d, owns (c : Thread nD τ) arg10 fullShare d)
            ∗ (iprop(owns (c : Thread nD τ) arg4 fullShare w ∗ owns (c : Thread nD τ) arg14 fullShare h
                ∗ (∃ f, arg10.view.loc (c : Thread nD τ) ↦[arg10.view.set]{fullShare} arg10.view.writes (Elt F) f L)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_in_proj_eq_skeleton]; unfold cc0_in_proj_skel
    unfold owns
    iintro ⟨⟨%f4, %hf4, H4⟩, ⟨%f14, %hf14, H14⟩, ⟨%d, %f, -, H⟩, Hk⟩
    obtain rfl := harg4.eq_unread hf4; obtain rfl := harg14.eq_unread hf14
    sl_exec (disch := first | sl_exact hc1 | sl_exact hc2 | sl_exact hc3 | sl_exact hc4 | sl_exact hc5)
    sl_step
    iapply Hk
    isplitl [H4]
    · iexists _; isplitr; · ipureintro; exact harg4.read_unread _
      iexact H4
    isplitl [H14]
    · iexists _; isplitr; · ipureintro; exact harg14.read_unread _
      iexact H14
    iexists _; iexact H

set_option maxHeartbeats 1000000 in
/-- The pieces the body leaves in the value columns of the recurrence, with the proof that it runs to them. -/
def valRun (hc1 : ¬ k0_cond1 i = 1#1) (hc2 : ¬ k0_cond2 i = 1#1) (hc3 : ¬ k0_cond3 i = 1#1) (hc4 : k0_cond4 i = 1#1) (hc5 : ¬ k0_cond5 i = 1#1)
    (w : Vec F S2048x512 .bf16) (h : Vec F S1024x2048 .bf16) :
    { L : List (View.Piece (Elt F) S1024x512 .bf16) //
      ∀ (E : Set ℕ) (K : PUnit → sProp 𝕄),
        iprop(owns (c : Thread nD τ) arg4 fullShare w ∗ owns (c : Thread nD τ) arg14 fullShare h
            ∗ (∃ d, owns (c : Thread nD τ) arg11 fullShare d)
            ∗ (iprop(owns (c : Thread nD τ) arg4 fullShare w ∗ owns (c : Thread nD τ) arg14 fullShare h
                ∗ (∃ f, arg11.view.loc (c : Thread nD τ) ↦[arg11.view.set]{fullShare} arg11.view.writes (Elt F) f L)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_in_proj_eq_skeleton]; unfold cc0_in_proj_skel
    unfold owns
    iintro ⟨⟨%f4, %hf4, H4⟩, ⟨%f14, %hf14, H14⟩, ⟨%d, %f, -, H⟩, Hk⟩
    obtain rfl := harg4.eq_unread hf4; obtain rfl := harg14.eq_unread hf14
    sl_exec (disch := first | sl_exact hc1 | sl_exact hc2 | sl_exact hc3 | sl_exact hc4 | sl_exact hc5)
    sl_step
    iapply Hk
    isplitl [H4]
    · iexists _; isplitr; · ipureintro; exact harg4.read_unread _
      iexact H4
    isplitl [H14]
    · iexists _; isplitr; · ipureintro; exact harg14.read_unread _
      iexact H14
    iexists _; iexact H

set_option maxHeartbeats 1000000 in
/-- The pieces the body leaves in the output gate columns of the recurrence, with the proof that it runs to them. -/
def outRun (hc1 : ¬ k0_cond1 i = 1#1) (hc2 : ¬ k0_cond2 i = 1#1) (hc3 : ¬ k0_cond3 i = 1#1) (hc4 : ¬ k0_cond4 i = 1#1) (hc5 : k0_cond5 i = 1#1)
    (w : Vec F S2048x512 .bf16) (h : Vec F S1024x2048 .bf16) :
    { L : List (View.Piece (Elt F) S1024x512 .f32) //
      ∀ (E : Set ℕ) (K : PUnit → sProp 𝕄),
        iprop(owns (c : Thread nD τ) arg4 fullShare w ∗ owns (c : Thread nD τ) arg14 fullShare h
            ∗ (∃ d, owns (c : Thread nD τ) arg12 fullShare d)
            ∗ (iprop(owns (c : Thread nD τ) arg4 fullShare w ∗ owns (c : Thread nD τ) arg14 fullShare h
                ∗ (∃ f, arg12.view.loc (c : Thread nD τ) ↦[arg12.view.set]{fullShare} arg12.view.writes (Elt F) f L)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_in_proj_eq_skeleton]; unfold cc0_in_proj_skel
    unfold owns
    iintro ⟨⟨%f4, %hf4, H4⟩, ⟨%f14, %hf14, H14⟩, ⟨%d, %f, -, H⟩, Hk⟩
    obtain rfl := harg4.eq_unread hf4; obtain rfl := harg14.eq_unread hf14
    sl_exec (disch := first | sl_exact hc1 | sl_exact hc2 | sl_exact hc3 | sl_exact hc4 | sl_exact hc5)
    sl_step
    iapply Hk
    isplitl [H4]
    · iexists _; isplitr; · ipureintro; exact harg4.read_unread _
      iexact H4
    isplitl [H14]
    · iexists _; isplitr; · ipureintro; exact harg14.read_unread _
      iexact H14
    iexists _; iexact H

set_option maxRecDepth 65536 in
/-- On the other column blocks of the attention the body is the attention branch. -/
theorem body_att (hc1 : ¬ k0_cond1 i = 1#1) (hc2 : k0_cond2 i = 1#1) (hc3 : ¬ k0_cond3 i = 1#1) (hc4 : ¬ k0_cond4 i = 1#1) (hc5 : ¬ k0_cond5 i = 1#1) (E : Set ℕ) (K : PUnit → sProp 𝕄) :
    wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15) K
      = wp frame (wpE (defs₀ (F := F)) Variants.none c none) E (attBody i arg2 harg2 arg3 harg3 arg4 harg4 arg5 harg5 arg6 harg6 arg7 harg7 arg8 harg8 arg9 harg9 arg10 harg10 arg11 harg11 arg12 harg12 arg13 harg13 arg14 harg14 arg15 harg15 >>= fun _ => pure ⟨⟩) K := by
  rw [cc0_in_proj_eq_skeleton]; unfold cc0_in_proj_skel
  rw [dif_neg hc1, dif_pos hc2, dif_neg hc3, dif_neg hc4, dif_neg hc5]
  simp only [pure_bind]
  unfold attBody
  rfl

set_option maxRecDepth 65536 in
/-- On the first column block the body is the first branch, then the attention branch. -/
theorem body_first (hc1 : k0_cond1 i = 1#1) (hc2 : k0_cond2 i = 1#1) (hc3 : ¬ k0_cond3 i = 1#1) (hc4 : ¬ k0_cond4 i = 1#1) (hc5 : ¬ k0_cond5 i = 1#1) (E : Set ℕ) (K : PUnit → sProp 𝕄) :
    wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15) K
      = wp frame (wpE (defs₀ (F := F)) Variants.none c none) E
          (headBody arg2 arg3 arg5 arg6 arg13 arg14 harg14 >>= fun _ => attBody i arg2 harg2 arg3 harg3 arg4 harg4 arg5 harg5 arg6 harg6 arg7 harg7 arg8 harg8 arg9 harg9 arg10 harg10 arg11 harg11 arg12 harg12 arg13 harg13 arg14 harg14 arg15 harg15 >>= fun _ => pure ⟨⟩) K := by
  rw [cc0_in_proj_eq_skeleton]; unfold cc0_in_proj_skel
  rw [dif_pos hc1, dif_pos hc2, dif_neg hc3, dif_neg hc4, dif_neg hc5]
  simp only [pure_bind]
  unfold headBody attBody
  rfl

end Runs

end Cert.InProjIdeal.Gen

end
-- ==== Proof.InProjData.lean ====
module

public import proofs.«01_k».proof.Proof.InProjRuns
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the results hold after each point -/

/-- The point of `t`'s row block whose column block is the nearest to `t`'s between `lo` and `hi`. -/
def clamp (lo hi : ℕ) (h : lo ≤ hi ∧ hi ≤ 13) (t : Fin cfg0.N) : Fin cfg0.N :=
  ⟨14 * (t.val / 14) + max lo (min (t.val % 14) hi), by
    have ht : t.val < 224 := Nat.lt_of_lt_of_eq t.isLt N_0
    have : cfg0.N = 224 := N_0
    omega⟩

theorem clamp_col (lo hi : ℕ) (h : lo ≤ hi ∧ hi ≤ 13) (t : Fin cfg0.N) : lo ≤ colBlk (clamp lo hi h t) ∧ colBlk (clamp lo hi h t) ≤ hi := by
  simp only [colBlk, clamp]; omega

theorem clamp_eq (lo hi : ℕ) (h : lo ≤ hi ∧ hi ≤ 13) (t : Fin cfg0.N) (ht : lo ≤ colBlk t ∧ colBlk t ≤ hi) : clamp lo hi h t = t := by
  apply Fin.ext; simp only [colBlk, clamp] at *; omega

/-- The point before one that does not start a row block. -/
abbrev prev (t : Fin cfg0.N) : Fin cfg0.N := ⟨t.val - 1, Nat.lt_of_le_of_lt (Nat.sub_le _ _) t.isLt⟩

theorem clamp_prev (lo hi : ℕ) (h : lo ≤ hi ∧ hi ≤ 13) (t : Fin cfg0.N) (ht : hi < colBlk t) :
    clamp lo hi h (prev t) = clamp lo hi h t := by
  apply Fin.ext; simp only [colBlk, clamp, prev] at *; omega

/-- The normalised rows of `t`'s row block. -/
def rowsH (c : Dev nD) (t : Fin cfg0.N) : Vec F S1024x2048 .bf16 :=
  k0_pay2 (iblk m c 0 (clamp 0 0 (by omega) t)) (iblk m c 1 (clamp 0 0 (by omega) t))

/-- The pieces of the attention results at point `s`. -/
abbrev attAt (c : Dev nD) (s : Fin cfg0.N) := attRun (F := F) c (grid0.coords s) (ms0 s) (hs0 s) (ms1 s) (hs1 s) (ms2 s) (hs2 s) (ms3 s) (hs3 s) (ms4 s) (hs4 s) (ms5 s) (hs5 s) (ms6 s) (hs6 s) (ms7 s) (hs7 s) (ms8 s) (hs8 s) (ms9 s) (hs9 s) (ms10 s) (hs10 s) (ms11 s) (hs11 s) scH (Memref.isWhole_whole _) scZ (Memref.isWhole_whole _) (iblk m c 2 s) (rowsH m c s)

theorem att_cover5 (c : Dev nD) (s : Fin cfg0.N) (y : S1x1x1024x512.Idx) : ∃ p ∈ (attAt m c s).1, y ∈ p.1.set :=
  View.cover_of_tiledL (attAt m c s).1 S1x1x256x512.size (by sl_kernel_rfl) y
theorem att_cover6 (c : Dev nD) (s : Fin cfg0.N) (y : S1x4x256x512.Idx) : ∃ p ∈ (attAt m c s).2.1, y ∈ p.1.set :=
  View.cover_of_tiledL (attAt m c s).2.1 S1x1x64x128.size (by sl_kernel_rfl) y
theorem att_cover7 (c : Dev nD) (s : Fin cfg0.N) (y : S1x16x64x512.Idx) : ∃ p ∈ (attAt m c s).2.2.1, y ∈ p.1.set :=
  View.cover_of_tiledL (attAt m c s).2.2.1 S1x1x16x128.size (by sl_kernel_rfl) y

/-- The pieces of result window 8 at a point `s` that stores it. -/
abbrev midAt (c : Dev nD) (s : Fin cfg0.N) (h : 6 ≤ colBlk s ∧ colBlk s < 10) :=
  midRun (F := F) c (grid0.coords s) (ms0 s) (hs0 s) (ms1 s) (hs1 s) (ms2 s) (hs2 s) (ms3 s) (hs3 s) (ms4 s) (hs4 s) (ms5 s) (hs5 s) (ms6 s) (hs6 s) (ms7 s) (hs7 s) (ms8 s) (hs8 s) (ms9 s) (hs9 s) (ms10 s) (hs10 s) (ms11 s) (hs11 s) scH (Memref.isWhole_whole _) scZ (Memref.isWhole_whole _)
    (fun hc => by have := (hcond1 s).mp hc; omega) (fun hc => by have := (hcond2 s).mp hc; omega) ((hcond3 s).mpr h) (fun hc => by have := (hcond4 s).mp hc; omega) (fun hc => by have := (hcond5 s).mp hc; omega)
    (iblk m c 2 s) (rowsH m c s)

theorem mid_cover (c : Dev nD) (s : Fin cfg0.N) (h : 6 ≤ colBlk s ∧ colBlk s < 10) (y : S1024x512.Idx) : ∃ p ∈ (midAt m c s h).1, y ∈ p.1.set :=
  View.cover_of_tiledL (midAt m c s h).1 S256x512.size (by sl_kernel_rfl) y

/-- What result window 8 holds after point `t`: the last point of the row block that stored it. -/
def after8v (c : Dev nD) (t : Fin cfg0.N) : Vec F S1024x512 .f32 :=
  View.canon (midAt m c (clamp 6 9 (by omega) t) (by have := clamp_col 6 9 (by omega) t; omega)).1

theorem after8v_live (c : Dev nD) (s : Fin cfg0.N) (h : 6 ≤ colBlk s ∧ colBlk s < 10) : after8v m c s = View.canon (midAt m c s h).1 := by
  have key : ∀ u : Fin cfg0.N, u = s → ∀ hu, View.canon (midAt m c u hu).1 = View.canon (midAt m c s h).1 := by
    rintro _ rfl _; rfl
  exact key _ (clamp_eq _ _ _ s (by have e : colBlk s = s.val % 14 := rfl; omega)) _

/-- The pieces of result window 9 at a point `s` that stores it. -/
abbrev valAt (c : Dev nD) (s : Fin cfg0.N) (h : 10 ≤ colBlk s ∧ colBlk s < 12) :=
  valRun (F := F) c (grid0.coords s) (ms0 s) (hs0 s) (ms1 s) (hs1 s) (ms2 s) (hs2 s) (ms3 s) (hs3 s) (ms4 s) (hs4 s) (ms5 s) (hs5 s) (ms6 s) (hs6 s) (ms7 s) (hs7 s) (ms8 s) (hs8 s) (ms9 s) (hs9 s) (ms10 s) (hs10 s) (ms11 s) (hs11 s) scH (Memref.isWhole_whole _) scZ (Memref.isWhole_whole _)
    (fun hc => by have := (hcond1 s).mp hc; omega) (fun hc => by have := (hcond2 s).mp hc; omega) (fun hc => by have := (hcond3 s).mp hc; omega) ((hcond4 s).mpr h) (fun hc => by have := (hcond5 s).mp hc; omega)
    (iblk m c 2 s) (rowsH m c s)

theorem val_cover (c : Dev nD) (s : Fin cfg0.N) (h : 10 ≤ colBlk s ∧ colBlk s < 12) (y : S1024x512.Idx) : ∃ p ∈ (valAt m c s h).1, y ∈ p.1.set :=
  View.cover_of_tiledL (valAt m c s h).1 S256x512.size (by sl_kernel_rfl) y

/-- What result window 9 holds after point `t`: the last point of the row block that stored it. -/
def after9v (c : Dev nD) (t : Fin cfg0.N) : Vec F S1024x512 .bf16 :=
  View.canon (valAt m c (clamp 10 11 (by omega) t) (by have := clamp_col 10 11 (by omega) t; omega)).1

theorem after9v_live (c : Dev nD) (s : Fin cfg0.N) (h : 10 ≤ colBlk s ∧ colBlk s < 12) : after9v m c s = View.canon (valAt m c s h).1 := by
  have key : ∀ u : Fin cfg0.N, u = s → ∀ hu, View.canon (valAt m c u hu).1 = View.canon (valAt m c s h).1 := by
    rintro _ rfl _; rfl
  exact key _ (clamp_eq _ _ _ s (by have e : colBlk s = s.val % 14 := rfl; omega)) _

/-- The pieces of result window 10 at a point `s` that stores it. -/
abbrev outAt (c : Dev nD) (s : Fin cfg0.N) (h : 12 ≤ colBlk s) :=
  outRun (F := F) c (grid0.coords s) (ms0 s) (hs0 s) (ms1 s) (hs1 s) (ms2 s) (hs2 s) (ms3 s) (hs3 s) (ms4 s) (hs4 s) (ms5 s) (hs5 s) (ms6 s) (hs6 s) (ms7 s) (hs7 s) (ms8 s) (hs8 s) (ms9 s) (hs9 s) (ms10 s) (hs10 s) (ms11 s) (hs11 s) scH (Memref.isWhole_whole _) scZ (Memref.isWhole_whole _)
    (fun hc => by have := (hcond1 s).mp hc; omega) (fun hc => by have := (hcond2 s).mp hc; omega) (fun hc => by have := (hcond3 s).mp hc; omega) (fun hc => by have := (hcond4 s).mp hc; omega) ((hcond5 s).mpr h)
    (iblk m c 2 s) (rowsH m c s)

theorem out_cover (c : Dev nD) (s : Fin cfg0.N) (h : 12 ≤ colBlk s) (y : S1024x512.Idx) : ∃ p ∈ (outAt m c s h).1, y ∈ p.1.set :=
  View.cover_of_tiledL (outAt m c s h).1 S256x512.size (by sl_kernel_rfl) y

/-- What result window 10 holds after point `t`: the last point of the row block that stored it. -/
def after10v (c : Dev nD) (t : Fin cfg0.N) : Vec F S1024x512 .f32 :=
  View.canon (outAt m c (clamp 12 13 (by omega) t) (by have := clamp_col 12 13 (by omega) t; omega)).1

theorem after10v_live (c : Dev nD) (s : Fin cfg0.N) (h : 12 ≤ colBlk s) : after10v m c s = View.canon (outAt m c s h).1 := by
  have key : ∀ u : Fin cfg0.N, u = s → ∀ hu, View.canon (outAt m c u hu).1 = View.canon (outAt m c s h).1 := by
    rintro _ rfl _; rfl
  exact key _ (clamp_eq _ _ _ s (by have e : colBlk s = s.val % 14 := rfl; omega)) _

/-! ## The pipeline's proof data -/

/-- Between points: at the start of a row block the scratch buffers hold anything; inside one the
    normalised rows are in theirs. -/
def Phi (c : Dev nD) (n : ℕ) (hn : n ≤ cfg0.N) : sProp 𝕄 :=
  if h : n % 14 = 0 then Pipeline.ΦA spec0 c
  else iprop(iprop(owns (c : Thread nD τ) scH fullShare (rowsH m c ⟨n - 1, by omega⟩) ∗ (∃ d, owns (c : Thread nD τ) scZ fullShare d)) ∗ (∃ r, prngReg c r))

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => View.canon (attAt m c (clamp 0 5 (by omega) t)).1
    | ⟨6, _⟩ => View.canon (attAt m c (clamp 0 5 (by omega) t)).2.1
    | ⟨7, _⟩ => View.canon (attAt m c (clamp 0 5 (by omega) t)).2.2.1
    | ⟨8, _⟩ => after8v m c t
    | ⟨9, _⟩ => after9v m c t
    | ⟨10, _⟩ => after10v m c t
    | ⟨11, _⟩ => k0_pay3 (iblk m c 0 (clamp 0 0 (by omega) t)) (iblk m c 1 (clamp 0 0 (by omega) t))
        (iblk m c 3 (clamp 0 0 (by omega) t)) (iblk m c 4 (clamp 0 0 (by omega) t))
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = View.canon (attAt m c (clamp 0 5 (by omega) t)).1 := by dsimp only [dats]
theorem after6 (c : Dev nD) (t : Fin cfg0.N) : (dats m 0 c).after 6 t = View.canon (attAt m c (clamp 0 5 (by omega) t)).2.1 := by dsimp only [dats]
theorem after7 (c : Dev nD) (t : Fin cfg0.N) : (dats m 0 c).after 7 t = View.canon (attAt m c (clamp 0 5 (by omega) t)).2.2.1 := by dsimp only [dats]
theorem after8 (c : Dev nD) (t : Fin cfg0.N) : (dats m 0 c).after 8 t = after8v m c t := by dsimp only [dats]
theorem after9 (c : Dev nD) (t : Fin cfg0.N) : (dats m 0 c).after 9 t = after9v m c t := by dsimp only [dats]
theorem after10 (c : Dev nD) (t : Fin cfg0.N) : (dats m 0 c).after 10 t = after10v m c t := by dsimp only [dats]
theorem after11 (c : Dev nD) (t : Fin cfg0.N) : (dats m 0 c).after 11 t = k0_pay3 (iblk m c 0 (clamp 0 0 (by omega) t)) (iblk m c 1 (clamp 0 0 (by omega) t)) (iblk m c 3 (clamp 0 0 (by omega) t)) (iblk m c 4 (clamp 0 0 (by omega) t)) := by dsimp only [dats]

/-! An input's staging buffer holds its block at every point. -/

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## The points a result is not stored at -/

/-- A result whose last storing column block is `hi` holds it from there to the end of the row block. -/
theorem held (c : Dev nD) (w : Fin cfg0.W) (hi : ℕ) (hout : (cfg0.win w).isOut = true)
    (hlive : ∀ t, colBlk t = hi → cfg0.idle w (grid0.coords t) = false)
    (hidle : ∀ t, hi < colBlk t → cfg0.idle w (grid0.coords t) = true)
    (hfl : ∀ t : Fin cfg0.N, hi ≤ colBlk t → colBlk t < 13 → (cfg0.win w).flush t = false)
    (hclip : ∀ (i : cfg0.grid.Coords) a, (cfg0.win w).clip i a = none)
    (hafter : ∀ t, hi < colBlk t → (dats m 0 c).after w (prev t) = (dats m 0 c).after w t) :
    ∀ t : Fin cfg0.N, hi < colBlk t → ∀ d, (dats m 0 c).before w t d = (dats m 0 c).after w t := by
  intro t
  induction hn : t.val using Nat.strong_induction_on generalizing t with
  | _ n ih =>
    intro ht d
    have hp : colBlk (prev t) = colBlk t - 1 ∧ colBlk t < 14 := by
      have e : colBlk (prev t) = (t.val - 1) % 14 := rfl
      have e' : colBlk t = t.val % 14 := rfl
      omega
    have hf : (cfg0.win w).flush (prev t) = false := hfl (prev t) (by omega) (by omega)
    rw [(dats m 0 c).before_of_pos w t (by simp only [colBlk] at ht; omega) ((cfg0.win w).fetch_out hout t) d,
      hf, if_neg Bool.false_ne_true]
    unfold Dat.left
    by_cases hc : hi < colBlk (prev t)
    · rw [hidle _ hc]
      exact (ih (prev t).val (by have e : colBlk t = t.val % 14 := rfl; show t.val - 1 < n; omega) (prev t) rfl hc d).trans (hafter t ht)
    · have hl : cfg0.idle w (cfg0.grid.coords (prev t)) = false := hlive (prev t) (by omega)
      rw [hl]
      show (dats m 0 c).kept w (prev t) d = _
      unfold Dat.kept
      rw [Pipeline.fill_of_clip_none w _ (hclip _) d ((dats m 0 c).after w _), Window.fill_cut]
      exact hafter t ht

/-- What the body leaves of a window. -/
def leaves (c : Dev nD) (t : Fin cfg0.N) (w : Fin cfg0.W) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

/-- A window the body stored is left at the stored contents. -/
theorem leaves_stored (c : Dev nD) (t : Fin cfg0.N) (w : Fin cfg0.W) (h : cfg0.idle w (cfg0.grid.coords t) = false) :
    owns (c : Thread nD τ) ((cfg0.win w).stage (cfg0.slots t w)) fullShare ((dats m 0 c).after w t) ⊢ leaves m c t w := by
  unfold leaves; rw [h]

/-- A window the body did not store is left as it was. -/
theorem leaves_found (c : Dev nD) (t : Fin cfg0.N) (w : Fin cfg0.W) (h : cfg0.idle w (cfg0.grid.coords t) = true)
    (hf : (cfg0.win w).flush t = false ∨ ∀ d, (dats m 0 c).before w t d = (dats m 0 c).after w t) :
    iprop(∃ d, owns (c : Thread nD τ) ((cfg0.win w).stage (cfg0.slots t w)) fullShare ((dats m 0 c).before w t d)) ⊢ leaves m c t w := by
  unfold leaves; rw [h]
  rcases hf with hf | hf
  · rw [hf]
  · cases (cfg0.win w).flush t
    · exact Entails.refl _
    · iintro ⟨%d, H⟩
      rw [← hf d]
      iexact H

/-! The points that do not write a result back. -/

theorem flush5_no : ∀ t : Fin cfg0.N, 5 ≤ t.val % 14 ∧ t.val % 14 < 13 → (cfg0.win 5).flush t = false :=
  (by decide +kernel : ∀ t : Fin grid0.N, 5 ≤ t.val % 14 ∧ t.val % 14 < 13 → win0_5.flush t = false)
theorem flush6_no : ∀ t : Fin cfg0.N, 5 ≤ t.val % 14 ∧ t.val % 14 < 13 → (cfg0.win 6).flush t = false :=
  (by decide +kernel : ∀ t : Fin grid0.N, 5 ≤ t.val % 14 ∧ t.val % 14 < 13 → win0_6.flush t = false)
theorem flush7_no : ∀ t : Fin cfg0.N, 5 ≤ t.val % 14 ∧ t.val % 14 < 13 → (cfg0.win 7).flush t = false :=
  (by decide +kernel : ∀ t : Fin grid0.N, 5 ≤ t.val % 14 ∧ t.val % 14 < 13 → win0_7.flush t = false)
theorem flush8_no : ∀ t : Fin cfg0.N, (t.val % 14 < 6 ∨ 9 ≤ t.val % 14 ∧ t.val % 14 < 13) → (cfg0.win 8).flush t = false :=
  (by decide +kernel : ∀ t : Fin grid0.N, (t.val % 14 < 6 ∨ 9 ≤ t.val % 14 ∧ t.val % 14 < 13) → win0_8.flush t = false)
theorem flush9_no : ∀ t : Fin cfg0.N, (t.val % 14 < 10 ∨ 11 ≤ t.val % 14 ∧ t.val % 14 < 13) → (cfg0.win 9).flush t = false :=
  (by decide +kernel : ∀ t : Fin grid0.N, (t.val % 14 < 10 ∨ 11 ≤ t.val % 14 ∧ t.val % 14 < 13) → win0_9.flush t = false)
theorem flush10_no : ∀ t : Fin cfg0.N, t.val % 14 < 12 → (cfg0.win 10).flush t = false :=
  (by decide +kernel : ∀ t : Fin grid0.N, t.val % 14 < 12 → win0_10.flush t = false)
theorem flush11_no : ∀ t : Fin cfg0.N, t.val % 14 < 13 → (cfg0.win 11).flush t = false :=
  (by decide +kernel : ∀ t : Fin grid0.N, t.val % 14 < 13 → win0_11.flush t = false)

/-! Where each result is stored. -/

theorem idle_of {a : BitVec 1} {P : Prop} (h : a = 1#1 ↔ P) : ((!(a == 1#1)) = false ↔ P) ∧ ((!(a == 1#1)) = true ↔ ¬ P) := by
  constructor
  · rw [← h]; simp
  · rw [← h]; simp

theorem idle5 (t : Fin cfg0.N) : (cfg0.idle 5 (grid0.coords t) = false ↔ colBlk t < 6) ∧ (cfg0.idle 5 (grid0.coords t) = true ↔ ¬ colBlk t < 6) :=
  idle_of (hcond2 t)
theorem idle6 (t : Fin cfg0.N) : (cfg0.idle 6 (grid0.coords t) = false ↔ colBlk t < 6) ∧ (cfg0.idle 6 (grid0.coords t) = true ↔ ¬ colBlk t < 6) :=
  idle_of (hcond2 t)
theorem idle7 (t : Fin cfg0.N) : (cfg0.idle 7 (grid0.coords t) = false ↔ colBlk t < 6) ∧ (cfg0.idle 7 (grid0.coords t) = true ↔ ¬ colBlk t < 6) :=
  idle_of (hcond2 t)
theorem idle8 (t : Fin cfg0.N) : (cfg0.idle 8 (grid0.coords t) = false ↔ (6 ≤ colBlk t ∧ colBlk t < 10)) ∧ (cfg0.idle 8 (grid0.coords t) = true ↔ ¬ (6 ≤ colBlk t ∧ colBlk t < 10)) :=
  idle_of (hcond3 t)
theorem idle9 (t : Fin cfg0.N) : (cfg0.idle 9 (grid0.coords t) = false ↔ (10 ≤ colBlk t ∧ colBlk t < 12)) ∧ (cfg0.idle 9 (grid0.coords t) = true ↔ ¬ (10 ≤ colBlk t ∧ colBlk t < 12)) :=
  idle_of (hcond4 t)
theorem idle10 (t : Fin cfg0.N) : (cfg0.idle 10 (grid0.coords t) = false ↔ 12 ≤ colBlk t) ∧ (cfg0.idle 10 (grid0.coords t) = true ↔ ¬ 12 ≤ colBlk t) :=
  idle_of (hcond5 t)
theorem idle11 (t : Fin cfg0.N) : (cfg0.idle 11 (grid0.coords t) = false ↔ colBlk t = 0) ∧ (cfg0.idle 11 (grid0.coords t) = true ↔ ¬ colBlk t = 0) :=
  idle_of (hcond1 t)

theorem keep5 (c : Dev nD) (t : Fin cfg0.N) (h : ¬ colBlk t < 6) :
    iprop(∃ d, owns (c : Thread nD τ) (ms5 t) fullShare ((dats m 0 c).before 5 t d)) ⊢ leaves m c t 5 := by
  refine leaves_found m c t 5 ((idle5 t).2.mpr h) ?_
  by_cases hb : 5 < colBlk t
  · exact .inr (held m c 5 5 rfl (fun t h => (idle5 t).1.mpr (by omega)) (fun t h => (idle5 t).2.mpr (by omega))
      (fun t h h' => flush5_no t (by simp only [colBlk] at *; omega)) (fun _ _ => rfl)
      (fun t h => by rw [after5, after5, clamp_prev _ _ _ t h]) t hb)
  · exact .inl (flush5_no t (by simp only [colBlk] at *; omega))

theorem keep6 (c : Dev nD) (t : Fin cfg0.N) (h : ¬ colBlk t < 6) :
    iprop(∃ d, owns (c : Thread nD τ) (ms6 t) fullShare ((dats m 0 c).before 6 t d)) ⊢ leaves m c t 6 := by
  refine leaves_found m c t 6 ((idle6 t).2.mpr h) ?_
  by_cases hb : 5 < colBlk t
  · exact .inr (held m c 6 5 rfl (fun t h => (idle6 t).1.mpr (by omega)) (fun t h => (idle6 t).2.mpr (by omega))
      (fun t h h' => flush6_no t (by simp only [colBlk] at *; omega)) (fun _ _ => rfl)
      (fun t h => by rw [after6, after6, clamp_prev _ _ _ t h]) t hb)
  · exact .inl (flush6_no t (by simp only [colBlk] at *; omega))

theorem keep7 (c : Dev nD) (t : Fin cfg0.N) (h : ¬ colBlk t < 6) :
    iprop(∃ d, owns (c : Thread nD τ) (ms7 t) fullShare ((dats m 0 c).before 7 t d)) ⊢ leaves m c t 7 := by
  refine leaves_found m c t 7 ((idle7 t).2.mpr h) ?_
  by_cases hb : 5 < colBlk t
  · exact .inr (held m c 7 5 rfl (fun t h => (idle7 t).1.mpr (by omega)) (fun t h => (idle7 t).2.mpr (by omega))
      (fun t h h' => flush7_no t (by simp only [colBlk] at *; omega)) (fun _ _ => rfl)
      (fun t h => by rw [after7, after7, clamp_prev _ _ _ t h]) t hb)
  · exact .inl (flush7_no t (by simp only [colBlk] at *; omega))

theorem after8v_prev (c : Dev nD) (t : Fin cfg0.N) (h : 9 < colBlk t) : after8v m c (prev t) = after8v m c t := by
  have key : ∀ u v : Fin cfg0.N, u = v → ∀ hu hv, View.canon (midAt m c u hu).1 = View.canon (midAt m c v hv).1 := by
    rintro _ _ rfl _ _; rfl
  exact key _ _ (clamp_prev _ _ _ t h) _ _

theorem keep8 (c : Dev nD) (t : Fin cfg0.N) (h : ¬ (6 ≤ colBlk t ∧ colBlk t < 10)) :
    iprop(∃ d, owns (c : Thread nD τ) (ms8 t) fullShare ((dats m 0 c).before 8 t d)) ⊢ leaves m c t 8 := by
  refine leaves_found m c t 8 ((idle8 t).2.mpr h) ?_
  by_cases hb : 9 < colBlk t
  · exact .inr (held m c 8 9 rfl (fun t h => (idle8 t).1.mpr (by omega)) (fun t h => (idle8 t).2.mpr (by omega))
      (fun t h h' => flush8_no t (by simp only [colBlk] at *; omega)) (fun _ _ => rfl)
      (fun t h => by rw [after8, after8]; exact after8v_prev m c t h) t hb)
  · exact .inl (flush8_no t (by simp only [colBlk] at *; omega))

theorem after9v_prev (c : Dev nD) (t : Fin cfg0.N) (h : 11 < colBlk t) : after9v m c (prev t) = after9v m c t := by
  have key : ∀ u v : Fin cfg0.N, u = v → ∀ hu hv, View.canon (valAt m c u hu).1 = View.canon (valAt m c v hv).1 := by
    rintro _ _ rfl _ _; rfl
  exact key _ _ (clamp_prev _ _ _ t h) _ _

theorem keep9 (c : Dev nD) (t : Fin cfg0.N) (h : ¬ (10 ≤ colBlk t ∧ colBlk t < 12)) :
    iprop(∃ d, owns (c : Thread nD τ) (ms9 t) fullShare ((dats m 0 c).before 9 t d)) ⊢ leaves m c t 9 := by
  refine leaves_found m c t 9 ((idle9 t).2.mpr h) ?_
  by_cases hb : 11 < colBlk t
  · exact .inr (held m c 9 11 rfl (fun t h => (idle9 t).1.mpr (by omega)) (fun t h => (idle9 t).2.mpr (by omega))
      (fun t h h' => flush9_no t (by simp only [colBlk] at *; omega)) (fun _ _ => rfl)
      (fun t h => by rw [after9, after9]; exact after9v_prev m c t h) t hb)
  · exact .inl (flush9_no t (by simp only [colBlk] at *; omega))

theorem keep11 (c : Dev nD) (t : Fin cfg0.N) (h : ¬ colBlk t = 0) :
    iprop(∃ d, owns (c : Thread nD τ) (ms11 t) fullShare ((dats m 0 c).before 11 t d)) ⊢ leaves m c t 11 := by
  refine leaves_found m c t 11 ((idle11 t).2.mpr h) ?_
  by_cases hb : 0 < colBlk t
  · exact .inr (held m c 11 0 rfl (fun t h => (idle11 t).1.mpr (by omega)) (fun t h => (idle11 t).2.mpr (by omega))
      (fun t h h' => flush11_no t (by simp only [colBlk] at *; omega)) (fun _ _ => rfl)
      (fun t h => by rw [after11, after11, clamp_prev _ _ _ t h]) t hb)
  · exact .inl (flush11_no t (by simp only [colBlk] at *; omega))

theorem keep10 (c : Dev nD) (t : Fin cfg0.N) (h : ¬ 12 ≤ colBlk t) :
    iprop(∃ d, owns (c : Thread nD τ) (ms10 t) fullShare ((dats m 0 c).before 10 t d)) ⊢ leaves m c t 10 :=
  leaves_found m c t 10 ((idle10 t).2.mpr h) (.inl (flush10_no t (by simp only [colBlk] at *; omega)))

/-! ## The scratch between points -/

theorem rowsH_prev (c : Dev nD) (t : Fin cfg0.N) (h : ¬ colBlk t = 0) : rowsH m c (prev t) = rowsH m c t := by
  unfold rowsH; rw [clamp_prev _ _ _ t (by omega)]

theorem Phi_first (c : Dev nD) (t : Fin cfg0.N) (h : colBlk t = 0) : (dats m 0 c).Φ t.castSucc = Pipeline.ΦA spec0 c := by
  show Phi m c t.val (Nat.le_of_lt t.isLt) = _
  unfold Phi; rw [dif_pos h]

theorem Phi_later (c : Dev nD) (t : Fin cfg0.N) (h : ¬ colBlk t = 0) : (dats m 0 c).Φ t.castSucc
    = iprop(iprop(owns (c : Thread nD τ) scH fullShare (rowsH m c t) ∗ (∃ d, owns (c : Thread nD τ) scZ fullShare d)) ∗ (∃ r, prngReg c r)) := by
  show Phi m c t.val (Nat.le_of_lt t.isLt) = _
  unfold Phi; rw [dif_neg h, ← rowsH_prev m c t h]

theorem Phi_next (c : Dev nD) (t : Fin cfg0.N) :
    iprop(owns (c : Thread nD τ) scH fullShare (rowsH m c t) ∗ (∃ d, owns (c : Thread nD τ) scZ fullShare d) ∗ (∃ r, prngReg c r))
      ⊢ (dats m 0 c).Φ t.succ := by
  show _ ⊢ Phi m c (t.val + 1) t.isLt
  unfold Phi
  by_cases h : (t.val + 1) % 14 = 0
  · rw [dif_pos h, PhiA_eq]
    iintro ⟨H, Z, G⟩
    isplitl [H Z]
    · isplitl [H]; · iexists _; iexact H
      iexact Z
    iexact G
  · rw [dif_neg h]
    iintro ⟨H, Z, G⟩
    isplitl [H Z]
    · isplitl [H]; · iexact H
      iexact Z
    iexact G

end Cert.InProjIdeal.Gen

end
-- ==== Proof.InProjPieces.lean ====
/- The stores the input projection makes at one grid point, as lists of uniform pieces: four row parts of 256 rows, and for the
   strided copies the head columns and the offsets. -/
module

public import proofs.«01_k».proof.Proof.InProjData

@[expose] public section

set_option maxRecDepth 65536

noncomputable section

namespace Cert.InProjIdeal.Value

open Cert.InProjIdeal Cert.InProjIdeal.Gen Idealize.ShloMosaic Idealize.ShloMosaic.TcCoe Idealize.SL.Sem

variable {F : FTy → Type} [FloatOps F]
variable (m : (ℓ : Loc nD τ sig) → Buf (Elt F) ℓ)

/-- Rows `256 p` to `256 p + 255` of the normalised rows. -/
abbrev rectH (p : Fin 4) : Rect S1024x2048 :=
  Rect.unit ![256 * p.val, 0] S256x2048.size
    (by intro a; match a with
      | ⟨0, _⟩ => show 256 * p.val + 256 ≤ 1024; omega
      | ⟨1, _⟩ => show 0 + 2048 ≤ 2048; omega)

/-- The same rows of a result block. -/
abbrev rectO (p : Fin 4) : Rect S1024x512 :=
  Rect.unit ![256 * p.val, 0] S256x512.size
    (by intro a; match a with
      | ⟨0, _⟩ => show 256 * p.val + 256 ≤ 1024; omega
      | ⟨1, _⟩ => show 0 + 512 ≤ 512; omega)

/-- The same rows of the first attention result's block. -/
abbrev rectA (p : Fin 4) : Rect S1x1x1024x512 :=
  Rect.unit ![0, 0, 256 * p.val, 0] S1x1x256x512.size
    (by intro a; match a with
      | ⟨0, _⟩ => show 0 + 1 ≤ 1; omega
      | ⟨1, _⟩ => show 0 + 1 ≤ 1; omega
      | ⟨2, _⟩ => show 256 * p.val + 256 ≤ 1024; omega
      | ⟨3, _⟩ => show 0 + 512 ≤ 512; omega)

/-- The same rows of head column `j` in the staging scratch. -/
abbrev rectZ (p j : Fin 4) : Rect S4x1024x128 :=
  Rect.unit ![j.val, 256 * p.val, 0] S1x256x128.size
    (by intro a; match a with
      | ⟨0, _⟩ => show j.val + 1 ≤ 4; omega
      | ⟨1, _⟩ => show 256 * p.val + 256 ≤ 1024; omega
      | ⟨2, _⟩ => show 0 + 128 ≤ 128; omega)

/-- Every fourth of these rows from offset `k` on, in head column `j`. -/
abbrev load4 (p j k : Fin 4) : LoadRect S4x1024x128 :=
  ⟨![j.val, 256 * p.val + k.val, 0], S1x64x128.size, ![1, 4, 1], by
    intro a; right; match a with
      | ⟨0, _⟩ => show j.val + 1 * (1 - 1) < 4; omega
      | ⟨1, _⟩ => show 256 * p.val + k.val + 4 * (64 - 1) < 1024; omega
      | ⟨2, _⟩ => show 0 + 1 * (128 - 1) < 128; omega⟩

/-- Where they go in the second attention result's block. -/
abbrev rect4 (p j k : Fin 4) : Rect S1x4x256x512 :=
  Rect.unit ![0, k.val, 64 * p.val, 128 * j.val] S1x1x64x128.size
    (by intro a; match a with
      | ⟨0, _⟩ => show 0 + 1 ≤ 1; omega
      | ⟨1, _⟩ => show k.val + 1 ≤ 4; omega
      | ⟨2, _⟩ => show 64 * p.val + 64 ≤ 256; omega
      | ⟨3, _⟩ => show 128 * j.val + 128 ≤ 512; omega)

/-- Every sixteenth of these rows from offset `k` on, in head column `j`. -/
abbrev load16 (p j : Fin 4) (k : Fin 16) : LoadRect S4x1024x128 :=
  ⟨![j.val, 256 * p.val + k.val, 0], S1x16x128.size, ![1, 16, 1], by
    intro a; right; match a with
      | ⟨0, _⟩ => show j.val + 1 * (1 - 1) < 4; omega
      | ⟨1, _⟩ => show 256 * p.val + k.val + 16 * (16 - 1) < 1024; omega
      | ⟨2, _⟩ => show 0 + 1 * (128 - 1) < 128; omega⟩

/-- Where they go in the third attention result's block. -/
abbrev rect16 (p j : Fin 4) (k : Fin 16) : Rect S1x16x64x512 :=
  Rect.unit ![0, k.val, 16 * p.val, 128 * j.val] S1x1x16x128.size
    (by intro a; match a with
      | ⟨0, _⟩ => show 0 + 1 ≤ 1; omega
      | ⟨1, _⟩ => show k.val + 1 ≤ 16; omega
      | ⟨2, _⟩ => show 16 * p.val + 16 ≤ 64; omega
      | ⟨3, _⟩ => show 128 * j.val + 128 ≤ 512; omega)

variable (c : Dev nD) (s : Fin cfg0.N)

/-- The normalised rows of row part `p`, as loaded. -/
abbrev hPart (p : Fin 4) : Vec F S256x2048 .bf16 :=
  View.readAt (Elt F) (scH).view (rectH p).toLoadRect ((Memref.isWhole_whole cc0_scratch0).unread (rowsH m c s))

/-- The block of weights, as loaded. -/
abbrev wAll : Vec F S2048x512 .bf16 :=
  View.readAt (Elt F) (ms2 s).view (Rect.unit ![0, 0] S2048x512.size inb_S2048x512_S2048x512_0_0).toLoadRect ((hs2 s).unread (iblk m c 2 s))

/-- The store of the first attention result's row part `p`. -/
def aPiece (p : Fin 4) : View.Piece (Elt F) S1x1x1024x512 .bf16 := ⟨rectA p, k0_pay17 (hPart m c s p) (wAll m c s)⟩

/-- One head column of the product, for staging. -/
abbrev strip (a : Vec F S256x2048 .bf16) (w : Vec F S2048x512 .bf16) (j : Fin 4) : FVec F S1x256x128 .f32 :=
  ![k0_pay18 a w, k0_pay19 a w, k0_pay20 a w, k0_pay21 a w] j

/-- The staging of row part `p`, head column `j`. -/
def zPiece (p j : Fin 4) : View.Piece (Elt F) S4x1024x128 .f32 := ⟨rectZ p j, strip (hPart m c s p) (wAll m c s) j⟩

/-- The row parts staged when part `p` is read, the last first. -/
abbrev parts (p : Fin 4) : List (Fin 4) := ![[0], [1, 0], [2, 1, 0], [3, 2, 1, 0]] p

/-- The stagings made when part `p` is read. -/
def zList (p : Fin 4) : List (View.Piece (Elt F) S4x1024x128 .f32) :=
  (parts p).flatMap fun q => [zPiece m c s q 3, zPiece m c s q 2, zPiece m c s q 1, zPiece m c s q 0]

/-- The same list as the run holds it. -/
def staged (p : Fin 4) : List (View.Piece (Elt F) S4x1024x128 .f32) :=
  ![attRun.sl.H15_4 c (ms2 s) (hs2 s) scH (Memref.isWhole_whole _) (iblk m c 2 s) (rowsH m c s),
    attRun.sl.H15_8 c (ms2 s) (hs2 s) scH (Memref.isWhole_whole _) (iblk m c 2 s) (rowsH m c s),
    attRun.sl.H15_12 c (ms2 s) (hs2 s) scH (Memref.isWhole_whole _) (iblk m c 2 s) (rowsH m c s),
    attRun.sl.H15_16 c (ms2 s) (hs2 s) scH (Memref.isWhole_whole _) (iblk m c 2 s) (rowsH m c s)] p

theorem staged_eq (p : Fin 4) : staged m c s p = zList m c s p := by
  fin_cases p <;> rfl

/-- The store of the second attention result's rows of offset `k` in row part `p`, head column `j`. -/
def piece4 (p k j : Fin 4) : View.Piece (Elt F) S1x4x256x512 .bf16 :=
  ⟨rect4 p j k, k0_pay24 ((scZ).view.readCov (staged m c s p) (load4 p j k))⟩

/-- The store of the third attention result's rows of offset `k` in row part `p`, head column `j`. -/
def piece16 (p : Fin 4) (k : Fin 16) (j : Fin 4) : View.Piece (Elt F) S1x16x64x512 .bf16 :=
  ⟨rect16 p j k, k0_pay40 ((scZ).view.readCov (staged m c s p) (load16 p j k))⟩

theorem pieces_a : (attAt m c s).1 = [3, 2, 1, 0].map fun p => aPiece m c s p := by rfl

theorem pieces_4 : (attAt m c s).2.1 = ([3, 2, 1, 0] : List (Fin 4)).flatMap fun p => ([3, 2, 1, 0] : List (Fin 4)).flatMap fun k =>
    ([3, 2, 1, 0] : List (Fin 4)).map fun j => piece4 m c s p k j := by rfl

theorem pieces_16 : (attAt m c s).2.2.1 = ([3, 2, 1, 0] : List (Fin 4)).flatMap fun p =>
    ([15, 14, 13, 12, 11, 10, 9, 8, 7, 6, 5, 4, 3, 2, 1, 0] : List (Fin 16)).flatMap fun k =>
    ([3, 2, 1, 0] : List (Fin 4)).map fun j => piece16 m c s p k j := by rfl

/-- The store of row part `p` of the block's product, kept in full. -/
def oPiece (p : Fin 4) : View.Piece (Elt F) S1024x512 .f32 := ⟨rectO p, k0_pay4 (hPart m c s p) (wAll m c s)⟩

/-- The store of row part `p` of the block's product, rounded. -/
def vPiece (p : Fin 4) : View.Piece (Elt F) S1024x512 .bf16 := ⟨rectO p, k0_pay8 (hPart m c s p) (wAll m c s)⟩

theorem pieces_mid (h : 6 ≤ colBlk s ∧ colBlk s < 10) : (midAt m c s h).1 = [3, 2, 1, 0].map fun p => oPiece m c s p := by rfl

theorem pieces_val (h : 10 ≤ colBlk s ∧ colBlk s < 12) : (valAt m c s h).1 = [3, 2, 1, 0].map fun p => vPiece m c s p := by rfl

theorem pieces_out (h : 12 ≤ colBlk s) : (outAt m c s h).1 = [3, 2, 1, 0].map fun p => oPiece m c s p := by rfl

end Cert.InProjIdeal.Value

end
-- ==== Proof.RowMath.lean ====
/- The rows' mathematics shared by the token-wise parts of the layer: the root-mean-square normalisation of a row of 2048
   features, the gated feed-forward step and the per-layer embedding step. -/
module

public import Idealize.ShloMosaic.Lib.Pointwise

@[expose] public section

noncomputable section

namespace Cert.RowMath

open Idealize.ShloMosaic

/-- The reciprocal root of a row's mean square plus the small constant. -/
def invRms (v : Fin 2048 → EReal) : EReal :=
  Ideal.rsqrt (Ideal.div (∑ k, v k * v k) (Ideal.ofBits .f32 0x45000000#32) + Ideal.ofBits .f32 0x358637BD#32)

/-- The normalised row under its weight. -/
def normed (v w : Fin 2048 → EReal) (k : Fin 2048) : EReal := v k * invRms v * w k

/-- The row after the gated per-layer embedding was added. -/
def embedded (x : Fin 2048 → EReal) (p : Fin 256 → EReal) (g : Fin 2048 → EReal) (wg : Fin 2048 → Fin 2048 → EReal)
    (wp : Fin 256 → Fin 2048 → EReal) (b : Fin 2048) : EReal :=
  x b + Ideal.logistic (∑ k, normed x g k * wg k b) * ∑ k, p k * wp k b

/-- One hidden feature of the gated feed-forward step: SiLU of the gate times the value. -/
def gated (g u : EReal) : EReal := g * Ideal.logistic g * u

end Cert.RowMath

end
-- ==== Proof.InProjBlock.lean ====
/- What the input projection leaves in its result blocks at one grid point, on the extended reals: the product of the normalised
   rows and the block of weights, laid out in the three attention orders or as it stands. -/
module

public import proofs.«01_k».proof.Proof.InProjPieces
public import proofs.«01_k».proof.Proof.RowMath

@[expose] public section

set_option maxRecDepth 16384

noncomputable section

namespace Cert.InProjIdeal.Value

open Cert.InProjIdeal Cert.InProjIdeal.Gen Idealize.ShloMosaic Idealize.ShloMosaic.TcCoe Idealize.SL.Sem
open Cert.RowMath

variable (m : (ℓ : Loc nD τ sig) → Buf (Elt Ideal) ℓ)

/-! ## The payloads -/

theorem pay2_apply (x : Vec Ideal S1024x2048 .f32) (w : Vec Ideal S1x2048 .f32) (r : Fin 1024) (k : Fin 2048) :
    k0_pay2 x w (ix2 r k) = normed (fun k => x (ix2 r k)) (fun k => w (ix2 0 k)) k := by
  pointwise [k0_pay2, k0_pay1]
  rfl

theorem pay3_apply (x : Vec Ideal S1024x2048 .f32) (w : Vec Ideal S1x2048 .f32) (g : Vec Ideal S16x2048 .bf16)
    (b : Vec Ideal S16x1 .f32) (j : Fin 16) (r : Fin 1024) :
    k0_pay3 x w g b (ix2 j r)
      = (∑ k : Fin 2048, g (ix2 j k) * normed (fun k => x (ix2 r k)) (fun k => w (ix2 0 k)) k) + b (ix2 j 0) := by
  pointwise [k0_pay3, k0_pay1]
  rfl

/-- The product of the rows and the weights at one entry. -/
def prod {n : ℕ} (h : Vec Ideal ⟨2, ![n, 2048]⟩ .bf16) (w : Vec Ideal S2048x512 .bf16) (r : Fin n) (q : Fin 512) : EReal :=
  ∑ k : Fin 2048, h (ix2 r k) * w (ix2 k q)

section
variable (h : Vec Ideal S256x2048 .bf16) (w : Vec Ideal S2048x512 .bf16)

theorem pay4_apply (r : Fin 256) (q : Fin 512) : k0_pay4 h w (ix2 r q) = prod h w r q := by
  pointwise [k0_pay4]
  rfl

theorem pay8_apply (r : Fin 256) (q : Fin 512) : k0_pay8 h w (ix2 r q) = prod h w r q := by
  pointwise [k0_pay8]
  rfl

theorem pay17_apply (r : Fin 256) (q : Fin 512) : k0_pay17 h w (ix4 0 0 r q) = prod h w r q := by
  pointwise [k0_pay17, k0_pay16]
  rfl

theorem strip_apply (j : Fin 4) (r : Fin 256) (q : Fin 128) :
    strip h w j (ix3 0 r q) = prod h w r ⟨128 * j.val + q.val, by omega⟩ := by
  fin_cases j
  · show k0_pay18 h w (ix3 0 r q) = _
    pointwise [k0_pay18, k0_pay16]
    rfl
  · show k0_pay19 h w (ix3 0 r q) = _
    pointwise [k0_pay19, k0_pay16]
    rfl
  · show k0_pay20 h w (ix3 0 r q) = _
    pointwise [k0_pay20, k0_pay16]
    rfl
  · show k0_pay21 h w (ix3 0 r q) = _
    pointwise [k0_pay21, k0_pay16]
    rfl

end

theorem pay24_apply (v : Vec Ideal S1x64x128 .f32) (r : Fin 64) (q : Fin 128) : k0_pay24 v (ix4 0 0 r q) = v (ix3 0 r q) := by
  pointwise [k0_pay24]

theorem pay40_apply (v : Vec Ideal S1x16x128 .f32) (r : Fin 16) (q : Fin 128) : k0_pay40 v (ix4 0 0 r q) = v (ix3 0 r q) := by
  pointwise [k0_pay40]

/-! ## The blocks -/

section
variable (c : Dev nD) (s : Fin cfg0.N)

theorem wAll_eq : wAll m c s = iblk m c 2 s := by
  unfold wAll
  rw [View.readAt_eq_ld, (hs2 s).read_unread, View.ld_unit_zero (S := S2048x512) zero2]

theorem hPart_apply (p : Fin 4) (r : Fin 256) (k : Fin 2048) :
    hPart m c s p (ix2 r k) = rowsH m c s (ix2 ⟨256 * p.val + r.val, by omega⟩ k) := by
  unfold hPart
  rw [View.readAt_eq_ld, (Memref.isWhole_whole cc0_scratch0).read_unread]
  show rowsH m c s _ = _
  congr 1
  funext a
  apply Fin.ext
  match a with
  | ⟨0, _⟩ => show 256 * p.val + 1 * r.val = 256 * p.val + r.val; omega
  | ⟨1, _⟩ => show 0 + 1 * k.val = k.val; omega

/-- The product at point `s`. -/
abbrev zAt (r : Fin 1024) (q : Fin 512) : EReal := prod (rowsH m c s) (iblk m c 2 s) r q

theorem prod_part (p : Fin 4) (r : Fin 256) (q : Fin 512) :
    prod (hPart m c s p) (wAll m c s) r q = zAt m c s ⟨256 * p.val + r.val, by omega⟩ q := by
  unfold zAt prod
  rw [wAll_eq]
  exact Finset.sum_congr rfl fun k _ => by rw [hPart_apply]

theorem eq_pair {n k : ℕ} (z : (⟨4, ![1, 1, n, k]⟩ : Shape).Idx) : z = ix4 (0 : Fin 1) (0 : Fin 1) (z 2) (z 3) := by
  funext a; apply Fin.ext
  match a with
  | ⟨0, _⟩ => exact Nat.lt_one_iff.1 (z 0).isLt
  | ⟨1, _⟩ => exact Nat.lt_one_iff.1 (z 1).isLt
  | ⟨2, _⟩ | ⟨3, _⟩ => rfl

theorem eq_plane {n k : ℕ} (z : (⟨3, ![1, n, k]⟩ : Shape).Idx) : z = ix3 (0 : Fin 1) (z 1) (z 2) := by
  funext a; apply Fin.ext
  match a with
  | ⟨0, _⟩ => exact Nat.lt_one_iff.1 (z 0).isLt
  | ⟨1, _⟩ | ⟨2, _⟩ => rfl

theorem oPiece_value (p : Fin 4) (z : (rectO p).shape.Idx) :
    (oPiece m c s p).2 z = zAt m c s ((rectO p).emb z 0) ((rectO p).emb z 1) := by
  obtain ⟨r, q, rfl⟩ : ∃ (r : Fin 256) (q : Fin 512), z = ix2 r q := ⟨z 0, z 1, eq_ix2 z⟩
  refine (pay4_apply _ _ r q).trans ((prod_part m c s p r q).trans ?_)
  congr 1 <;> apply Fin.ext
  · show 256 * p.val + r.val = 256 * p.val + 1 * r.val; omega
  · show q.val = 0 + 1 * q.val; omega

theorem vPiece_value (p : Fin 4) (z : (rectO p).shape.Idx) :
    (vPiece m c s p).2 z = zAt m c s ((rectO p).emb z 0) ((rectO p).emb z 1) := by
  obtain ⟨r, q, rfl⟩ : ∃ (r : Fin 256) (q : Fin 512), z = ix2 r q := ⟨z 0, z 1, eq_ix2 z⟩
  refine (pay8_apply _ _ r q).trans ((prod_part m c s p r q).trans ?_)
  congr 1 <;> apply Fin.ext
  · show 256 * p.val + r.val = 256 * p.val + 1 * r.val; omega
  · show q.val = 0 + 1 * q.val; omega

theorem mid_value (h : 6 ≤ colBlk s ∧ colBlk s < 10) (r : Fin 1024) (q : Fin 512) :
    View.canon (midAt m c s h).1 (ix2 r q) = zAt m c s r q := by
  refine View.canon_apply_of_pieces (Val := Elt Ideal) (e := .f32) (fun y : S1024x512.Idx => zAt m c s (y 0) (y 1)) _ ?_ _
    (mid_cover m c s h _)
  rw [pieces_mid]
  intro p hp
  obtain ⟨a, -, rfl⟩ := List.mem_map.1 hp
  exact oPiece_value m c s a

theorem out_value (h : 12 ≤ colBlk s) (r : Fin 1024) (q : Fin 512) :
    View.canon (outAt m c s h).1 (ix2 r q) = zAt m c s r q := by
  refine View.canon_apply_of_pieces (Val := Elt Ideal) (e := .f32) (fun y : S1024x512.Idx => zAt m c s (y 0) (y 1)) _ ?_ _
    (out_cover m c s h _)
  rw [pieces_out]
  intro p hp
  obtain ⟨a, -, rfl⟩ := List.mem_map.1 hp
  exact oPiece_value m c s a

theorem val_value (h : 10 ≤ colBlk s ∧ colBlk s < 12) (r : Fin 1024) (q : Fin 512) :
    View.canon (valAt m c s h).1 (ix2 r q) = zAt m c s r q := by
  refine View.canon_apply_of_pieces (Val := Elt Ideal) (e := .bf16) (fun y : S1024x512.Idx => zAt m c s (y 0) (y 1)) _ ?_ _
    (val_cover m c s h _)
  rw [pieces_val]
  intro p hp
  obtain ⟨a, -, rfl⟩ := List.mem_map.1 hp
  exact vPiece_value m c s a

theorem att_value (r : Fin 1024) (q : Fin 512) : View.canon (attAt m c s).1 (ix4 0 0 r q) = zAt m c s r q := by
  refine View.canon_apply_of_pieces (Val := Elt Ideal) (e := .bf16) (fun y : S1x1x1024x512.Idx => zAt m c s (y 2) (y 3)) _ ?_ _
    (att_cover5 m c s _)
  rw [pieces_a]
  intro p hp
  obtain ⟨a, -, rfl⟩ := List.mem_map.1 hp
  intro z
  obtain ⟨r, q, rfl⟩ : ∃ (r : Fin 256) (q : Fin 512), z = ix4 0 0 r q := ⟨z 2, z 3, eq_pair z⟩
  refine (pay17_apply _ _ r q).trans ((prod_part m c s a r q).trans ?_)
  show zAt m c s _ _ = zAt m c s _ _
  congr 1 <;> apply Fin.ext
  · show 256 * a.val + r.val = 256 * a.val + 1 * r.val; omega
  · show q.val = 0 + 1 * q.val; omega

/-! ## The staged product -/

/-- The staged product at head column `j`, row `r` of part `p`. -/
theorem staged_value (p : Fin 4) (y : S4x1024x128.Idx) (hy : 256 * p.val ≤ (y 1).val ∧ (y 1).val < 256 * p.val + 256) :
    View.canon (staged m c s p) y = zAt m c s (y 1) ⟨128 * (y 0).val + (y 2).val, by
      have h0 : (y 0).val < 4 := (y 0).isLt
      have h2 : (y 2).val < 128 := (y 2).isLt
      omega⟩ := by
  rw [staged_eq]
  refine View.canon_apply_of_pieces (Val := Elt Ideal) (e := .f32) (fun y : S4x1024x128.Idx =>
    zAt m c s (y 1) ⟨128 * (y 0).val + (y 2).val, by
      have h0 : (y 0).val < 4 := (y 0).isLt
      have h2 : (y 2).val < 128 := (y 2).isLt
      omega⟩) _ ?_ _ ?_
  · have key : ∀ q j, ∀ z, (zPiece m c s q j).2 z = zAt m c s ((rectZ q j).emb z 1)
        ⟨128 * ((rectZ q j).emb z 0).val + ((rectZ q j).emb z 2).val, by
          have h0 : ((rectZ q j).emb z 0).val < 4 := ((rectZ q j).emb z 0).isLt
          have h2 : ((rectZ q j).emb z 2).val < 128 := ((rectZ q j).emb z 2).isLt
          omega⟩ := by
      intro q j z
      obtain ⟨r, l, rfl⟩ : ∃ (r : Fin 256) (l : Fin 128), z = ix3 0 r l := ⟨z 1, z 2, eq_plane z⟩
      refine (strip_apply _ _ j r l).trans ((prod_part m c s q r _).trans ?_)
      congr 1 <;> apply Fin.ext
      · show 256 * q.val + r.val = 256 * q.val + 1 * r.val; omega
      · show 128 * j.val + l.val = 128 * (j.val + 1 * 0) + (0 + 1 * l.val); omega
    intro x hx
    obtain ⟨q, -, hx⟩ := List.mem_flatMap.1 hx
    simp only [List.mem_cons, List.not_mem_nil, or_false] at hx
    rcases hx with rfl | rfl | rfl | rfl <;> exact key q _
  · have h2 : (y 2).val < 128 := (y 2).isLt
    refine ⟨zPiece m c s p (y 0), List.mem_flatMap.2 ⟨p, ?_, ?_⟩, ?_⟩
    · fin_cases p <;> decide
    · have : ∀ j : Fin 4, zPiece m c s p j ∈ [zPiece m c s p 3, zPiece m c s p 2, zPiece m c s p 1, zPiece m c s p 0] := by
        intro j; fin_cases j <;> simp
      exact this (y 0)
    · show y ∈ (rectZ p (y 0)).set
      rw [Rect.mem_set_unit]
      intro a
      match a with
      | ⟨0, _⟩ => show (y 0).val ≤ (y 0).val ∧ (y 0).val < (y 0).val + 1; omega
      | ⟨1, _⟩ => show 256 * p.val ≤ (y 1).val ∧ (y 1).val < 256 * p.val + 256; exact hy
      | ⟨2, _⟩ => show 0 ≤ (y 2).val ∧ (y 2).val < 0 + 128; omega

attribute [local irreducible] staged

theorem piece4_value (p : Fin 4) (k : Fin 4) (j : Fin 4) (r : Fin 64) (l : Fin 128) :
    (piece4 m c s p k j).2 (ix4 0 0 r l)
      = zAt m c s ⟨256 * p.val + k.val + 4 * r.val, by omega⟩ ⟨128 * j.val + l.val, by omega⟩ := by
  unfold piece4
  dsimp only
  rw [pay24_apply, View.readCov_eq_canon']
  have hv := staged_value m c s p ((load4 p j k).idx (ix3 0 r l)) (by
    show 256 * p.val ≤ 256 * p.val + k.val + 4 * r.val ∧ 256 * p.val + k.val + 4 * r.val < 256 * p.val + 256; omega)
  refine hv.trans ?_
  congr 1 <;> apply Fin.ext
  show 128 * (j.val + 1 * 0) + (0 + 1 * l.val) = 128 * j.val + l.val
  omega

/-- Row `4 r + k` of the product is what the second attention result's block holds at offset `k`, row `r`. -/
theorem att4_value (k : Fin 4) (r : Fin 256) (q : Fin 512) :
    View.canon (attAt m c s).2.1 (ix4 0 k r q) = zAt m c s ⟨4 * r.val + k.val, by omega⟩ q := by
  refine View.canon_apply_of_pieces (Val := Elt Ideal) (e := .bf16) (fun y : S1x4x256x512.Idx =>
    zAt m c s ⟨4 * (y 2).val + (y 1).val, by
      have h1 : (y 1).val < 4 := (y 1).isLt
      have h2 : (y 2).val < 256 := (y 2).isLt
      omega⟩ (y 3)) _ ?_ _ (att_cover6 m c s _)
  rw [pieces_4]
  intro x hx
  obtain ⟨p, -, hx⟩ := List.mem_flatMap.1 hx
  obtain ⟨k, -, hx⟩ := List.mem_flatMap.1 hx
  obtain ⟨j, -, rfl⟩ := List.mem_map.1 hx
  intro z
  obtain ⟨r, l, rfl⟩ : ∃ (r : Fin 64) (l : Fin 128), z = ix4 0 0 r l := ⟨z 2, z 3, eq_pair z⟩
  refine (piece4_value m c s p k j r l).trans ?_
  show zAt m c s _ _ = zAt m c s _ _
  congr 1 <;> apply Fin.ext
  · show 256 * p.val + k.val + 4 * r.val = 4 * (64 * p.val + 1 * r.val) + (k.val + 1 * 0); omega
  · show 128 * j.val + l.val = 128 * j.val + 1 * l.val; omega

theorem piece16_value (p : Fin 4) (k : Fin 16) (j : Fin 4) (r : Fin 16) (l : Fin 128) :
    (piece16 m c s p k j).2 (ix4 0 0 r l)
      = zAt m c s ⟨256 * p.val + k.val + 16 * r.val, by omega⟩ ⟨128 * j.val + l.val, by omega⟩ := by
  unfold piece16
  dsimp only
  rw [pay40_apply, View.readCov_eq_canon']
  have hv := staged_value m c s p ((load16 p j k).idx (ix3 0 r l)) (by
    show 256 * p.val ≤ 256 * p.val + k.val + 16 * r.val ∧ 256 * p.val + k.val + 16 * r.val < 256 * p.val + 256; omega)
  refine hv.trans ?_
  congr 1 <;> apply Fin.ext
  show 128 * (j.val + 1 * 0) + (0 + 1 * l.val) = 128 * j.val + l.val
  omega

/-- Row `16 r + k` of the product is what the third attention result's block holds at offset `k`, row `r`. -/
theorem att16_value (k : Fin 16) (r : Fin 64) (q : Fin 512) :
    View.canon (attAt m c s).2.2.1 (ix4 0 k r q) = zAt m c s ⟨16 * r.val + k.val, by omega⟩ q := by
  refine View.canon_apply_of_pieces (Val := Elt Ideal) (e := .bf16) (fun y : S1x16x64x512.Idx =>
    zAt m c s ⟨16 * (y 2).val + (y 1).val, by
      have h1 : (y 1).val < 16 := (y 1).isLt
      have h2 : (y 2).val < 64 := (y 2).isLt
      omega⟩ (y 3)) _ ?_ _ (att_cover7 m c s _)
  rw [pieces_16]
  intro x hx
  obtain ⟨p, -, hx⟩ := List.mem_flatMap.1 hx
  obtain ⟨k, -, hx⟩ := List.mem_flatMap.1 hx
  obtain ⟨j, -, rfl⟩ := List.mem_map.1 hx
  intro z
  obtain ⟨r, l, rfl⟩ : ∃ (r : Fin 16) (l : Fin 128), z = ix4 0 0 r l := ⟨z 2, z 3, eq_pair z⟩
  refine (piece16_value m c s p k j r l).trans ?_
  show zAt m c s _ _ = zAt m c s _ _
  congr 1 <;> apply Fin.ext
  · show 256 * p.val + k.val + 16 * r.val = 16 * (16 * p.val + 1 * r.val) + (k.val + 1 * 0); omega
  · show 128 * j.val + l.val = 128 * j.val + 1 * l.val; omega

end

end Cert.InProjIdeal.Value

end
-- ==== Proof.InProjFrame.lean ====
module

public import proofs.«01_k».proof.Proof.InProjData
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.InProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ leaves m c t 5
    ∗ leaves m c t 6
    ∗ leaves m c t 7
    ∗ leaves m c t 8
    ∗ leaves m c t 9
    ∗ leaves m c t 10
    ∗ leaves m c t 11)

set_option maxHeartbeats 3200000 in
/-- A point of the attention columns after the first. -/
theorem sound_att (c : Dev nD) (t : Fin cfg0.N) (h : ¬ colBlk t = 0) (h' : colBlk t < 6) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4]
  rw [Phi_later m c t h]
  rw [body_att c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scH (Memref.isWhole_whole _) scZ (Memref.isWhole_whole _) (fun hc => by have := (hcond1 t).mp hc; omega) ((hcond2 t).mpr (by omega)) (fun hc => by have := (hcond3 t).mp hc; omega) (fun hc => by have := (hcond4 t).mp hc; omega) (fun hc => by have := (hcond5 t).mp hc; omega), wp_bind]
  have ec : clamp 0 5 (by omega) t = t := clamp_eq _ _ _ t (by omega)
  iintro ⟨⟨⟨HH, HZ⟩, Hg⟩, Ho, ⟨%d0, H0⟩, ⟨%d1, H1⟩, ⟨%d2, H2⟩, ⟨%d3, H3⟩, ⟨%d4, H4⟩, H5, H6, H7, H8, H9, H10, H11⟩
  iapply ((attAt m c t).2.2.2.2 Set.univ _)
  isplitl [H2]; · iexact H2
  isplitl [HH]; · iexact HH
  isplitl [H5]; · icases H5 with ⟨%d5, H5⟩; iexists _; iexact H5
  isplitl [H6]; · icases H6 with ⟨%d6, H6⟩; iexists _; iexact H6
  isplitl [H7]; · icases H7 with ⟨%d7, H7⟩; iexists _; iexact H7
  isplitl [HZ]; · iexact HZ
  iintro ⟨H2, HH, ⟨%e5, H5⟩, ⟨%e6, H6⟩, ⟨%e7, H7⟩, ⟨%ez, HZ⟩⟩
  sl_step
  isplitl [HH HZ Hg]
  · iapply (Phi_next m c t)
    isplitl [HH]; · iexact HH
    isplitl [HZ]
    · iexists _; unfold owns; iexists _; isplitr
      swap; · iexact HZ
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (leaves_stored m c t 5 ((idle5 t).1.mpr (by omega)))
    rw [after5, ec]
    unfold owns; iexists _; isplitr
    swap; · iexact H5
    ipureintro; exact View.read_writes_eq_canon _ _ _ (att_cover5 m c t)
  isplitl [H6]
  · iapply (leaves_stored m c t 6 ((idle6 t).1.mpr (by omega)))
    rw [after6, ec]
    unfold owns; iexists _; isplitr
    swap; · iexact H6
    ipureintro; exact View.read_writes_eq_canon _ _ _ (att_cover6 m c t)
  isplitl [H7]
  · iapply (leaves_stored m c t 7 ((idle7 t).1.mpr (by omega)))
    rw [after7, ec]
    unfold owns; iexists _; isplitr
    swap; · iexact H7
    ipureintro; exact View.read_writes_eq_canon _ _ _ (att_cover7 m c t)
  isplitl [H8]; · iapply (keep8 m c t (by omega)); iexact H8
  isplitl [H9]; · iapply (keep9 m c t (by omega)); iexact H9
  isplitl [H10]; · iapply (keep10 m c t (by omega)); iexact H10
  iapply (keep11 m c t (by omega)); iexact H11

set_option maxHeartbeats 3200000 in
/-- The first point of a row block. -/
theorem sound_first (c : Dev nD) (t : Fin cfg0.N) (h : colBlk t = 0) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4]
  rw [Phi_first m c t h, PhiA_eq]
  rw [body_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scH (Memref.isWhole_whole _) scZ (Memref.isWhole_whole _) ((hcond1 t).mpr (by omega)) ((hcond2 t).mpr (by omega)) (fun hc => by have := (hcond3 t).mp hc; omega) (fun hc => by have := (hcond4 t).mp hc; omega) (fun hc => by have := (hcond5 t).mp hc; omega), wp_bind]
  have ec : clamp 0 5 (by omega) t = t := clamp_eq _ _ _ t (by omega)
  have e0 : clamp 0 0 (by omega) t = t := clamp_eq _ _ _ t (by omega)
  iintro ⟨⟨⟨HH, HZ⟩, Hg⟩, Ho, ⟨%d0, H0⟩, ⟨%d1, H1⟩, ⟨%d2, H2⟩, ⟨%d3, H3⟩, ⟨%d4, H4⟩, H5, H6, H7, H8, H9, H10, H11⟩
  iapply (headRun c (ms0 t) (hs0 t) (ms1 t) (hs1 t) (ms3 t) (hs3 t) (ms4 t) (hs4 t) (ms11 t) scH (Memref.isWhole_whole _) (iblk m c 0 t) (iblk m c 1 t) (iblk m c 3 t) (iblk m c 4 t) Set.univ _)
  isplitl [H0]; · iexact H0
  isplitl [H1]; · iexact H1
  isplitl [H3]; · iexact H3
  isplitl [H4]; · iexact H4
  isplitl [H11]; · icases H11 with ⟨%d11, H11⟩; iexists _; iexact H11
  isplitl [HH]; · iexact HH
  iintro ⟨H0, H1, H3, H4, H11, HH⟩
  rw [wp_bind]
  rw [show k0_pay2 (iblk m c 0 t) (iblk m c 1 t) = rowsH m c t from by unfold rowsH; rw [e0]]
  iapply ((attAt m c t).2.2.2.2 Set.univ _)
  isplitl [H2]; · iexact H2
  isplitl [HH]; · iexact HH
  isplitl [H5]; · icases H5 with ⟨%d5, H5⟩; iexists _; iexact H5
  isplitl [H6]; · icases H6 with ⟨%d6, H6⟩; iexists _; iexact H6
  isplitl [H7]; · icases H7 with ⟨%d7, H7⟩; iexists _; iexact H7
  isplitl [HZ]; · iexact HZ
  iintro ⟨H2, HH, ⟨%e5, H5⟩, ⟨%e6, H6⟩, ⟨%e7, H7⟩, ⟨%ez, HZ⟩⟩
  sl_step
  isplitl [HH HZ Hg]
  · iapply (Phi_next m c t)
    isplitl [HH]; · iexact HH
    isplitl [HZ]
    · iexists _; unfold owns; iexists _; isplitr
      swap; · iexact HZ
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (leaves_stored m c t 5 ((idle5 t).1.mpr (by omega)))
    rw [after5, ec]
    unfold owns; iexists _; isplitr
    swap; · iexact H5
    ipureintro; exact View.read_writes_eq_canon _ _ _ (att_cover5 m c t)
  isplitl [H6]
  · iapply (leaves_stored m c t 6 ((idle6 t).1.mpr (by omega)))
    rw [after6, ec]
    unfold owns; iexists _; isplitr
    swap; · iexact H6
    ipureintro; exact View.read_writes_eq_canon _ _ _ (att_cover6 m c t)
  isplitl [H7]
  · iapply (leaves_stored m c t 7 ((idle7 t).1.mpr (by omega)))
    rw [after7, ec]
    unfold owns; iexists _; isplitr
    swap; · iexact H7
    ipureintro; exact View.read_writes_eq_canon _ _ _ (att_cover7 m c t)
  isplitl [H8]; · iapply (keep8 m c t (by omega)); iexact H8
  isplitl [H9]; · iapply (keep9 m c t (by omega)); iexact H9
  isplitl [H10]; · iapply (keep10 m c t (by omega)); iexact H10
  iapply (leaves_stored m c t 11 ((idle11 t).1.mpr (by omega)))
  rw [after11, e0]
  iexact H11

set_option maxHeartbeats 3200000 in
/-- A point of the query and key columns of the recurrence. -/
theorem sound_mid (c : Dev nD) (t : Fin cfg0.N) (h : 6 ≤ colBlk t ∧ colBlk t < 10) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4]
  rw [Phi_later m c t (by omega)]
  iintro ⟨⟨⟨HH, HZ⟩, Hg⟩, Ho, ⟨%d0, H0⟩, ⟨%d1, H1⟩, ⟨%d2, H2⟩, ⟨%d3, H3⟩, ⟨%d4, H4⟩, H5, H6, H7, H8, H9, H10, H11⟩
  iapply ((midAt m c t h).2 Set.univ _)
  isplitl [H2]; · iexact H2
  isplitl [HH]; · iexact HH
  isplitl [H8]; · icases H8 with ⟨%d8, H8⟩; iexists _; iexact H8
  iintro ⟨H2, HH, ⟨%e8, H8⟩⟩
  isplitl [HH HZ Hg]
  · iapply (Phi_next m c t)
    isplitl [HH]; · iexact HH
    isplitl [HZ]; · iexact HZ
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (keep5 m c t (by omega)); iexact H5
  isplitl [H6]; · iapply (keep6 m c t (by omega)); iexact H6
  isplitl [H7]; · iapply (keep7 m c t (by omega)); iexact H7
  isplitl [H8]
  · iapply (leaves_stored m c t 8 ((idle8 t).1.mpr (by omega)))
    rw [after8, after8v_live m c t h]
    unfold owns; iexists _; isplitr
    swap; · iexact H8
    ipureintro; exact View.read_writes_eq_canon _ _ _ (mid_cover m c t h)
  isplitl [H9]; · iapply (keep9 m c t (by omega)); iexact H9
  isplitl [H10]; · iapply (keep10 m c t (by omega)); iexact H10
  iapply (keep11 m c t (by omega)); iexact H11

set_option maxHeartbeats 3200000 in
/-- A point of the value columns of the recurrence. -/
theorem sound_val (c : Dev nD) (t : Fin cfg0.N) (h : 10 ≤ colBlk t ∧ colBlk t < 12) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4]
  rw [Phi_later m c t (by omega)]
  iintro ⟨⟨⟨HH, HZ⟩, Hg⟩, Ho, ⟨%d0, H0⟩, ⟨%d1, H1⟩, ⟨%d2, H2⟩, ⟨%d3, H3⟩, ⟨%d4, H4⟩, H5, H6, H7, H8, H9, H10, H11⟩
  iapply ((valAt m c t h).2 Set.univ _)
  isplitl [H2]; · iexact H2
  isplitl [HH]; · iexact HH
  isplitl [H9]; · icases H9 with ⟨%d9, H9⟩; iexists _; iexact H9
  iintro ⟨H2, HH, ⟨%e9, H9⟩⟩
  isplitl [HH HZ Hg]
  · iapply (Phi_next m c t)
    isplitl [HH]; · iexact HH
    isplitl [HZ]; · iexact HZ
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (keep5 m c t (by omega)); iexact H5
  isplitl [H6]; · iapply (keep6 m c t (by omega)); iexact H6
  isplitl [H7]; · iapply (keep7 m c t (by omega)); iexact H7
  isplitl [H8]; · iapply (keep8 m c t (by omega)); iexact H8
  isplitl [H9]
  · iapply (leaves_stored m c t 9 ((idle9 t).1.mpr (by omega)))
    rw [after9, after9v_live m c t h]
    unfold owns; iexists _; isplitr
    swap; · iexact H9
    ipureintro; exact View.read_writes_eq_canon _ _ _ (val_cover m c t h)
  isplitl [H10]; · iapply (keep10 m c t (by omega)); iexact H10
  iapply (keep11 m c t (by omega)); iexact H11

set_option maxHeartbeats 3200000 in
/-- A point of the output gate columns of the recurrence. -/
theorem sound_out (c : Dev nD) (t : Fin cfg0.N) (h : 12 ≤ colBlk t) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4]
  rw [Phi_later m c t (by omega)]
  iintro ⟨⟨⟨HH, HZ⟩, Hg⟩, Ho, ⟨%d0, H0⟩, ⟨%d1, H1⟩, ⟨%d2, H2⟩, ⟨%d3, H3⟩, ⟨%d4, H4⟩, H5, H6, H7, H8, H9, H10, H11⟩
  iapply ((outAt m c t h).2 Set.univ _)
  isplitl [H2]; · iexact H2
  isplitl [HH]; · iexact HH
  isplitl [H10]; · icases H10 with ⟨%d10, H10⟩; iexists _; iexact H10
  iintro ⟨H2, HH, ⟨%e10, H10⟩⟩
  isplitl [HH HZ Hg]
  · iapply (Phi_next m c t)
    isplitl [HH]; · iexact HH
    isplitl [HZ]; · iexact HZ
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (keep5 m c t (by omega)); iexact H5
  isplitl [H6]; · iapply (keep6 m c t (by omega)); iexact H6
  isplitl [H7]; · iapply (keep7 m c t (by omega)); iexact H7
  isplitl [H8]; · iapply (keep8 m c t (by omega)); iexact H8
  isplitl [H9]; · iapply (keep9 m c t (by omega)); iexact H9
  isplitl [H10]
  · iapply (leaves_stored m c t 10 ((idle10 t).1.mpr (by omega)))
    rw [after10, after10v_live m c t h]
    unfold owns; iexists _; isplitr
    swap; · iexact H10
    ipureintro; exact View.read_writes_eq_canon _ _ _ (out_cover m c t h)
  iapply (keep11 m c t (by omega)); iexact H11

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : colBlk t = 0
  · exact sound_first m c t h0
  by_cases h1 : colBlk t < 6
  · exact sound_att m c t h0 h1
  by_cases h2 : colBlk t < 10
  · exact sound_mid m c t (by omega)
  by_cases h3 : colBlk t < 12
  · exact sound_val m c t (by omega)
  · exact sound_out m c t (by omega)

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  show _ ⊢ Phi m c 0 (Nat.zero_le _)
  unfold Phi; rw [dif_pos (Nat.zero_mod _)]

theorem hout (c : Dev nD) : (dats m 0 c).Φ (Fin.last cfg0.N) ⊢ Pipeline.ΦA spec0 c := by
  show Phi m c cfg0.N (Nat.le_refl _) ⊢ _
  unfold Phi; rw [dif_pos (show cfg0.N % 14 = 0 by decide)]

/-! ## The run and the frame -/

set_option backward.isDefEq.respectTransparency.types false in
/-- The launch runs, and ends with every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => (dats m 0 c).share_full (fun _ => rfl) w)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem kept_args (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_arg m c main_arg0 (by simp)))),
    ((h c).2 main_arg1 (Pipeline.mem_restRefs_of main_arg1 (by decide) (by decide))).trans (V_arg m c main_arg1 (by simp)),
    ((h c).2 main_arg2 (Pipeline.mem_restRefs_of main_arg2 (by decide) (by decide))).trans (V_arg m c main_arg2 (by simp)),
    ((h c).2 main_arg3 (Pipeline.mem_restRefs_of main_arg3 (by decide) (by decide))).trans (V_arg m c main_arg3 (by simp))⟩

/-- Every run ends with the arguments unchanged and every counter at zero. -/
theorem inproj_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨kept_args m r h.1, h.2⟩) (run_main_quiescent m ρ)

end Cert.InProjIdeal.Gen

end
-- ==== Proof.InProjArrays.lean ====
/- The input projection's result arrays on the extended reals: every point's blocks read off the arguments, and the blocks put
   together over the grid. -/
module

public import proofs.«01_k».proof.Proof.InProjBlock
public import proofs.«01_k».proof.Proof.InProjFrame

@[expose] public section

set_option maxRecDepth 16384

noncomputable section

namespace Cert.InProjIdeal.Value

open Cert.InProjIdeal Cert.InProjIdeal.Gen Idealize.ShloMosaic Idealize.ShloMosaic.TcCoe Idealize.SL.Sem
open Idealize.ShloMosaic.Pipeline (Dat)
open Cert.RowMath

variable (m : (ℓ : Loc nD τ sig) → Buf (Elt Ideal) ℓ)

/-! ## The blocks of the arguments -/

/-- The operands' blocks at point `t`, which works on row block `t / 14` and column block `t % 14`. -/
theorem index_in : ∀ t : Fin cfg0.N,
    (win0_0.index t 0 = t.val / 14 ∧ win0_0.index t 1 = 0) ∧ (win0_1.index t 0 = 0 ∧ win0_1.index t 1 = 0)
    ∧ (win0_2.index t 0 = 0 ∧ win0_2.index t 1 = t.val % 14) ∧ (win0_3.index t 0 = 0 ∧ win0_3.index t 1 = 0)
    ∧ (win0_4.index t 0 = 0 ∧ win0_4.index t 1 = 0) :=
  (by decide +kernel : ∀ t : Fin grid0.N, _)

/-- The attention results' blocks: batch `t / 28`, half of its rows, and the nearest of the six column blocks. -/
theorem index_att : ∀ t : Fin cfg0.N,
    (win0_5.index t 0 = t.val / 28 ∧ win0_5.index t 1 = 0 ∧ win0_5.index t 2 = t.val / 14 % 2 ∧ win0_5.index t 3 = min (t.val % 14) 5)
    ∧ (win0_6.index t 0 = t.val / 28 ∧ win0_6.index t 1 = 0 ∧ win0_6.index t 2 = t.val / 14 % 2 ∧ win0_6.index t 3 = min (t.val % 14) 5)
    ∧ (win0_7.index t 0 = t.val / 28 ∧ win0_7.index t 1 = 0 ∧ win0_7.index t 2 = t.val / 14 % 2 ∧ win0_7.index t 3 = min (t.val % 14) 5) :=
  (by decide +kernel : ∀ t : Fin grid0.N, _)

/-- The other results' blocks. -/
theorem index_rest : ∀ t : Fin cfg0.N,
    (win0_8.index t 0 = t.val / 14 ∧ win0_8.index t 1 = max 6 (min (t.val % 14) 9) - 6)
    ∧ (win0_9.index t 0 = t.val / 14 ∧ win0_9.index t 1 = max 10 (min (t.val % 14) 11) - 10)
    ∧ (win0_10.index t 0 = t.val / 14 ∧ win0_10.index t 1 = max 12 (min (t.val % 14) 13) - 12)
    ∧ (win0_11.index t 0 = 0 ∧ win0_11.index t 1 = t.val / 14) :=
  (by decide +kernel : ∀ t : Fin grid0.N, _)

/-- The points that write the attention results back. -/
theorem flush_att : ∀ t : Fin cfg0.N, t.val % 14 < 5 ∨ t.val % 14 = 13 →
    (cfg0.win 5).flush t = true ∧ (cfg0.win 6).flush t = true ∧ (cfg0.win 7).flush t = true :=
  (by decide +kernel : ∀ t : Fin grid0.N, t.val % 14 < 5 ∨ t.val % 14 = 13 →
    win0_5.flush t = true ∧ win0_6.flush t = true ∧ win0_7.flush t = true)

theorem flush8 : ∀ t : Fin cfg0.N, 6 ≤ t.val % 14 ∧ t.val % 14 < 9 ∨ t.val % 14 = 13 → (cfg0.win 8).flush t = true :=
  (by decide +kernel : ∀ t : Fin grid0.N, 6 ≤ t.val % 14 ∧ t.val % 14 < 9 ∨ t.val % 14 = 13 → win0_8.flush t = true)

theorem flush9 : ∀ t : Fin cfg0.N, t.val % 14 = 10 ∨ t.val % 14 = 13 → (cfg0.win 9).flush t = true :=
  (by decide +kernel : ∀ t : Fin grid0.N, t.val % 14 = 10 ∨ t.val % 14 = 13 → win0_9.flush t = true)

theorem flush10 : ∀ t : Fin cfg0.N, t.val % 14 = 12 ∨ t.val % 14 = 13 → (cfg0.win 10).flush t = true :=
  (by decide +kernel : ∀ t : Fin grid0.N, t.val % 14 = 12 ∨ t.val % 14 = 13 → win0_10.flush t = true)

theorem flush11 : ∀ t : Fin cfg0.N, t.val % 14 = 13 → (cfg0.win 11).flush t = true :=
  (by decide +kernel : ∀ t : Fin grid0.N, t.val % 14 = 13 → win0_11.flush t = true)

/-- The grid has 224 points. -/
theorem point_lt (t : Fin cfg0.N) : t.val < 224 := lt_of_lt_of_eq t.isLt N_0

/-- The norm's weight as the region finds it: one row. -/
theorem V_norm (c : Dev nD) (k : Fin 2048) : V m c main_v5 (ix2 0 k) = m (c.tc.loc main_arg1) (ix1 k) := by
  have h : V m c main_v5 = shapeCast S1x2048 (m (c.tc.loc main_arg1)) shapeCasts_S2048_S1x2048 := by
    unfold V
    after_results_simp
    rfl
  rw [h]
  pointwise

/-- The bias of the gates as the region finds it: one column. -/
theorem V_bias (c : Dev nD) (j : Fin 16) : V m c main_v6 (ix2 j 0) = m (c.tc.loc main_arg3) (ix1 j) := by
  have h : V m c main_v6 = shapeCast S16x1 (m (c.tc.loc main_arg3)) shapeCasts_S16_S16x1 := by
    unfold V
    after_results_simp
    rfl
  rw [h]
  pointwise

/-- The weights of the first 7168 columns as the region finds them. -/
theorem V_main (c : Dev nD) (k : Fin 2048) (q : Fin 7168) :
    V m c main_v1 (ix2 k q) = m (c.tc.loc main_arg2) (ix2 k ⟨q.val, by omega⟩) := by
  have h : V m c main_v1 = truncf (F := Ideal) .bf16 (extractStridedSlice (s := S2048x7184) S2048x7168 ![0, 0]
      (m (c.tc.loc main_arg2)) slices_S2048x7184_S2048x7168_0_0) bitsLt_bf16_f32 := by
    unfold V
    after_results_simp
  rw [h]
  pointwise

/-- The gates' weights as the region finds them: the last sixteen columns, as rows. -/
theorem V_gate (c : Dev nD) (j : Fin 16) (k : Fin 2048) :
    V m c main_v4 (ix2 j k) = m (c.tc.loc main_arg2) (ix2 k ⟨7168 + j.val, by omega⟩) := by
  have h : V m c main_v4 = truncf (F := Ideal) .bf16 (transpose S16x2048 [1, 0] (extractStridedSlice (s := S2048x7184) S2048x16
      ![0, 7168] (m (c.tc.loc main_arg2)) slices_S2048x7184_S2048x16_0_7168) transposes_S2048x16_S16x2048_1_0) bitsLt_bf16_f32 := by
    unfold V
    after_results_simp
  rw [h]
  pointwise

/-- Row `r` of row block `t / 14`. -/
abbrev row (t : Fin cfg0.N) (r : Fin 1024) : Fin 16384 := ⟨1024 * (t.val / 14) + r.val, by have := point_lt t; omega⟩

theorem iblk0 (c : Dev nD) (t : Fin cfg0.N) (r : Fin 1024) (k : Fin 2048) :
    iblk m c 0 t (ix2 r k) = m (c.tc.loc main_arg0) (ix2 (row t r) k) := by
  have hi := (index_in t).1
  rw [← V_arg m c main_arg0 (by simp)]
  unfold iblk
  rw [View.read_apply]
  show V m c main_arg0 _ = _
  congr 1
  funext a
  apply Fin.ext
  match a with
  | ⟨0, _⟩ => show win0_0.index t 0 * 1024 + 1 * r.val = 1024 * (t.val / 14) + r.val; rw [hi.1]; omega
  | ⟨1, _⟩ => show win0_0.index t 1 * 2048 + 1 * k.val = k.val; rw [hi.2]; omega

theorem iblk1 (c : Dev nD) (t : Fin cfg0.N) (k : Fin 2048) : iblk m c 1 t (ix2 0 k) = m (c.tc.loc main_arg1) (ix1 k) := by
  have hi := (index_in t).2.1
  rw [← V_norm m c]
  unfold iblk
  rw [View.read_apply]
  show V m c main_v5 _ = _
  congr 1
  funext a
  apply Fin.ext
  match a with
  | ⟨0, _⟩ => show win0_1.index t 0 * 1 + 1 * 0 = 0; rw [hi.1]
  | ⟨1, _⟩ => show win0_1.index t 1 * 2048 + 1 * k.val = k.val; rw [hi.2]; omega

theorem iblk2 (c : Dev nD) (t : Fin cfg0.N) (k : Fin 2048) (q : Fin 512) :
    iblk m c 2 t (ix2 k q) = m (c.tc.loc main_arg2) (ix2 k ⟨512 * (t.val % 14) + q.val, by omega⟩) := by
  have hi := (index_in t).2.2.1
  refine Eq.trans ?_ (V_main m c k ⟨512 * (t.val % 14) + q.val, by omega⟩)
  unfold iblk
  rw [View.read_apply]
  show V m c main_v1 _ = _
  congr 1
  funext a
  apply Fin.ext
  match a with
  | ⟨0, _⟩ => show win0_2.index t 0 * 2048 + 1 * k.val = k.val; rw [hi.1]; omega
  | ⟨1, _⟩ => show win0_2.index t 1 * 512 + 1 * q.val = 512 * (t.val % 14) + q.val; rw [hi.2]; omega

theorem iblk3 (c : Dev nD) (t : Fin cfg0.N) (j : Fin 16) (k : Fin 2048) :
    iblk m c 3 t (ix2 j k) = m (c.tc.loc main_arg2) (ix2 k ⟨7168 + j.val, by omega⟩) := by
  have hi := (index_in t).2.2.2.1
  rw [← V_gate m c]
  unfold iblk
  rw [View.read_apply]
  show V m c main_v4 _ = _
  congr 1
  funext a
  apply Fin.ext
  match a with
  | ⟨0, _⟩ => show win0_3.index t 0 * 16 + 1 * j.val = j.val; rw [hi.1]; omega
  | ⟨1, _⟩ => show win0_3.index t 1 * 2048 + 1 * k.val = k.val; rw [hi.2]; omega

theorem iblk4 (c : Dev nD) (t : Fin cfg0.N) (j : Fin 16) : iblk m c 4 t (ix2 j 0) = m (c.tc.loc main_arg3) (ix1 j) := by
  have hi := (index_in t).2.2.2.2
  rw [← V_bias m c]
  unfold iblk
  rw [View.read_apply]
  show V m c main_v6 _ = _
  congr 1
  funext a
  apply Fin.ext
  match a with
  | ⟨0, _⟩ => show win0_4.index t 0 * 16 + 1 * j.val = j.val; rw [hi.1]; omega
  | ⟨1, _⟩ => show win0_4.index t 1 * 1 + 1 * 0 = 0; rw [hi.2]

/-! ## The product, entry by entry -/

/-- The normalised row `a` of the argument. -/
def rowN (c : Dev nD) (a : Fin 16384) (k : Fin 2048) : EReal :=
  normed (fun k => m (c.tc.loc main_arg0) (ix2 a k)) (fun k => m (c.tc.loc main_arg1) (ix1 k)) k

/-- Entry `(a, q)` of the projection. -/
def proj (c : Dev nD) (a : Fin 16384) (q : Fin 7184) : EReal :=
  ∑ k : Fin 2048, rowN m c a k * m (c.tc.loc main_arg2) (ix2 k q)

theorem normed_block (c : Dev nD) (t : Fin cfg0.N) (r : Fin 1024) (k : Fin 2048) :
    normed (fun k => iblk m c 0 (clamp 0 0 (by omega) t) (ix2 r k)) (fun k => iblk m c 1 (clamp 0 0 (by omega) t) (ix2 0 k)) k
      = rowN m c (row t r) k := by
  have h : row (clamp 0 0 (by omega) t) r = row t r := by
    apply Fin.ext
    show 1024 * ((14 * (t.val / 14) + max 0 (min (t.val % 14) 0)) / 14) + r.val = 1024 * (t.val / 14) + r.val
    omega
  simp only [iblk0, iblk1, h]
  rfl

theorem rowsH_apply (c : Dev nD) (t : Fin cfg0.N) (r : Fin 1024) (k : Fin 2048) :
    rowsH m c t (ix2 r k) = rowN m c (row t r) k :=
  (pay2_apply _ _ r k).trans (normed_block m c t r k)

theorem zAt_eq (c : Dev nD) (s : Fin cfg0.N) (r : Fin 1024) (q : Fin 512) :
    zAt m c s r q = proj m c (row s r) ⟨512 * (s.val % 14) + q.val, by omega⟩ := by
  unfold zAt prod proj
  exact Finset.sum_congr rfl fun k _ => by rw [rowsH_apply, iblk2]

/-- The same with the point and its columns named otherwise. -/
theorem zAt_at (c : Dev nD) (s : Fin cfg0.N) (r : Fin 1024) (q : Fin 512) (a : Fin 16384) (b : Fin 7184)
    (ha : a.val = 1024 * (s.val / 14) + r.val) (hb : b.val = 512 * (s.val % 14) + q.val) : zAt m c s r q = proj m c a b := by
  rw [zAt_eq]
  congr 1 <;> apply Fin.ext
  · exact ha.symm
  · exact hb.symm

/-! ## The result arrays -/

theorem eq_one {d n k : ℕ} (z : (⟨4, ![1, d, n, k]⟩ : Shape).Idx) : z = ix4 (0 : Fin 1) (z 1) (z 2) (z 3) := by
  funext a; apply Fin.ext
  match a with
  | ⟨0, _⟩ => exact Nat.lt_one_iff.1 (z 0).isLt
  | ⟨1, _⟩ | ⟨2, _⟩ | ⟨3, _⟩ => rfl

/-- The point that writes back the attention results' block of batch `b`, half `e` and column block `g`. -/
theorem att_point (b e g : ℕ) (hb : b < 8) (he : e < 2) (hg : g < 6) : ∃ t : Fin cfg0.N, t.val / 28 = b ∧ t.val / 14 % 2 = e
    ∧ min (t.val % 14) 5 = g ∧ (cfg0.win 5).flush t = true ∧ (cfg0.win 6).flush t = true ∧ (cfg0.win 7).flush t = true := by
  refine ⟨⟨14 * (2 * b + e) + (if g = 5 then 13 else g), ?_⟩, ?_, ?_, ?_, flush_att _ ?_⟩
  · have : cfg0.N = 224 := N_0
    split <;> omega
  all_goals (dsimp only; split <;> omega)

/-- The row of the argument behind row `r` of the block at point `t`, column block `g` of the results from column `o` on. -/
theorem rest_point (w : Fin cfg0.W) (lo hi : ℕ) (hl : lo ≤ hi ∧ hi ≤ 13)
    (hf : ∀ t : Fin cfg0.N, lo ≤ t.val % 14 ∧ t.val % 14 < hi ∨ t.val % 14 = 13 → (cfg0.win w).flush t = true)
    (b g : ℕ) (hb : b < 16) (hg : g < hi + 1 - lo) : ∃ t : Fin cfg0.N, t.val / 14 = b ∧ max lo (min (t.val % 14) hi) - lo = g
      ∧ (cfg0.win w).flush t = true := by
  refine ⟨⟨14 * b + (if g = hi - lo then 13 else lo + g), ?_⟩, ?_, ?_, hf _ ?_⟩
  · have : cfg0.N = 224 := N_0
    split <;> omega
  all_goals (dsimp only; split <;> omega)

/-- What the first attention result ends holding. -/
def result5 (c : Dev nD) : S8x1x2048x3072.Idx → Elt Ideal .bf16 := fun y =>
  proj m c ⟨2048 * (y 0).val + (y 2).val, by
    have h0 : (y 0).val < 8 := (y 0).isLt
    have h1 : (y 1).val < 1 := (y 1).isLt
    have h2 : (y 2).val < 2048 := (y 2).isLt
    omega⟩ ⟨(y 3).val, by have h3 : (y 3).val < 3072 := (y 3).isLt; omega⟩

theorem flushed5_eq (c : Dev nD) (t : Fin cfg0.N) :
    (dats m 0 c).flushed 5 t = ((cfg0.win 5).blk t).view.read (Elt Ideal) (result5 m c) := by
  have hi := (index_att t).1
  have ht := point_lt t
  show (cfg0.win 5).cut (grid0.coords t) ((dats m 0 c).after 5 t) = _
  rw [after5]
  funext j
  obtain ⟨l, q, rfl⟩ : ∃ (l : Fin 1024) (q : Fin 512), j = ix4 0 0 l q := ⟨j 2, j 3, eq_pair j⟩
  rw [View.read_apply]
  refine (att_value m c _ l q).trans ((zAt_at m c _ _ _ _ _ ?_ ?_))
  · show 2048 * (win0_5.index t 0 * 1 + 1 * 0) + (win0_5.index t 2 * 1024 + 1 * l.val)
      = 1024 * ((14 * (t.val / 14) + max 0 (min (t.val % 14) 5)) / 14) + l.val
    rw [hi.1, hi.2.2.1]; omega
  · show win0_5.index t 3 * 512 + 1 * q.val = 512 * ((14 * (t.val / 14) + max 0 (min (t.val % 14) 5)) % 14) + q.val
    rw [hi.2.2.2]; omega

theorem cover5 (i : S8x1x2048x3072.Idx) : ∃ t : Fin cfg0.N, (cfg0.win 5).flush t = true ∧ i ∈ ((cfg0.win 5).blk t).view.set := by
  have h0 : (i 0 : Nat) < 8 := (i 0).isLt
  have h1 : (i 1 : Nat) < 1 := (i 1).isLt
  have h2 : (i 2 : Nat) < 2048 := (i 2).isLt
  have h3 : (i 3 : Nat) < 3072 := (i 3).isLt
  obtain ⟨t, e0, e2, e3, hf⟩ := att_point (i 0 : Nat) ((i 2 : Nat) / 1024) ((i 3 : Nat) / 512) h0 (by omega) (by omega)
  have hi := (index_att t).1
  refine ⟨t, hf.1, ?_⟩
  show i ∈ ((View.whole main_v7_0).slice (win0_5.rect t)).set
  rw [View.set_slice_whole, Rect.mem_set_unit]
  intro a
  match a with
  | ⟨0, _⟩ => show win0_5.index t 0 * 1 ≤ (i 0 : Nat) ∧ (i 0 : Nat) < win0_5.index t 0 * 1 + 1
              rw [hi.1]; omega
  | ⟨1, _⟩ => show win0_5.index t 1 * 1 ≤ (i 1 : Nat) ∧ (i 1 : Nat) < win0_5.index t 1 * 1 + 1
              rw [hi.2.1]; omega
  | ⟨2, _⟩ => show win0_5.index t 2 * 1024 ≤ (i 2 : Nat) ∧ (i 2 : Nat) < win0_5.index t 2 * 1024 + 1024
              rw [hi.2.2.1]; omega
  | ⟨3, _⟩ => show win0_5.index t 3 * 512 ≤ (i 3 : Nat) ∧ (i 3 : Nat) < win0_5.index t 3 * 512 + 512
              rw [hi.2.2.2]; omega

theorem final5 (c : Dev nD) : (dats m 0 c).arrAt 5 cfg0.N = result5 m c :=
  (dats m 0 c).arrAt_eq_of_cover 5 (result5 m c) (fun t _ => flushed5_eq m c t) cover5

/-- What the second attention result ends holding. -/
def result6 (c : Dev nD) : S8x4x512x3072.Idx → Elt Ideal .bf16 := fun y =>
  proj m c ⟨2048 * (y 0).val + 4 * (y 2).val + (y 1).val, by
    have h0 : (y 0).val < 8 := (y 0).isLt
    have h1 : (y 1).val < 4 := (y 1).isLt
    have h2 : (y 2).val < 512 := (y 2).isLt
    omega⟩ ⟨(y 3).val, by have h3 : (y 3).val < 3072 := (y 3).isLt; omega⟩

theorem flushed6_eq (c : Dev nD) (t : Fin cfg0.N) :
    (dats m 0 c).flushed 6 t = ((cfg0.win 6).blk t).view.read (Elt Ideal) (result6 m c) := by
  have hi := (index_att t).2.1
  have ht := point_lt t
  show (cfg0.win 6).cut (grid0.coords t) ((dats m 0 c).after 6 t) = _
  rw [after6]
  funext j
  obtain ⟨k, l, q, rfl⟩ : ∃ (k : Fin 4) (l : Fin 256) (q : Fin 512), j = ix4 0 k l q := ⟨j 1, j 2, j 3, eq_one j⟩
  rw [View.read_apply]
  refine (att4_value m c _ k l q).trans ((zAt_at m c _ _ _ _ _ ?_ ?_))
  · show 2048 * (win0_6.index t 0 * 1 + 1 * 0) + 4 * (win0_6.index t 2 * 256 + 1 * l.val) + (win0_6.index t 1 * 4 + 1 * k.val)
      = 1024 * ((14 * (t.val / 14) + max 0 (min (t.val % 14) 5)) / 14) + (4 * l.val + k.val)
    rw [hi.1, hi.2.2.1, hi.2.1]; omega
  · show win0_6.index t 3 * 512 + 1 * q.val = 512 * ((14 * (t.val / 14) + max 0 (min (t.val % 14) 5)) % 14) + q.val
    rw [hi.2.2.2]; omega

theorem cover6 (i : S8x4x512x3072.Idx) : ∃ t : Fin cfg0.N, (cfg0.win 6).flush t = true ∧ i ∈ ((cfg0.win 6).blk t).view.set := by
  have h0 : (i 0 : Nat) < 8 := (i 0).isLt
  have h1 : (i 1 : Nat) < 4 := (i 1).isLt
  have h2 : (i 2 : Nat) < 512 := (i 2).isLt
  have h3 : (i 3 : Nat) < 3072 := (i 3).isLt
  obtain ⟨t, e0, e2, e3, hf⟩ := att_point (i 0 : Nat) ((i 2 : Nat) / 256) ((i 3 : Nat) / 512) h0 (by omega) (by omega)
  have hi := (index_att t).2.1
  refine ⟨t, hf.2.1, ?_⟩
  show i ∈ ((View.whole main_v7_1).slice (win0_6.rect t)).set
  rw [View.set_slice_whole, Rect.mem_set_unit]
  intro a
  match a with
  | ⟨0, _⟩ => show win0_6.index t 0 * 1 ≤ (i 0 : Nat) ∧ (i 0 : Nat) < win0_6.index t 0 * 1 + 1
              rw [hi.1]; omega
  | ⟨1, _⟩ => show win0_6.index t 1 * 4 ≤ (i 1 : Nat) ∧ (i 1 : Nat) < win0_6.index t 1 * 4 + 4
              rw [hi.2.1]; omega
  | ⟨2, _⟩ => show win0_6.index t 2 * 256 ≤ (i 2 : Nat) ∧ (i 2 : Nat) < win0_6.index t 2 * 256 + 256
              rw [hi.2.2.1]; omega
  | ⟨3, _⟩ => show win0_6.index t 3 * 512 ≤ (i 3 : Nat) ∧ (i 3 : Nat) < win0_6.index t 3 * 512 + 512
              rw [hi.2.2.2]; omega

theorem final6 (c : Dev nD) : (dats m 0 c).arrAt 6 cfg0.N = result6 m c :=
  (dats m 0 c).arrAt_eq_of_cover 6 (result6 m c) (fun t _ => flushed6_eq m c t) cover6

/-- What the third attention result ends holding. -/
def result7 (c : Dev nD) : S8x16x128x3072.Idx → Elt Ideal .bf16 := fun y =>
  proj m c ⟨2048 * (y 0).val + 16 * (y 2).val + (y 1).val, by
    have h0 : (y 0).val < 8 := (y 0).isLt
    have h1 : (y 1).val < 16 := (y 1).isLt
    have h2 : (y 2).val < 128 := (y 2).isLt
    omega⟩ ⟨(y 3).val, by have h3 : (y 3).val < 3072 := (y 3).isLt; omega⟩

theorem flushed7_eq (c : Dev nD) (t : Fin cfg0.N) :
    (dats m 0 c).flushed 7 t = ((cfg0.win 7).blk t).view.read (Elt Ideal) (result7 m c) := by
  have hi := (index_att t).2.2
  have ht := point_lt t
  show (cfg0.win 7).cut (grid0.coords t) ((dats m 0 c).after 7 t) = _
  rw [after7]
  funext j
  obtain ⟨k, l, q, rfl⟩ : ∃ (k : Fin 16) (l : Fin 64) (q : Fin 512), j = ix4 0 k l q := ⟨j 1, j 2, j 3, eq_one j⟩
  rw [View.read_apply]
  refine (att16_value m c _ k l q).trans ((zAt_at m c _ _ _ _ _ ?_ ?_))
  · show 2048 * (win0_7.index t 0 * 1 + 1 * 0) + 16 * (win0_7.index t 2 * 64 + 1 * l.val) + (win0_7.index t 1 * 16 + 1 * k.val)
      = 1024 * ((14 * (t.val / 14) + max 0 (min (t.val % 14) 5)) / 14) + (16 * l.val + k.val)
    rw [hi.1, hi.2.2.1, hi.2.1]; omega
  · show win0_7.index t 3 * 512 + 1 * q.val = 512 * ((14 * (t.val / 14) + max 0 (min (t.val % 14) 5)) % 14) + q.val
    rw [hi.2.2.2]; omega

theorem cover7 (i : S8x16x128x3072.Idx) : ∃ t : Fin cfg0.N, (cfg0.win 7).flush t = true ∧ i ∈ ((cfg0.win 7).blk t).view.set := by
  have h0 : (i 0 : Nat) < 8 := (i 0).isLt
  have h1 : (i 1 : Nat) < 16 := (i 1).isLt
  have h2 : (i 2 : Nat) < 128 := (i 2).isLt
  have h3 : (i 3 : Nat) < 3072 := (i 3).isLt
  obtain ⟨t, e0, e2, e3, hf⟩ := att_point (i 0 : Nat) ((i 2 : Nat) / 64) ((i 3 : Nat) / 512) h0 (by omega) (by omega)
  have hi := (index_att t).2.2
  refine ⟨t, hf.2.2, ?_⟩
  show i ∈ ((View.whole main_v7_2).slice (win0_7.rect t)).set
  rw [View.set_slice_whole, Rect.mem_set_unit]
  intro a
  match a with
  | ⟨0, _⟩ => show win0_7.index t 0 * 1 ≤ (i 0 : Nat) ∧ (i 0 : Nat) < win0_7.index t 0 * 1 + 1
              rw [hi.1]; omega
  | ⟨1, _⟩ => show win0_7.index t 1 * 16 ≤ (i 1 : Nat) ∧ (i 1 : Nat) < win0_7.index t 1 * 16 + 16
              rw [hi.2.1]; omega
  | ⟨2, _⟩ => show win0_7.index t 2 * 64 ≤ (i 2 : Nat) ∧ (i 2 : Nat) < win0_7.index t 2 * 64 + 64
              rw [hi.2.2.1]; omega
  | ⟨3, _⟩ => show win0_7.index t 3 * 512 ≤ (i 3 : Nat) ∧ (i 3 : Nat) < win0_7.index t 3 * 512 + 512
              rw [hi.2.2.2]; omega

theorem final7 (c : Dev nD) : (dats m 0 c).arrAt 7 cfg0.N = result7 m c :=
  (dats m 0 c).arrAt_eq_of_cover 7 (result7 m c) (fun t _ => flushed7_eq m c t) cover7

/-- What the queries and keys of the recurrence ends holding. -/
def result8 (c : Dev nD) : S16384x2048.Idx → Elt Ideal .f32 := fun y =>
  proj m c (y 0) ⟨3072 + (y 1).val, by have h1 : (y 1).val < 2048 := (y 1).isLt; omega⟩

theorem flushed8_eq (c : Dev nD) (t : Fin cfg0.N) :
    (dats m 0 c).flushed 8 t = ((cfg0.win 8).blk t).view.read (Elt Ideal) (result8 m c) := by
  have hi := (index_rest t).1
  have ht := point_lt t
  show (cfg0.win 8).cut (grid0.coords t) ((dats m 0 c).after 8 t) = _
  rw [after8]
  funext j
  obtain ⟨r, q, rfl⟩ : ∃ (r : Fin 1024) (q : Fin 512), j = ix2 r q := ⟨j 0, j 1, eq_ix2 j⟩
  rw [View.read_apply]
  refine (mid_value m c _ _ r q).trans ((zAt_at m c _ _ _ _ _ ?_ ?_))
  · show win0_8.index t 0 * 1024 + 1 * r.val = 1024 * ((14 * (t.val / 14) + max 6 (min (t.val % 14) 9)) / 14) + r.val
    rw [hi.1]; omega
  · show 3072 + (win0_8.index t 1 * 512 + 1 * q.val) = 512 * ((14 * (t.val / 14) + max 6 (min (t.val % 14) 9)) % 14) + q.val
    rw [hi.2]; omega

theorem cover8 (i : S16384x2048.Idx) : ∃ t : Fin cfg0.N, (cfg0.win 8).flush t = true ∧ i ∈ ((cfg0.win 8).blk t).view.set := by
  have h0 : (i 0 : Nat) < 16384 := (i 0).isLt
  have h1 : (i 1 : Nat) < 2048 := (i 1).isLt
  obtain ⟨t, e0, e1, hf⟩ := rest_point 8 6 9 (by omega) (fun t h => flush8 t (by omega)) ((i 0 : Nat) / 1024) ((i 1 : Nat) / 512)
    (by omega) (by omega)
  have hi := (index_rest t).1
  refine ⟨t, hf, ?_⟩
  show i ∈ ((View.whole main_v7_3).slice (win0_8.rect t)).set
  rw [View.set_slice_whole, Rect.mem_set_unit]
  intro a
  match a with
  | ⟨0, _⟩ => show win0_8.index t 0 * 1024 ≤ (i 0 : Nat) ∧ (i 0 : Nat) < win0_8.index t 0 * 1024 + 1024
              rw [hi.1]; omega
  | ⟨1, _⟩ => show win0_8.index t 1 * 512 ≤ (i 1 : Nat) ∧ (i 1 : Nat) < win0_8.index t 1 * 512 + 512
              rw [hi.2]; omega

theorem final8 (c : Dev nD) : (dats m 0 c).arrAt 8 cfg0.N = result8 m c :=
  (dats m 0 c).arrAt_eq_of_cover 8 (result8 m c) (fun t _ => flushed8_eq m c t) cover8

/-- What the values of the recurrence ends holding. -/
def result9 (c : Dev nD) : S16384x1024.Idx → Elt Ideal .bf16 := fun y =>
  proj m c (y 0) ⟨5120 + (y 1).val, by have h1 : (y 1).val < 1024 := (y 1).isLt; omega⟩

theorem flushed9_eq (c : Dev nD) (t : Fin cfg0.N) :
    (dats m 0 c).flushed 9 t = ((cfg0.win 9).blk t).view.read (Elt Ideal) (result9 m c) := by
  have hi := (index_rest t).2.1
  have ht := point_lt t
  show (cfg0.win 9).cut (grid0.coords t) ((dats m 0 c).after 9 t) = _
  rw [after9]
  funext j
  obtain ⟨r, q, rfl⟩ : ∃ (r : Fin 1024) (q : Fin 512), j = ix2 r q := ⟨j 0, j 1, eq_ix2 j⟩
  rw [View.read_apply]
  refine (val_value m c _ _ r q).trans ((zAt_at m c _ _ _ _ _ ?_ ?_))
  · show win0_9.index t 0 * 1024 + 1 * r.val = 1024 * ((14 * (t.val / 14) + max 10 (min (t.val % 14) 11)) / 14) + r.val
    rw [hi.1]; omega
  · show 5120 + (win0_9.index t 1 * 512 + 1 * q.val) = 512 * ((14 * (t.val / 14) + max 10 (min (t.val % 14) 11)) % 14) + q.val
    rw [hi.2]; omega

theorem cover9 (i : S16384x1024.Idx) : ∃ t : Fin cfg0.N, (cfg0.win 9).flush t = true ∧ i ∈ ((cfg0.win 9).blk t).view.set := by
  have h0 : (i 0 : Nat) < 16384 := (i 0).isLt
  have h1 : (i 1 : Nat) < 1024 := (i 1).isLt
  obtain ⟨t, e0, e1, hf⟩ := rest_point 9 10 11 (by omega) (fun t h => flush9 t (by omega)) ((i 0 : Nat) / 1024) ((i 1 : Nat) / 512)
    (by omega) (by omega)
  have hi := (index_rest t).2.1
  refine ⟨t, hf, ?_⟩
  show i ∈ ((View.whole main_v7_4).slice (win0_9.rect t)).set
  rw [View.set_slice_whole, Rect.mem_set_unit]
  intro a
  match a with
  | ⟨0, _⟩ => show win0_9.index t 0 * 1024 ≤ (i 0 : Nat) ∧ (i 0 : Nat) < win0_9.index t 0 * 1024 + 1024
              rw [hi.1]; omega
  | ⟨1, _⟩ => show win0_9.index t 1 * 512 ≤ (i 1 : Nat) ∧ (i 1 : Nat) < win0_9.index t 1 * 512 + 512
              rw [hi.2]; omega

theorem final9 (c : Dev nD) : (dats m 0 c).arrAt 9 cfg0.N = result9 m c :=
  (dats m 0 c).arrAt_eq_of_cover 9 (result9 m c) (fun t _ => flushed9_eq m c t) cover9

/-- What the output gate of the recurrence ends holding. -/
def result10 (c : Dev nD) : S16384x1024.Idx → Elt Ideal .f32 := fun y =>
  proj m c (y 0) ⟨6144 + (y 1).val, by have h1 : (y 1).val < 1024 := (y 1).isLt; omega⟩

theorem flushed10_eq (c : Dev nD) (t : Fin cfg0.N) :
    (dats m 0 c).flushed 10 t = ((cfg0.win 10).blk t).view.read (Elt Ideal) (result10 m c) := by
  have hi := (index_rest t).2.2.1
  have ht := point_lt t
  show (cfg0.win 10).cut (grid0.coords t) ((dats m 0 c).after 10 t) = _
  rw [after10]
  funext j
  obtain ⟨r, q, rfl⟩ : ∃ (r : Fin 1024) (q : Fin 512), j = ix2 r q := ⟨j 0, j 1, eq_ix2 j⟩
  rw [View.read_apply]
  refine (out_value m c _ _ r q).trans ((zAt_at m c _ _ _ _ _ ?_ ?_))
  · show win0_10.index t 0 * 1024 + 1 * r.val = 1024 * ((14 * (t.val / 14) + max 12 (min (t.val % 14) 13)) / 14) + r.val
    rw [hi.1]; omega
  · show 6144 + (win0_10.index t 1 * 512 + 1 * q.val) = 512 * ((14 * (t.val / 14) + max 12 (min (t.val % 14) 13)) % 14) + q.val
    rw [hi.2]; omega

theorem cover10 (i : S16384x1024.Idx) : ∃ t : Fin cfg0.N, (cfg0.win 10).flush t = true ∧ i ∈ ((cfg0.win 10).blk t).view.set := by
  have h0 : (i 0 : Nat) < 16384 := (i 0).isLt
  have h1 : (i 1 : Nat) < 1024 := (i 1).isLt
  obtain ⟨t, e0, e1, hf⟩ := rest_point 10 12 13 (by omega) (fun t h => flush10 t (by omega)) ((i 0 : Nat) / 1024) ((i 1 : Nat) / 512)
    (by omega) (by omega)
  have hi := (index_rest t).2.2.1
  refine ⟨t, hf, ?_⟩
  show i ∈ ((View.whole main_v7_5).slice (win0_10.rect t)).set
  rw [View.set_slice_whole, Rect.mem_set_unit]
  intro a
  match a with
  | ⟨0, _⟩ => show win0_10.index t 0 * 1024 ≤ (i 0 : Nat) ∧ (i 0 : Nat) < win0_10.index t 0 * 1024 + 1024
              rw [hi.1]; omega
  | ⟨1, _⟩ => show win0_10.index t 1 * 512 ≤ (i 1 : Nat) ∧ (i 1 : Nat) < win0_10.index t 1 * 512 + 512
              rw [hi.2]; omega

theorem final10 (c : Dev nD) : (dats m 0 c).arrAt 10 cfg0.N = result10 m c :=
  (dats m 0 c).arrAt_eq_of_cover 10 (result10 m c) (fun t _ => flushed10_eq m c t) cover10

/-- What the gates end holding. -/
def result11 (c : Dev nD) : S16x16384.Idx → Elt Ideal .f32 := fun y =>
  proj m c (y 1) ⟨7168 + (y 0).val, by have h0 : (y 0).val < 16 := (y 0).isLt; omega⟩ + m (c.tc.loc main_arg3) (ix1 (y 0))

theorem gate_value (c : Dev nD) (t : Fin cfg0.N) (j : Fin 16) (r : Fin 1024) :
    k0_pay3 (iblk m c 0 (clamp 0 0 (by omega) t)) (iblk m c 1 (clamp 0 0 (by omega) t)) (iblk m c 3 (clamp 0 0 (by omega) t))
        (iblk m c 4 (clamp 0 0 (by omega) t)) (ix2 j r)
      = proj m c (row t r) ⟨7168 + j.val, by omega⟩ + m (c.tc.loc main_arg3) (ix1 j) := by
  rw [pay3_apply, iblk4]
  congr 1
  unfold proj
  exact Finset.sum_congr rfl fun k _ => by rw [normed_block, iblk3, mul_comm]

theorem flushed11_eq (c : Dev nD) (t : Fin cfg0.N) :
    (dats m 0 c).flushed 11 t = ((cfg0.win 11).blk t).view.read (Elt Ideal) (result11 m c) := by
  have hi := (index_rest t).2.2.2
  have ht := point_lt t
  show (cfg0.win 11).cut (grid0.coords t) ((dats m 0 c).after 11 t) = _
  rw [after11]
  funext j
  obtain ⟨q, r, rfl⟩ : ∃ (q : Fin 16) (r : Fin 1024), j = ix2 q r := ⟨j 0, j 1, eq_ix2 j⟩
  rw [View.read_apply]
  have he : ((cfg0.win 11).blk t).view.emb (ix2 q r) = ix2 q (row t r) := by
    funext a
    apply Fin.ext
    match a with
    | ⟨0, _⟩ => show win0_11.index t 0 * 16 + 1 * q.val = q.val; rw [hi.1]; omega
    | ⟨1, _⟩ => show win0_11.index t 1 * 1024 + 1 * r.val = 1024 * (t.val / 14) + r.val; rw [hi.2]; omega
  rw [he]
  exact gate_value m c t q r

theorem cover11 (i : S16x16384.Idx) : ∃ t : Fin cfg0.N, (cfg0.win 11).flush t = true ∧ i ∈ ((cfg0.win 11).blk t).view.set := by
  have h0 : (i 0 : Nat) < 16 := (i 0).isLt
  have h1 : (i 1 : Nat) < 16384 := (i 1).isLt
  obtain ⟨t, e0, -, hf⟩ := rest_point 11 13 13 (by omega) (fun t h => flush11 t (by omega)) ((i 1 : Nat) / 1024) 0 (by omega) (by omega)
  have hi := (index_rest t).2.2.2
  refine ⟨t, hf, ?_⟩
  show i ∈ ((View.whole main_v7_6).slice (win0_11.rect t)).set
  rw [View.set_slice_whole, Rect.mem_set_unit]
  intro a
  match a with
  | ⟨0, _⟩ => show win0_11.index t 0 * 16 ≤ (i 0 : Nat) ∧ (i 0 : Nat) < win0_11.index t 0 * 16 + 16
              rw [hi.1]; omega
  | ⟨1, _⟩ => show win0_11.index t 1 * 1024 ≤ (i 1 : Nat) ∧ (i 1 : Nat) < win0_11.index t 1 * 1024 + 1024
              rw [hi.2]; omega

theorem final11 (c : Dev nD) : (dats m 0 c).arrAt 11 cfg0.N = result11 m c :=
  (dats m 0 c).arrAt_eq_of_cover 11 (result11 m c) (fun t _ => flushed11_eq m c t) cover11

end Cert.InProjIdeal.Value

end
-- ==== Proof.InProjValue.lean ====
/- The input projection and its reference end with equal results: the reference's operations, read entry by entry, are the same
   sums over the 2048 features of a normalised row. -/
module

public import proofs.«01_k».proof.Proof.InProjArrays
public import proofs.«01_k».proof.Proof.Gen.InProjReferenceIdeal.Run
public import proofs.«01_k».proof.Defs

@[expose] public section

set_option maxRecDepth 16384

noncomputable section

namespace Cert.InProjIdeal.Value

open Cert.InProjIdeal Cert.InProjIdeal.Gen Idealize.ShloMosaic Idealize.ShloMosaic.TcCoe Idealize.SL.Sem
open Idealize.ShloMosaic.Pipeline (Dat)
open Cert.RowMath

variable (m : (ℓ : Loc nD τ sig) → Buf (Elt Ideal) ℓ) (ρ : Dev nD → PrngReg)

/-- The run's results, array by array, with the arguments unchanged. -/
theorem run_results : θ_run defs (onTc (τ := τ) (main (F := Ideal))) ⟨m, fun _ => 0, ρ⟩ (fun r => ∀ c : Dev nD,
    r.2.mem ((c.tc : Thread nD τ).loc main_v7_0) = result5 m c
    ∧ r.2.mem ((c.tc : Thread nD τ).loc main_v7_1) = result6 m c
    ∧ r.2.mem ((c.tc : Thread nD τ).loc main_v7_2) = result7 m c
    ∧ r.2.mem ((c.tc : Thread nD τ).loc main_v7_3) = result8 m c
    ∧ r.2.mem ((c.tc : Thread nD τ).loc main_v7_4) = result9 m c
    ∧ r.2.mem ((c.tc : Thread nD τ).loc main_v7_5) = result10 m c
    ∧ r.2.mem ((c.tc : Thread nD τ).loc main_v7_6) = result11 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨((h c).1 5).trans (final5 m c), ((h c).1 6).trans (final6 m c), ((h c).1 7).trans (final7 m c),
    ((h c).1 8).trans (final8 m c), ((h c).1 9).trans (final9 m c), ((h c).1 10).trans (final10 m c), ((h c).1 11).trans (final11 m c),
    kept_args m r h c⟩) (run_main m ρ)

/-- The kernel and the reference end with equal results. -/
theorem algebraic : Cert.algebraic_InProjIdeal_InProjReferenceIdeal (hInProjIdeal := Cert.InProjIdeal.Gen.facts)
    (hInProjReferenceIdeal := Cert.InProjReferenceIdeal.Gen.facts) := by
  intro m g m' g' _ hag
  refine ⟨fun c => result5 m c, fun c => result6 m c, fun c => result7 m c, fun c => result8 m c, fun c => result9 m c,
    fun c => result10 m c, fun c => result11 m c, run_results m g,
    (θ_run _ _ _).mono (fun r h c => ?_) (Cert.InProjReferenceIdeal.Value.run (F := Ideal) m' g')⟩
  obtain ⟨h22, h25, h28, h29, h31, h32, h33, hargs⟩ := h c
  refine ⟨h22.trans ?_, h25.trans ?_, h28.trans ?_, h29.trans ?_, h31.trans ?_, h32.trans ?_, h33.trans ?_, hargs⟩
  all_goals simp only [(hag c).1, (hag c).2.1, (hag c).2.2.1, (hag c).2.2.2]
  · funext i
    obtain ⟨b, k, r, q, rfl⟩ : ∃ (b : Fin 8) (k : Fin 1) (r : Fin 2048) (q : Fin 3072), i = ix4 b k r q := ⟨i 0, i 1, i 2, i 3, eq_ix4 i⟩
    pointwise
    refine Eq.trans (b := proj m c ⟨b.val * 2048 + r.val, by omega⟩ ⟨q.val, by omega⟩) rfl ?_
    show proj m c _ _ = proj m c _ _
    congr 1
    apply Fin.ext
    show b.val * 2048 + r.val = 2048 * b.val + r.val
    omega
  · funext i
    obtain ⟨b, k, r, q, rfl⟩ : ∃ (b : Fin 8) (k : Fin 4) (r : Fin 512) (q : Fin 3072), i = ix4 b k r q := ⟨i 0, i 1, i 2, i 3, eq_ix4 i⟩
    pointwise
    refine Eq.trans (b := proj m c ⟨b.val * 2048 + r.val * 4 + k.val, by omega⟩ ⟨q.val, by omega⟩) rfl ?_
    show proj m c _ _ = proj m c _ _
    congr 1
    apply Fin.ext
    show b.val * 2048 + r.val * 4 + k.val = 2048 * b.val + 4 * r.val + k.val
    omega
  · funext i
    obtain ⟨b, k, r, q, rfl⟩ : ∃ (b : Fin 8) (k : Fin 16) (r : Fin 128) (q : Fin 3072), i = ix4 b k r q := ⟨i 0, i 1, i 2, i 3, eq_ix4 i⟩
    pointwise
    refine Eq.trans (b := proj m c ⟨b.val * 2048 + r.val * 16 + k.val, by omega⟩ ⟨q.val, by omega⟩) rfl ?_
    show proj m c _ _ = proj m c _ _
    congr 1
    apply Fin.ext
    show b.val * 2048 + r.val * 16 + k.val = 2048 * b.val + 16 * r.val + k.val
    omega
  · funext i
    obtain ⟨a, q, rfl⟩ : ∃ (a : Fin 16384) (q : Fin 2048), i = ix2 a q := ⟨i 0, i 1, eq_ix2 i⟩
    pointwise
    rfl
  · funext i
    obtain ⟨a, q, rfl⟩ : ∃ (a : Fin 16384) (q : Fin 1024), i = ix2 a q := ⟨i 0, i 1, eq_ix2 i⟩
    pointwise
    rfl
  · funext i
    obtain ⟨a, q, rfl⟩ : ∃ (a : Fin 16384) (q : Fin 1024), i = ix2 a q := ⟨i 0, i 1, eq_ix2 i⟩
    pointwise
    rfl
  · funext i
    obtain ⟨j, a, rfl⟩ : ∃ (j : Fin 16) (a : Fin 16384), i = ix2 j a := ⟨i 0, i 1, eq_ix2 i⟩
    pointwise
    rfl

end Cert.InProjIdeal.Value

end
-- ==== Proof.InProjSame.lean ====
/- The input projection's program with the machine's floats is the text whose frame is proved for any floats: the frame of the
   one is the frame of the other. -/
module

public import proofs.«01_k».proof.Proof.InProjFrame
public import proofs.«01_k».proof.Proof.Gen.InProj
public import proofs.«01_k».proof.Defs
public import Idealize.ShloMosaic.Lib.Tactic

@[expose] public section

set_option maxRecDepth 65536

noncomputable section

namespace Cert.InProj

open Idealize.ShloMosaic Idealize.SL.Sem Idealize.ShloMosaic.Tactic

variable {F : FTy → Type} [FloatOps F]

/-- The two printed programs are one text. -/
theorem main_same : (Cert.InProj.main (F := F)) = Cert.InProjIdeal.main (F := F) := by
  exact rfl

/-- Their launch bodies are one text. -/
theorem defs_same : (Cert.InProj.defs (F := F)) = Cert.InProjIdeal.defs (F := F) := by
  sl_kernel_rfl

/-- The program runs, ends with its arguments unchanged and leaves no counter raised. -/
theorem frame : Cert.quiescent_InProj (hInProj := Cert.InProj.Gen.facts) := by
  intro m g _
  rw [main_same, defs_same]
  exact Cert.InProjIdeal.Gen.inproj_frame (F := Bits) m g

end Cert.InProj

end
-- ==== Proof.ConvTaps.lean ====
/- One trip of the short convolution's kernel, entry by entry: rows of 512 positions, each with the position before it and the
   position after it, which are rows of the neighbouring blocks at the ends and zero outside the sequence. -/
module

public import proofs.«01_k».proof.Proof.Gen.ConvSiluIdeal.Value
public import Idealize.ShloMosaic.Lib.KernelVsHost
public import Idealize.ShloMosaic.Lib.Pointwise

@[expose] public section

set_option maxRecDepth 16384

noncomputable section

namespace Cert.ConvSiluIdeal.Value

open Cert.ConvSiluIdeal Cert.ConvSiluIdeal.Gen Idealize.ShloMosaic Idealize.ShloMosaic.TcCoe Idealize.ShloMosaic.Tactic Idealize.ShloMosaic.Pointwise

/-- The row numbers of a block, as the kernel compares them. -/
abbrev rowNumbers : IVec S512x1 32 := iota .tc S512x1 32 [0] iota_S512x1_d0_w32

/-- The loop runs over four blocks of 512 positions. -/
theorem trips_eq : k0_t1_loop.trips = 4 := by decide +kernel

/-- The last eight positions before the block, or the first eight at the first block. -/
theorem off2_eq : ∀ k : Fin k0_t1_loop.trips, k0_off2 k = ![0, 512 * k.val - 8, 0] := by decide +kernel

/-- Comparisons of the trip's first position with the ends. -/
theorem first_word : ∀ k : Fin k0_t1_loop.trips,
    Scalar.cmpi .sgt (Scalar.muli (Scf.iv 0#32 1#32 k) 512#32) 0#32 = if 0 < k.val then 1#1 else 0#1 := by decide +kernel

theorem last_word : ∀ k : Fin k0_t1_loop.trips,
    Scalar.cmpi .slt (Scalar.addi (Scalar.muli (Scf.iv 0#32 1#32 k) 512#32) 512#32) 2048#32 = if k.val < 3 then 1#1 else 0#1 := by
  decide +kernel

/-- A row number against a constant. -/
theorem row_word (n : ℕ) (hn : n < 512) (r : Fin 512) : (BitVec.ofNat 32 r.val == BitVec.ofNat 32 n) = decide (r.val = n) := by
  rw [Bool.eq_iff_iff, beq_iff_eq, decide_eq_true_iff, ← BitVec.toNat_inj, BitVec.toNat_ofNat, BitVec.toNat_ofNat]
  omega

/-- Which columns are keys, by their block. -/
theorem keys_word : ∀ j : Fin 8, Scalar.cmpi .sge (BitVec.ofNat 32 j.val) 4#32 = if 4 ≤ j.val then 1#1 else 0#1 := by decide +kernel

/-- Row `j` of the rows with one row of zeros before them and one after. -/
def padded (x : Fin 2048 → EReal) (j : ℕ) : EReal := if h : 1 ≤ j ∧ j - 1 < 2048 then x ⟨j - 1, h.2⟩ else 0

/-- Three taps over the padded rows, at position `n`, and the bias. -/
def taps (w : Fin 3 → EReal) (c : EReal) (x : Fin 2048 → EReal) (n : ℕ) : EReal :=
  w 0 * padded x n + w 1 * padded x (n + 1) + w 2 * padded x (n + 2) + c

/-- A number times its logistic. -/
def silu (y : EReal) : EReal := y * Ideal.logistic y

/-- The factor of a column: a sixteenth for the keys, one for the queries. -/
def factor (keys : Bool) : EReal := if keys then Ideal.ofBits .f32 1031798784#32 else 1

section
variable (k : Fin k0_t1_loop.trips) (a : Vec Ideal S1x512x256 .f32) (e₁ e₂ : Vec Ideal S1x8x256 .f32)
  (x : Fin 2048 → EReal) (b : Fin 256)

/-- The position before: the row above, and at the block's first row the last of the eight rows before the block, or zero. -/
theorem before_apply (r : Fin 512) (hn : 512 * k.val + r.val < 2048)
    (ha : ∀ r : Fin 512, ∀ h : 512 * k.val + r.val < 2048, a (ix3 0 r b) = x ⟨512 * k.val + r.val, h⟩)
    (h₁ : 0 < k.val → ∀ h : 512 * k.val - 1 < 2048, e₁ (ix3 0 7 b) = x ⟨512 * k.val - 1, h⟩) :
    k0_pay4 rowNumbers 0#32 1#32 k a e₁ (ix2 r b) = padded x (512 * k.val + r.val) := by
  pointwise [k0_pay4, k0_pay2]
  rw [first_word]
  unfold Scalar.select IntOp.cmpi padded
  simp only [row_word 0 (by omega) r]
  by_cases hr : r.val = 0
  · by_cases hk : 0 < k.val
    · rw [dif_pos ⟨by omega, by omega⟩]
      simp only [hr, hk, decide_true, if_true]
      exact h₁ hk _
    · rw [dif_neg (by omega)]
      simp [hr, hk]
  · rw [dif_pos ⟨by omega, by omega⟩]
    simp only [hr, decide_false]
    refine (if_neg (by decide)).trans ((ha _ (by show 512 * k.val + (r.val + 512 - 1) % 512 < 2048; omega)).trans (congrArg x (Fin.ext ?_)))
    show 512 * k.val + (r.val + 512 - 1) % 512 = 512 * k.val + r.val - 1
    omega

/-- The position after: the row below, and at the block's last row the first of the eight rows after the block, or zero. -/
theorem after_apply (r : Fin 512) (hn : 512 * k.val + r.val < 2048)
    (ha : ∀ r : Fin 512, ∀ h : 512 * k.val + r.val < 2048, a (ix3 0 r b) = x ⟨512 * k.val + r.val, h⟩)
    (h₂ : k.val < 3 → ∀ h : 512 * k.val + 512 < 2048, e₂ (ix3 0 0 b) = x ⟨512 * k.val + 512, h⟩) :
    Scalar.select (k0_pay6 rowNumbers (ix2 r b)) (k0_pay3 0#32 1#32 k e₂ (ix2 0 b)) (k0_pay5 a (ix2 r b))
      = padded x (512 * k.val + r.val + 2) := by
  pointwise [k0_pay5, k0_pay2, k0_pay3, k0_pay6]
  rw [last_word]
  unfold Scalar.select IntOp.cmpi padded
  simp only [row_word 511 (by omega) r]
  by_cases hr : r.val = 511
  · by_cases hk : k.val < 3
    · rw [dif_pos ⟨by omega, by omega⟩]
      simp only [hr, hk, decide_true, if_true]
      refine (h₂ hk (by omega)).trans (congrArg x (Fin.ext ?_))
      show 512 * k.val + 512 = 512 * k.val + 511 + 2 - 1
      omega
    · rw [dif_neg (by omega)]
      simp [hr, hk]
  · rw [dif_pos ⟨by omega, by have := r.isLt; omega⟩]
    simp only [hr, decide_false]
    refine (if_neg (by decide)).trans ((ha _ (by show 512 * k.val + (r.val + 512 - 511) % 512 < 2048; omega)).trans (congrArg x (Fin.ext ?_)))
    show 512 * k.val + (r.val + 512 - 511) % 512 = 512 * k.val + r.val + 2 - 1
    omega

/-- One entry of the rows a trip stores. -/
theorem trip_apply (i : grid0.Coords) (w0 w1 w2 c0 : Vec Ideal S1x256 .f32) (r : Fin 512) (hn : 512 * k.val + r.val < 2048)
    (ha : ∀ r : Fin 512, ∀ h : 512 * k.val + r.val < 2048, a (ix3 0 r b) = x ⟨512 * k.val + r.val, h⟩)
    (h₁ : 0 < k.val → ∀ h : 512 * k.val - 1 < 2048, e₁ (ix3 0 7 b) = x ⟨512 * k.val - 1, h⟩)
    (h₂ : k.val < 3 → ∀ h : 512 * k.val + 512 < 2048, e₂ (ix3 0 0 b) = x ⟨512 * k.val + 512, h⟩) :
    k0_pay1 i w0 w1 w2 c0 (k0_pay2 a) (k0_pay3 0#32 1#32 k e₂) (k0_pay4 rowNumbers 0#32 1#32 k a e₁) (k0_pay5 a) (k0_pay6 rowNumbers)
        (ix3 0 r b)
      = silu (taps ![w0 (ix2 0 b), w1 (ix2 0 b), w2 (ix2 0 b)] (c0 (ix2 0 b)) x (512 * k.val + r.val)) * factor (decide (4 ≤ (i 1).val)) := by
  have hmid : k0_pay2 a (ix2 r b) = padded x (512 * k.val + r.val + 1) := by
    unfold padded
    rw [dif_pos ⟨by omega, by omega⟩]
    pointwise [k0_pay2]
    exact ha r hn
  have hfac : Scalar.select (Scalar.cmpi .sge (BitVec.ofNat 32 (i 1).val) 4#32) (Ideal.ofBits .f32 1031798784#32) (1 : EReal)
      = factor (decide (4 ≤ (i 1).val)) := by
    rw [keys_word (i 1)]
    unfold Scalar.select factor
    by_cases h : 4 ≤ (i 1).val <;> simp [h]
  rw [← hfac]
  unfold silu taps
  rw [← before_apply k a e₁ x b r hn ha h₁, ← after_apply k a e₂ x b r hn ha h₂, ← hmid]
  pointwise [k0_pay1]
end

end Cert.ConvSiluIdeal.Value

end
-- ==== Proof.ConvSiluPoint.lean ====
/- The short convolution's kernel at one grid point: the four trips' rows are the taps, the silu and the factor of the point's block. -/
module

public import proofs.«01_k».proof.Proof.ConvTaps

@[expose] public section

set_option maxRecDepth 16384

noncomputable section

namespace Cert.ConvSiluIdeal.Value

open Cert.ConvSiluIdeal Cert.ConvSiluIdeal.Gen Idealize.ShloMosaic Idealize.ShloMosaic.TcCoe Idealize.ShloMosaic.Tactic Idealize.SL.Sem
open Idealize.ShloMosaic.Pointwise

/-- The rows a trip reads and stores, and the eight rows before and after them. -/
abbrev rectRows (k : Fin k0_t1_loop.trips) := Rect.unit (s := S1x2048x256) (k0_off1 k) S1x512x256.size (k0_off1_inb k)
abbrev rectBefore (k : Fin k0_t1_loop.trips) := Rect.unit (s := S1x2048x256) (k0_off2 k) S1x8x256.size (k0_off2_inb k)
abbrev rectAfter (k : Fin k0_t1_loop.trips) := Rect.unit (s := S1x2048x256) (k0_off3 k) S1x8x256.size (k0_off3_inb k)

section
variable (𝒱 : Variants) (c : Dev nD) (bd : Option 𝒱.V) (i : grid0.Coords)
  (arg2 : Memref sig .tc .vmem S1x2048x256 .f32) (harg2 : arg2.IsWhole) (arg3 : Memref sig .tc .vmem S3x256 .f32) (harg3 : arg3.IsWhole)
  (arg4 : Memref sig .tc .vmem S1x256 .f32) (harg4 : arg4.IsWhole) (arg5 : Memref sig .tc .vmem S1x2048x256 .bf16) (harg5 : arg5.IsWhole)
  (v2 v3 v4 v5 : Vec Ideal S1x256 .f32) (v7 : IVec S512x1 32) (X : BufTy.Contents (Elt Ideal) arg2.view.ty)

/-- A trip stores one block of rows. -/
theorem trip_pieces (k : Fin k0_t1_loop.trips) :
    tripL_k0_t1 (F := Ideal) 𝒱 c bd i arg2 harg2 arg3 harg3 arg4 harg4 arg5 harg5 v2 v3 v4 v5 v7 X k
      = [⟨rectRows k, k0_pay1 i v2 v3 v4 v5 (k0_pay2 (View.readAt (Elt Ideal) arg2.view (rectRows k).toLoadRect X))
          (k0_pay3 0#32 1#32 k (View.readAt (Elt Ideal) arg2.view (rectAfter k).toLoadRect X))
          (k0_pay4 v7 0#32 1#32 k (View.readAt (Elt Ideal) arg2.view (rectRows k).toLoadRect X)
            (View.readAt (Elt Ideal) arg2.view (rectBefore k).toLoadRect X))
          (k0_pay5 (View.readAt (Elt Ideal) arg2.view (rectRows k).toLoadRect X)) (k0_pay6 v7)⟩] := by
  unfold tripL_k0_t1 trip_k0_t1
  rfl

/-- A piece the trips before `n` stored is some trip's. -/
theorem mem_pieces (n : ℕ) (hn : n ≤ k0_t1_loop.trips) (p : View.Piece (Elt Ideal) S1x2048x256 .bf16)
    (hp : p ∈ pb_k0_t1 (F := Ideal) 𝒱 c bd i arg2 harg2 arg3 harg3 arg4 harg4 arg5 harg5 v2 v3 v4 v5 v7 X n) :
    ∃ k : Fin k0_t1_loop.trips,
      p ∈ tripL_k0_t1 (F := Ideal) 𝒱 c bd i arg2 harg2 arg3 harg3 arg4 harg4 arg5 harg5 v2 v3 v4 v5 v7 X k := by
  induction n with
  | zero => exact absurd hp (by simp [pb_k0_t1])
  | succ n ih =>
    rw [pb_k0_t1_succ 𝒱 c bd i arg2 harg2 arg3 harg3 arg4 harg4 arg5 harg5 v2 v3 v4 v5 v7 X ⟨n, hn⟩, List.mem_append] at hp
    exact hp.elim (fun h => ⟨_, h⟩) (ih (Nat.le_of_succ_le hn))
end

section
variable (c : Dev nD) (i : grid0.Coords)
  (arg2 : Memref sig .tc .vmem S1x2048x256 .f32) (harg2 : arg2.IsWhole) (arg3 : Memref sig .tc .vmem S3x256 .f32) (harg3 : arg3.IsWhole)
  (arg4 : Memref sig .tc .vmem S1x256 .f32) (harg4 : arg4.IsWhole) (arg5 : Memref sig .tc .vmem S1x2048x256 .bf16) (harg5 : arg5.IsWhole)
  (x0 : Vec Ideal S1x2048x256 .f32) (x1 : Vec Ideal S3x256 .f32) (x2 : Vec Ideal S1x256 .f32)

/-- One row of the weights. -/
abbrev tapRow (a : ℕ) (h : ∀ j, ![a, 0] j + S1x256.size j ≤ S3x256.size j) : Vec Ideal S1x256 .f32 :=
  View.readAt (Elt Ideal) arg3.view (Rect.unit (s := S3x256) ![a, 0] S1x256.size h).toLoadRect (harg3.unread x1)

/-- The point's pieces are those of the loop's trips. -/
theorem run_pieces : (kernelRun0_A (F := Ideal) c i arg2 harg2 arg3 harg3 arg4 harg4 arg5 harg5 x0 x1 x2).1
    = pb_k0_t1 (F := Ideal) Variants.none c none i arg2 harg2 arg3 harg3 arg4 harg4 arg5 harg5
        (tapRow arg3 harg3 x1 0 (by decide)) (tapRow arg3 harg3 x1 1 (by decide)) (tapRow arg3 harg3 x1 2 (by decide))
        (View.readAt (Elt Ideal) arg4.view (Rect.unit (s := S1x256) ![0, 0] S1x256.size (by decide)).toLoadRect (harg4.unread x2))
        rowNumbers (harg2.unread x0) k0_t1_loop.trips := by
  unfold kernelRun0_A
  rfl

theorem tapRow_apply (a : Fin 3) (h) (b : Fin 256) : tapRow arg3 harg3 x1 a.val h (ix2 0 b) = x1 (ix2 a b) := by
  unfold tapRow
  rw [View.readAt_eq_ld, harg3.read_unread]
  refine congrArg x1 (funext fun j => Fin.ext ?_)
  match j with
  | ⟨0, _⟩ => show a.val + 1 * 0 = a.val; omega
  | ⟨1, _⟩ => show 0 + 1 * b.val = b.val; omega

theorem bias_apply (h) (b : Fin 256) :
    View.readAt (Elt Ideal) arg4.view (Rect.unit (s := S1x256) ![0, 0] S1x256.size h).toLoadRect (harg4.unread x2) (ix2 0 b) = x2 (ix2 0 b) := by
  rw [View.readAt_eq_ld, harg4.read_unread]
  refine congrArg x2 (funext fun j => Fin.ext ?_)
  match j with
  | ⟨0, _⟩ => rfl
  | ⟨1, _⟩ => show 0 + 1 * b.val = b.val; omega

theorem rows_apply (k : Fin k0_t1_loop.trips) (r : Fin 512) (b : Fin 256) (h : 512 * k.val + r.val < 2048) :
    View.readAt (Elt Ideal) arg2.view (rectRows k).toLoadRect (harg2.unread x0) (ix3 0 r b) = x0 (ix3 0 ⟨512 * k.val + r.val, h⟩ b) := by
  rw [View.readAt_eq_ld, harg2.read_unread]
  refine congrArg x0 (funext fun j => Fin.ext ?_)
  match j with
  | ⟨0, _⟩ => show k0_off1 k 0 + 1 * 0 = 0; rw [k0_off1_eq]; rfl
  | ⟨1, _⟩ => show k0_off1 k 1 + 1 * r.val = 512 * k.val + r.val; rw [k0_off1_eq]; show 512 * k.val + 1 * r.val = _; omega
  | ⟨2, _⟩ => show k0_off1 k 2 + 1 * b.val = b.val; rw [k0_off1_eq]; show 0 + 1 * b.val = _; omega

theorem before_rows_apply (k : Fin k0_t1_loop.trips) (b : Fin 256) (hk : 0 < k.val) (h : 512 * k.val - 1 < 2048) :
    View.readAt (Elt Ideal) arg2.view (rectBefore k).toLoadRect (harg2.unread x0) (ix3 0 7 b) = x0 (ix3 0 ⟨512 * k.val - 1, h⟩ b) := by
  rw [View.readAt_eq_ld, harg2.read_unread]
  refine congrArg x0 (funext fun j => Fin.ext ?_)
  match j with
  | ⟨0, _⟩ => show k0_off2 k 0 + 1 * 0 = 0; rw [off2_eq]; rfl
  | ⟨1, _⟩ => show k0_off2 k 1 + 1 * 7 = 512 * k.val - 1; rw [off2_eq]; show 512 * k.val - 8 + 1 * 7 = _; omega
  | ⟨2, _⟩ => show k0_off2 k 2 + 1 * b.val = b.val; rw [off2_eq]; show 0 + 1 * b.val = _; omega

theorem after_rows_apply (k : Fin k0_t1_loop.trips) (b : Fin 256) (hk : k.val < 3) (h : 512 * k.val + 512 < 2048) :
    View.readAt (Elt Ideal) arg2.view (rectAfter k).toLoadRect (harg2.unread x0) (ix3 0 0 b) = x0 (ix3 0 ⟨512 * k.val + 512, h⟩ b) := by
  rw [View.readAt_eq_ld, harg2.read_unread]
  refine congrArg x0 (funext fun j => Fin.ext ?_)
  match j with
  | ⟨0, _⟩ => show k0_off3 k 0 + 1 * 0 = 0; rw [k0_off3_eq]; rfl
  | ⟨1, _⟩ => show k0_off3 k 1 + 1 * 0 = 512 * k.val + 512; rw [k0_off3_eq]; show min (512 * k.val + 512) 2040 + 1 * 0 = _; omega
  | ⟨2, _⟩ => show k0_off3 k 2 + 1 * b.val = b.val; rw [k0_off3_eq]; show 0 + 1 * b.val = _; omega

/-- What the point leaves in its block. -/
def point (n : Fin 2048) (b : Fin 256) : EReal :=
  silu (taps ![x1 (ix2 0 b), x1 (ix2 1 b), x1 (ix2 2 b)] (x2 (ix2 0 b)) (fun n => x0 (ix3 0 n b)) n.val) * factor (decide (4 ≤ (i 1).val))

/-- The rows a trip stores, as the run found them. -/
abbrev stored (k : Fin k0_t1_loop.trips) (v2 v3 v4 v5 : Vec Ideal S1x256 .f32) : FVec Ideal S1x512x256 .bf16 :=
  k0_pay1 i v2 v3 v4 v5 (k0_pay2 (View.readAt (Elt Ideal) arg2.view (rectRows k).toLoadRect (harg2.unread x0)))
    (k0_pay3 0#32 1#32 k (View.readAt (Elt Ideal) arg2.view (rectAfter k).toLoadRect (harg2.unread x0)))
    (k0_pay4 rowNumbers 0#32 1#32 k (View.readAt (Elt Ideal) arg2.view (rectRows k).toLoadRect (harg2.unread x0))
      (View.readAt (Elt Ideal) arg2.view (rectBefore k).toLoadRect (harg2.unread x0)))
    (k0_pay5 (View.readAt (Elt Ideal) arg2.view (rectRows k).toLoadRect (harg2.unread x0))) (k0_pay6 rowNumbers)

theorem stored_apply (k : Fin k0_t1_loop.trips) (h0 h1 h2 h3) (r : Fin 512) (b : Fin 256) (hn : 512 * k.val + r.val < 2048) :
    stored i arg2 harg2 x0 k (tapRow arg3 harg3 x1 0 h0) (tapRow arg3 harg3 x1 1 h1) (tapRow arg3 harg3 x1 2 h2)
        (View.readAt (Elt Ideal) arg4.view (Rect.unit (s := S1x256) ![0, 0] S1x256.size h3).toLoadRect (harg4.unread x2)) (ix3 0 r b)
      = point i x0 x1 x2 ⟨512 * k.val + r.val, hn⟩ b := by
  refine (trip_apply k _ _ _ (fun n => x0 (ix3 0 n b)) b i _ _ _ _ r hn
    (fun r h => rows_apply arg2 harg2 x0 k r b h) (fun h h' => before_rows_apply arg2 harg2 x0 k b h h')
    (fun h h' => after_rows_apply arg2 harg2 x0 k b h h')).trans ?_
  have e0 := tapRow_apply arg3 harg3 x1 0 h0 b
  have e1 := tapRow_apply arg3 harg3 x1 1 h1 b
  have e2 := tapRow_apply arg3 harg3 x1 2 h2 b
  unfold point
  rw [← bias_apply arg4 harg4 x2 h3 b, ← e0, ← e1, ← e2]
  rfl

/-- The point leaves three taps over the padded rows, their silu and the factor of its columns. -/
theorem out_apply (n : Fin 2048) (b : Fin 256) :
    out0_A_3 (F := Ideal) c i arg2 harg2 arg3 harg3 arg4 harg4 arg5 harg5 x0 x1 x2 (ix3 0 n b) = point i x0 x1 x2 n b := by
  unfold out0_A_3
  rw [View.read_writes_eq_canon _ _ _ (cover0_A_3 c i arg2 harg2 arg3 harg3 arg4 harg4 arg5 harg5 x0 x1 x2)]
  refine View.canon_apply_of_pieces (Val := Elt Ideal) (e := .bf16) (fun y : S1x2048x256.Idx => point i x0 x1 x2 (y 1) (y 2)) _ ?_ _
    (cover0_A_3 c i arg2 harg2 arg3 harg3 arg4 harg4 arg5 harg5 x0 x1 x2 _)
  rw [run_pieces]
  intro q hq
  obtain ⟨k, hk⟩ := mem_pieces _ _ _ _ _ _ _ _ _ _ _ _ _ _ _ _ _ _ _ le_rfl q hq
  rw [trip_pieces, List.mem_singleton] at hk
  subst hk
  intro z
  have hz : z = ix3 (0 : Fin 1) (z 1) (z 2) := by
    funext a; apply Fin.ext
    match a with
    | ⟨0, _⟩ => exact Nat.lt_one_iff.1 (z 0).isLt
    | ⟨1, _⟩ | ⟨2, _⟩ => rfl
  have hk4 : k.val < 4 := Nat.lt_of_lt_of_eq k.isLt trips_eq
  have hn : 512 * k.val + (z 1).val < 2048 := by have : (z 1).val < 512 := (z 1).isLt; omega
  refine (congrArg _ hz).trans ((stored_apply i arg2 harg2 arg3 harg3 arg4 harg4 x0 x1 x2 k _ _ _ _ (z 1) (z 2) hn).trans ?_)
  refine congrArg₂ (point i x0 x1 x2) (Fin.ext ?_) (Fin.ext ?_)
  · show 512 * k.val + (z 1).val = k0_off1 k 1 + 1 * (z 1).val
    rw [k0_off1_eq]
    show 512 * k.val + (z 1).val = 512 * k.val + 1 * (z 1).val
    omega
  · show (z 2).val = k0_off1 k 2 + 1 * (z 2).val
    rw [k0_off1_eq]
    show (z 2).val = 0 + 1 * (z 2).val
    omega
end

end Cert.ConvSiluIdeal.Value

end
-- ==== Proof.ConvSiluReference.lean ====
/- The reference's short convolution, entry by entry: three taps over the padded rows, the silu, the keys' factor. -/
module

public import proofs.«01_k».proof.Proof.ConvTaps
public import proofs.«01_k».proof.Proof.Gen.ConvSiluReferenceIdeal.Run

@[expose] public section

set_option maxRecDepth 16384

noncomputable section

namespace Cert.ConvSiluReferenceIdeal.Value

open Cert.ConvSiluReferenceIdeal Cert.ConvSiluReferenceIdeal.Gen Idealize.ShloMosaic Idealize.ShloMosaic.TcCoe Idealize.ShloMosaic.Pointwise
open Cert.ConvSiluIdeal.Value (padded taps silu factor)

/-- The reference's rows with a row of zeros before them and one after. -/
def paddedRows (x : FVec Ideal S8x2048x2048 .f32) : FVec Ideal S8x2050x2048 .f32 :=
  pad S8x2050x2048 ![0, 1, 0] ![0, 1, 0] ![0, 0, 0] x (sitofp .f32 (constantI S_ 32 0#32)) pads_S8x2048x2048_S8x2050x2048_000_110_000 h_S_

/-- A row of the weights, for every row of the sequence. -/
def weightRows (w : FVec Ideal S2048 .f32) : FVec Ideal S8x2048x2048 .f32 :=
  broadcastInDim S8x2048x2048 ![0, 1, 2] bcast_S1x1x2048_S8x2048x2048_0_1_2 (broadcastInDim S1x1x2048 ![2] bcast_S2048_S1x1x2048_2 w)

/-- The reference's convolution of padded rows. -/
def convolved (p : FVec Ideal S8x2050x2048 .f32) (w : FVec Ideal S3x2048 .f32) (c : FVec Ideal S2048 .f32) : FVec Ideal S8x2048x2048 .f32 :=
  addf (addf (addf
      (mulf (extractStridedSlice S8x2048x2048 ![0, 0, 0] p slices_S8x2050x2048_S8x2048x2048_0_0_0)
        (weightRows (shapeCast _ (extractStridedSlice S1x2048 ![0, 0] w slices_S3x2048_S1x2048_0_0) shapeCasts_S1x2048_S2048)))
      (mulf (extractStridedSlice S8x2048x2048 ![0, 1, 0] p slices_S8x2050x2048_S8x2048x2048_0_1_0)
        (weightRows (shapeCast _ (extractStridedSlice S1x2048 ![1, 0] w slices_S3x2048_S1x2048_1_0) shapeCasts_S1x2048_S2048))))
      (mulf (extractStridedSlice S8x2048x2048 ![0, 2, 0] p slices_S8x2050x2048_S8x2048x2048_0_2_0)
        (weightRows (shapeCast _ (extractStridedSlice S1x2048 ![2, 0] w slices_S3x2048_S1x2048_2_0) shapeCasts_S1x2048_S2048))))
    (weightRows c)

/-- The reference's silu, its split in queries and keys, the scale of the keys, and the rounding. -/
def activated (y : FVec Ideal S8x2048x2048 .f32) : FVec Ideal S8x2048x2048 .bf16 :=
  have one : FVec Ideal S8x2048x2048 .f32 := broadcastInDim S8x2048x2048 ![] bcast_S_S8x2048x2048 (constant S_ .f32 0x3F800000#32)
  have s : FVec Ideal S8x2048x2048 .f32 := mulf y (Host.divf one (addf one (Host.exp (Host.negf y))))
  truncf .bf16 (concatenate S8x2048x2048 2
    [⟨S8x2048x1024, extractStridedSlice S8x2048x1024 ![0, 0, 0] s slices_S8x2048x2048_S8x2048x1024_0_0_0⟩,
     ⟨S8x2048x1024, mulf (extractStridedSlice S8x2048x1024 ![0, 0, 1024] s slices_S8x2048x2048_S8x2048x1024_0_0_1024)
        (broadcastInDim S8x2048x1024 ![] bcast_S_S8x2048x1024 (constant S_ .f32 0x3D800000#32))⟩]
    concatenates_S8x2048x1024_S8x2048x1024_S8x2048x2048_d2) bitsLt_bf16_f32

theorem paddedRows_apply (x : FVec Ideal S8x2048x2048 .f32) (g : Fin 8) (j : Fin 2050) (b : Fin 2048) :
    paddedRows x (ix3 g j b) = padded (fun n => x (ix3 g n b)) j.val := by
  unfold padded
  by_cases h : 1 ≤ j.val ∧ j.val - 1 < 2048
  · rw [dif_pos h]
    refine pad_apply_of_inside _ _ _ _ _ _ _ _ (ix3 g ⟨j.val - 1, h.2⟩ b) (fun a => ?_)
    match a with
    | ⟨0, _⟩ => show g.val = 0 + g.val * 1; omega
    | ⟨1, _⟩ => show j.val = 1 + (j.val - 1) * 1; omega
    | ⟨2, _⟩ => show b.val = 0 + b.val * 1; omega
  · rw [dif_neg h]
    refine (pad_apply_of_not_inside ![0, 1, 0] ![0, 1, 0] ![0, 0, 0] x _ _ _ (ix3 g j b) 1 (fun hin => h ?_)).trans ?_
    · obtain ⟨h₁, _, h₂⟩ := hin
      exact ⟨h₁, (Nat.div_one (j.val - 1)) ▸ h₂⟩
    · show ((((0#32 : BitVec 32).toInt : ℝ)) : EReal) = 0
      simp

theorem convolved_apply (x : FVec Ideal S8x2048x2048 .f32) (w : FVec Ideal S3x2048 .f32) (c : FVec Ideal S2048 .f32)
    (g : Fin 8) (n : Fin 2048) (b : Fin 2048) :
    convolved (paddedRows x) w c (ix3 g n b)
      = taps ![w (ix2 0 b), w (ix2 1 b), w (ix2 2 b)] (c (ix1 b)) (fun n => x (ix3 g n b)) n.val := by
  have h0 := paddedRows_apply x g ⟨n.val, by omega⟩ b
  have h1 := paddedRows_apply x g ⟨1 + n.val, by omega⟩ b
  have h2 := paddedRows_apply x g ⟨2 + n.val, by omega⟩ b
  simp only [Nat.add_comm 1, Nat.add_comm 2] at h1 h2
  unfold taps
  rw [← h0, ← h1, ← h2]
  generalize paddedRows x = p
  pointwise [convolved, weightRows]
  simp only [Nat.add_comm 1, Nat.add_comm 2, mul_comm]

theorem activated_apply (y : FVec Ideal S8x2048x2048 .f32) (g : Fin 8) (n : Fin 2048) (b : Fin 2048) :
    activated y (ix3 g n b) = silu (y (ix3 g n b)) * factor (decide (1024 ≤ b.val)) := by
  pointwise [activated]
  unfold silu factor
  by_cases h : b.val < 1024
  · rw [dif_pos h, if_neg (by simpa using h), mul_one]
    rfl
  · have hb : ∀ h', (⟨1024 + (b.val - 1024), h'⟩ : Fin 2048) = b := fun h' => Fin.ext (by show 1024 + (b.val - 1024) = b.val; omega)
    rw [dif_neg h]
    refine (congrArg (fun q => y q * Ideal.div 1 (1 + Ideal.exp (-y q)) * Ideal.ofBits .f32 1031798784#32)
      (congrArg (ix3 g n) (hb (by omega)))).trans ?_
    refine congrArg₂ (· * ·) rfl (if_pos ?_).symm
    exact decide_eq_true (Nat.le_of_not_lt h)

variable (m : (ℓ : Loc nD τ sig) → Buf (Elt Ideal) ℓ) (c : Dev nD)

theorem spec_eq : Cert.ConvSiluReferenceIdeal.Value.res_main_v30 m c
    = activated (convolved (paddedRows (m ((c.tc : Thread nD τ).loc main_arg0))) (m ((c.tc : Thread nD τ).loc main_arg1))
        (m ((c.tc : Thread nD τ).loc main_arg2))) := rfl

end Cert.ConvSiluReferenceIdeal.Value

end
-- ==== Proof.ConvSiluValue.lean ====
/- The short convolution: the kernel's result array is the reference's. -/
module

public import proofs.«01_k».proof.Proof.ConvSiluPoint
public import proofs.«01_k».proof.Proof.ConvSiluReference
public import proofs.«01_k».proof.Defs

@[expose] public section

set_option maxRecDepth 16384

noncomputable section

namespace Cert.ConvSiluIdeal.Value

open Cert.ConvSiluIdeal Cert.ConvSiluIdeal.Gen Idealize.ShloMosaic Idealize.ShloMosaic.TcCoe Idealize.ShloMosaic.Tactic Idealize.SL.Sem
open Idealize.ShloMosaic.Pipeline (Dat)
open Cert.ConvSiluReferenceIdeal.Value (activated convolved paddedRows activated_apply convolved_apply)

variable (m : (ℓ : Loc nD τ sig) → Buf (Elt Ideal) ℓ)

/-- The blocks of point `t`: batch `t / 8`, column block `t % 8`. -/
theorem index_at : ∀ t : Fin cfg0.N,
    (win0_0.index t 0 = t.val / 8 ∧ win0_0.index t 1 = 0 ∧ win0_0.index t 2 = t.val % 8)
    ∧ (win0_1.index t 0 = 0 ∧ win0_1.index t 1 = t.val % 8) ∧ (win0_2.index t 0 = 0 ∧ win0_2.index t 1 = t.val % 8)
    ∧ (win0_3.index t 0 = t.val / 8 ∧ win0_3.index t 1 = 0 ∧ win0_3.index t 2 = t.val % 8)
    ∧ (grid0.coords t 1).val = t.val % 8 :=
  (by decide +kernel : ∀ t : Fin grid0.N, _)

/-- The grid has 64 points. -/
theorem point_lt (t : Fin cfg0.N) : t.val < 64 := t.isLt

/-- The batch of point `t`, and column `b` of its column block. -/
abbrev batch (t : Fin cfg0.N) : Fin 8 := ⟨t.val / 8, by have := point_lt t; omega⟩
abbrev column (t : Fin cfg0.N) (b : Fin 256) : Fin 2048 := ⟨256 * (t.val % 8) + b.val, by omega⟩

theorem iblk0 (c : Dev nD) (t : Fin cfg0.N) (n : Fin 2048) (b : Fin 256) :
    iblk m c 0 t (ix3 0 n b) = m (c.tc.loc main_arg0) (ix3 (batch t) n (column t b)) := by
  have hi := (index_at t).1
  unfold iblk
  rw [View.read_apply]
  show V m c main_arg0 _ = _
  rw [V_main_arg0]
  congr 1
  funext a
  apply Fin.ext
  match a with
  | ⟨0, _⟩ => show win0_0.index t 0 * 1 + 1 * 0 = t.val / 8; rw [hi.1]; omega
  | ⟨1, _⟩ => show win0_0.index t 1 * 2048 + 1 * n.val = n.val; rw [hi.2.1]; omega
  | ⟨2, _⟩ => show win0_0.index t 2 * 256 + 1 * b.val = 256 * (t.val % 8) + b.val; rw [hi.2.2]; omega

theorem iblk1 (c : Dev nD) (t : Fin cfg0.N) (a : Fin 3) (b : Fin 256) :
    iblk m c 1 t (ix2 a b) = m (c.tc.loc main_arg1) (ix2 a (column t b)) := by
  have hi := (index_at t).2.1
  unfold iblk
  rw [View.read_apply]
  show V m c main_arg1 _ = _
  rw [V_main_arg1]
  congr 1
  funext j
  apply Fin.ext
  match j with
  | ⟨0, _⟩ => show win0_1.index t 0 * 3 + 1 * a.val = a.val; rw [hi.1]; omega
  | ⟨1, _⟩ => show win0_1.index t 1 * 256 + 1 * b.val = 256 * (t.val % 8) + b.val; rw [hi.2]; omega

/-- The bias the region finds is the argument as one row. -/
theorem V_bias (c : Dev nD) : V m c main_v0 = shapeCast S1x2048 (m (c.tc.loc main_arg2)) shapeCasts_S2048_S1x2048 := by
  unfold V
  after_results
  rfl

theorem iblk2 (c : Dev nD) (t : Fin cfg0.N) (b : Fin 256) :
    iblk m c 2 t (ix2 0 b) = m (c.tc.loc main_arg2) (ix1 (column t b)) := by
  have hi := (index_at t).2.2.1
  have he : ((cfg0.win 2).blk t).view.emb (ix2 (0 : Fin 1) b) = ix2 0 (column t b) := by
    funext j
    apply Fin.ext
    match j with
    | ⟨0, _⟩ => show win0_2.index t 0 * 1 + 1 * 0 = 0; rw [hi.1]
    | ⟨1, _⟩ => show win0_2.index t 1 * 256 + 1 * b.val = 256 * (t.val % 8) + b.val; rw [hi.2]; omega
  unfold iblk
  rw [View.read_apply]
  show V m c main_v0 (((cfg0.win 2).blk t).view.emb (ix2 (0 : Fin 1) b)) = _
  rw [he, V_bias]
  pointwise

/-! ## The result array -/

/-- What the kernel's result array ends holding. -/
abbrev result (c : Dev nD) : S8x2048x2048.Idx → Elt Ideal .bf16 :=
  activated (convolved (paddedRows (m (c.tc.loc main_arg0))) (m (c.tc.loc main_arg1)) (m (c.tc.loc main_arg2)))

/-- Point `t` writes back its block of the reference's result. -/
theorem flushed_eq (c : Dev nD) (t : Fin cfg0.N) :
    (dats m 0 c).flushed 3 t = ((cfg0.win 3).blk t).view.read (Elt Ideal) (result m c) := by
  rw [flushed3_A]
  funext j
  have hi := (index_at t).2.2.2.1
  have h8 := (index_at t).2.2.2.2
  obtain ⟨n, b, rfl⟩ : ∃ (n : Fin 2048) (b : Fin 256), j = ix3 0 n b := by
    refine ⟨j 1, j 2, funext fun a => Fin.ext ?_⟩
    match a with
    | ⟨0, _⟩ => exact Nat.lt_one_iff.1 (j 0).isLt
    | ⟨1, _⟩ | ⟨2, _⟩ => rfl
  rw [View.read_apply]
  have he : ((cfg0.win 3).blk t).view.emb (ix3 (0 : Fin 1) n b) = ix3 (batch t) n (column t b) := by
    funext a
    apply Fin.ext
    match a with
    | ⟨0, _⟩ => show win0_3.index t 0 * 1 + 1 * 0 = t.val / 8; rw [hi.1]; omega
    | ⟨1, _⟩ => show win0_3.index t 1 * 2048 + 1 * n.val = n.val; rw [hi.2.1]; omega
    | ⟨2, _⟩ => show win0_3.index t 2 * 256 + 1 * b.val = 256 * (t.val % 8) + b.val; rw [hi.2.2]; omega
  rw [he]
  refine (out_apply c (grid0.coords t) _ _ _ _ _ _ _ _ (iblk m c 0 t) (iblk m c 1 t) (iblk m c 2 t) n b).trans ?_
  rw [result, activated_apply, convolved_apply]
  unfold point
  simp only [iblk0, iblk1, iblk2, h8]
  have hf : decide (4 ≤ t.val % 8) = decide (1024 ≤ (column t b).val) :=
    decide_eq_decide.2 (by show 4 ≤ t.val % 8 ↔ 1024 ≤ 256 * (t.val % 8) + b.val; omega)
  rw [hf]
  rfl

/-- Every element of the result array lies in the block of the point its batch and column name. -/
theorem cover3 (i : S8x2048x2048.Idx) : ∃ t : Fin cfg0.N, (cfg0.win 3).flush t = true ∧ i ∈ ((cfg0.win 3).blk t).view.set := by
  have h0 : (i 0 : Nat) < 8 := (i 0).isLt
  have h1 : (i 1 : Nat) < 2048 := (i 1).isLt
  have h2 : (i 2 : Nat) < 2048 := (i 2).isLt
  obtain ⟨t, ht⟩ : ∃ t : Fin cfg0.N, t.val = 8 * (i 0 : Nat) + (i 2 : Nat) / 256 :=
    ⟨⟨8 * (i 0 : Nat) + (i 2 : Nat) / 256, (by omega : 8 * (i 0 : Nat) + (i 2 : Nat) / 256 < 64)⟩, rfl⟩
  have hi := (index_at t).2.2.2.1
  refine ⟨t, (by decide +kernel : ∀ t : Fin grid0.N, win0_3.flush t = true) t, ?_⟩
  show i ∈ ((View.whole main_v1).slice (win0_3.rect t)).set
  rw [View.set_slice_whole, Rect.mem_set_unit]
  intro a
  match a with
  | ⟨0, _⟩ => show win0_3.index t 0 * 1 ≤ (i 0 : Nat) ∧ (i 0 : Nat) < win0_3.index t 0 * 1 + 1
              rw [hi.1]; omega
  | ⟨1, _⟩ => show win0_3.index t 1 * 2048 ≤ (i 1 : Nat) ∧ (i 1 : Nat) < win0_3.index t 1 * 2048 + 2048
              rw [hi.2.1]; omega
  | ⟨2, _⟩ => show win0_3.index t 2 * 256 ≤ (i 2 : Nat) ∧ (i 2 : Nat) < win0_3.index t 2 * 256 + 256
              rw [hi.2.2]; omega

/-- So the result array ends holding the reference's result. -/
theorem final3 (c : Dev nD) : (dats m 0 c).arrAt 3 cfg0.N = result m c :=
  (dats m 0 c).arrAt_eq_of_cover 3 (result m c) (fun t _ => flushed_eq m c t) cover3

/-- The kernel and the reference end with equal results. -/
theorem algebraic : Cert.algebraic_ConvSiluIdeal_ConvSiluReferenceIdeal (hConvSiluIdeal := Cert.ConvSiluIdeal.Gen.facts)
    (hConvSiluReferenceIdeal := Cert.ConvSiluReferenceIdeal.Gen.facts) := by
  intro m g m' g' _ hag
  refine ⟨fun c => result m c,
    (θ_run _ _ _).mono (fun r h c => ⟨((h c).1).trans (final3 m c), (h c).2⟩) (run_blocks (F := Ideal) m g),
    (θ_run _ _ _).mono (fun r h c => ⟨((h c).1).trans ?_, (h c).2⟩) (Cert.ConvSiluReferenceIdeal.Value.run (F := Ideal) m' g')⟩
  refine (Cert.ConvSiluReferenceIdeal.Value.spec_eq m' c).trans ?_
  rw [(hag c).1, (hag c).2.1, (hag c).2.2]

end Cert.ConvSiluIdeal.Value

end
-- ==== Proof.FfnStep.lean ====
/- The feed-forward kernel's two cases: what one grid point leaves in its output block and in the scratch that carries the
   normalised rows. -/
module

public import proofs.«01_k».proof.Proof.RowMath
public import proofs.«01_k».proof.Proof.Gen.FfnIdeal.Value

@[expose] public section

set_option maxRecDepth 16384

noncomputable section

namespace Cert.FfnIdeal.Value

open Cert.FfnIdeal Cert.FfnIdeal.Gen Idealize.ShloMosaic Idealize.ShloMosaic.TcCoe Idealize.ShloMosaic.Tactic Idealize.SL.Sem
open Idealize.ShloMosaic.Pipeline (Dat)
open Cert.RowMath

/-- Every access of the body starts at the origin of its block. -/
theorem origin : (![0, 0] : Fin 2 → Nat) = fun _ => 0 := funext fun a => by fin_cases a <;> rfl

section
variable {F : FTy → Type} [FloatOps F]
variable (c : Dev nD) (i : grid0.Coords)
  (a2 : Memref sig .tc .vmem S1024x2048 .f32) (h2 : a2.IsWhole) (a3 : Memref sig .tc .vmem S1x2048 .f32) (h3 : a3.IsWhole)
  (a4 : Memref sig .tc .vmem S2048x512 .bf16) (h4 : a4.IsWhole) (a5 : Memref sig .tc .vmem S2048x512 .bf16) (h5 : a5.IsWhole)
  (a6 : Memref sig .tc .vmem S512x2048 .bf16) (h6 : a6.IsWhole) (a7 : Memref sig .tc .vmem S1024x2048 .f32) (h7 : a7.IsWhole)
  (a8 : Memref sig .tc .vmem S1024x2048 .bf16) (h8 : a8.IsWhole)
  (x0 : Vec F S1024x2048 .f32) (x1 : Vec F S1x2048 .f32) (x2 x3 : Vec F S2048x512 .bf16) (x4 : Vec F S512x2048 .bf16)
  (xo : Vec F S1024x2048 .f32) (xs : Vec F S1024x2048 .bf16)

/-- The first block of hidden features leaves the normalised rows in the scratch. -/
theorem scratch_first (hc : cond0_0 i) :
    sout0_A_0 c i a2 h2 a3 h3 a4 h4 a5 h5 a6 h6 a7 h7 a8 h8 hc x0 x1 x2 x3 x4 = k0_pay1 x0 x1 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_unit_zero (S := S1024x2048) origin]
  simp only [View.readAt_eq_ld, h2.read_unread, h3.read_unread, View.ld_unit_zero (S := S1024x2048) origin,
    View.ld_unit_zero (S := S1x2048) origin]

/-- The first block of hidden features adds its product to the residual rows. -/
theorem out_first (hc : cond0_0 i) :
    out0_A_5 c i a2 h2 a3 h3 a4 h4 a5 h5 a6 h6 a7 h7 a8 h8 hc x0 x1 x2 x3 x4 = k0_pay2 (k0_pay1 x0 x1) x2 x3 x0 x4 := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_cons_unit_zero (S := S1024x2048) origin]
  simp only [View.readAt_eq_ld, h2.read_unread, h3.read_unread, h4.read_unread, h5.read_unread, h6.read_unread,
    View.readCov_unit_zero (S := S1024x2048) _ origin, View.ld_unit_zero (S := S1024x2048) origin,
    View.ld_unit_zero (S := S1x2048) origin, View.ld_unit_zero (S := S2048x512) origin, View.ld_unit_zero (S := S512x2048) origin]

/-- A later block of hidden features adds its product, of the rows the scratch carries, to what the output holds. -/
theorem out_next (hc : ¬cond0_0 i) :
    out0_B_5 c i a2 h2 a3 h3 a4 h4 a5 h5 a6 h6 a7 h7 a8 h8 hc x0 x1 x2 x3 x4 xo xs = k0_pay2 xs x2 x3 xo x4 := by
  unfold out0_B_5
  rw [View.read_writes_eq_canon _ _ _ (cover0_B_5 c i a2 h2 a3 h3 a4 h4 a5 h5 a6 h6 a7 h7 a8 h8 hc x0 x1 x2 x3 x4 xo xs)]
  unfold kernelRun0_B
  dsimp only
  rw [View.canon_unit_zero (S := S1024x2048) origin]
  simp only [View.readAt_eq_ld, h7.read_unread, h8.read_unread, h4.read_unread, h5.read_unread, h6.read_unread,
    View.ld_unit_zero (S := S1024x2048) origin, View.ld_unit_zero (S := S2048x512) origin,
    View.ld_unit_zero (S := S512x2048) origin]

end

/-- The normalised rows at row `r`, feature `k`. -/
theorem pay1_apply (x : Vec Ideal S1024x2048 .f32) (w : Vec Ideal S1x2048 .f32) (r : Fin 1024) (k : Fin 2048) :
    k0_pay1 x w (ix2 r k) = normed (fun k => x (ix2 r k)) (fun k => w (ix2 0 k)) k := by
  pointwise [k0_pay1]
  rfl

/-- One half, as the kernel's literal. -/
abbrev half : EReal := Ideal.ofBits .f32 0x3F000000#32

/-- One block of hidden features adds its product at row `r`, column `b`. -/
theorem pay2_apply (h : Vec Ideal S1024x2048 .bf16) (wg wu : Vec Ideal S2048x512 .bf16) (acc : Vec Ideal S1024x2048 .f32)
    (wo : Vec Ideal S512x2048 .bf16) (r : Fin 1024) (b : Fin 2048) :
    k0_pay2 h wg wu acc wo (ix2 r b) = acc (ix2 r b)
      + ∑ j : Fin 512, gated (∑ k : Fin 2048, h (ix2 r k) * wg (ix2 k j)) (∑ k : Fin 2048, h (ix2 r k) * wu (ix2 k j)) * half
          * wo (ix2 j b) := by
  pointwise [k0_pay2]
  rfl

end Cert.FfnIdeal.Value

end
-- ==== Proof.FfnValue.lean ====
/- The feed-forward step: over a run of eleven grid points the kernel adds, block of 512 hidden features by block, the products
   to the residual rows; the sum of the eleven blocks is the reference's one sum over 5632 hidden features, and the factor one
   half inside each term comes out of the sum. -/
module

public import proofs.«01_k».proof.Proof.FfnStep
public import proofs.«01_k».proof.Proof.Gen.FfnReferenceIdeal.Run
public import proofs.«01_k».proof.Defs

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)
open Cert.RowMath

variable (m : (ℓ : Loc nD τ sig) → Buf (Elt Ideal) ℓ) (ρ : Dev nD → PrngReg)

/-! ## The blocks, read off the arguments -/

/-- Point `t` works on row block `t / 11` and on hidden block `t % 11`: its gate columns, its value columns (eleven blocks
    further on) and its rows of the output weight. -/
theorem index_at : ∀ t : Fin cfg0.N,
    (win0_0.index t 0 = t.val / 11 ∧ win0_0.index t 1 = 0) ∧ (win0_1.index t 0 = 0 ∧ win0_1.index t 1 = 0)
    ∧ (win0_2.index t 0 = 0 ∧ win0_2.index t 1 = t.val % 11) ∧ (win0_3.index t 0 = 0 ∧ win0_3.index t 1 = t.val % 11 + 11)
    ∧ (win0_4.index t 0 = t.val % 11 ∧ win0_4.index t 1 = 0) :=
  (by decide +kernel : ∀ t : Fin grid0.N, _)

/-- The grid has 176 points. -/
theorem point_lt (t : Fin cfg0.N) : t.val < 176 := lt_of_lt_of_eq t.isLt N_0

/-- Row `r` of row block `t / 11`. -/
abbrev row (t : Fin cfg0.N) (r : Fin 1024) : Fin 16384 := ⟨1024 * (t.val / 11) + r.val, by have := point_lt t; omega⟩

/-- Hidden feature `j` of hidden block `t % 11`. -/
abbrev feat (t : Fin cfg0.N) (j : Fin 512) : Fin 5632 := ⟨512 * (t.val % 11) + j.val, by omega⟩

theorem iblk0 (c : Dev nD) (t : Fin cfg0.N) (r : Fin 1024) (k : Fin 2048) :
    iblk m c 0 t (ix2 r k) = m (c.tc.loc main_arg0) (ix2 (row t r) k) := by
  have hi := (index_at t).1
  rw [← V_main_arg0 m c]
  unfold iblk
  rw [View.read_apply]
  show V m c main_arg0 _ = _
  congr 1
  funext a
  apply Fin.ext
  match a with
  | ⟨0, _⟩ => show win0_0.index t 0 * 1024 + 1 * r.val = 1024 * (t.val / 11) + r.val; rw [hi.1]; omega
  | ⟨1, _⟩ => show win0_0.index t 1 * 2048 + 1 * k.val = k.val; rw [hi.2]; omega

/-- The norm's weight as the region finds it: one row. -/
theorem V_norm (c : Dev nD) (k : Fin 2048) : V m c main_v2 (ix2 0 k) = m (c.tc.loc main_arg1) (ix1 k) := by
  have h : V m c main_v2 = shapeCast S1x2048 (m (c.tc.loc main_arg1)) shapeCasts_S2048_S1x2048 := by
    unfold V
    after_results
    rfl
  rw [h]
  pointwise

/-- The input weight as the region finds it: the cast before it is the identity on reals. -/
theorem V_in (c : Dev nD) : V m c main_v0 = m (c.tc.loc main_arg2) := by
  unfold V
  after_results
  rfl

/-- The output weight as the region finds it. -/
theorem V_out (c : Dev nD) : V m c main_v1 = m (c.tc.loc main_arg3) := by
  unfold V
  after_results
  rfl

theorem iblk1 (c : Dev nD) (t : Fin cfg0.N) (k : Fin 2048) : iblk m c 1 t (ix2 0 k) = m (c.tc.loc main_arg1) (ix1 k) := by
  have hi := (index_at t).2.1
  rw [← V_norm m c]
  unfold iblk
  rw [View.read_apply]
  show V m c main_v2 _ = _
  congr 1
  funext a
  apply Fin.ext
  match a with
  | ⟨0, _⟩ => show win0_1.index t 0 * 1 + 1 * 0 = 0; rw [hi.1]
  | ⟨1, _⟩ => show win0_1.index t 1 * 2048 + 1 * k.val = k.val; rw [hi.2]; omega

theorem iblk2 (c : Dev nD) (t : Fin cfg0.N) (k : Fin 2048) (j : Fin 512) :
    iblk m c 2 t (ix2 k j) = m (c.tc.loc main_arg2) (ix2 k ⟨(feat t j).val, by omega⟩) := by
  have hi := (index_at t).2.2.1
  rw [← V_in m c]
  unfold iblk
  rw [View.read_apply]
  show V m c main_v0 _ = _
  congr 1
  funext a
  apply Fin.ext
  match a with
  | ⟨0, _⟩ => show win0_2.index t 0 * 2048 + 1 * k.val = k.val; rw [hi.1]; omega
  | ⟨1, _⟩ => show win0_2.index t 1 * 512 + 1 * j.val = 512 * (t.val % 11) + j.val; rw [hi.2]; omega

theorem iblk3 (c : Dev nD) (t : Fin cfg0.N) (k : Fin 2048) (j : Fin 512) :
    iblk m c 3 t (ix2 k j) = m (c.tc.loc main_arg2) (ix2 k ⟨5632 + (feat t j).val, by omega⟩) := by
  have hi := (index_at t).2.2.2.1
  rw [← V_in m c]
  unfold iblk
  rw [View.read_apply]
  show V m c main_v0 _ = _
  congr 1
  funext a
  apply Fin.ext
  match a with
  | ⟨0, _⟩ => show win0_3.index t 0 * 2048 + 1 * k.val = k.val; rw [hi.1]; omega
  | ⟨1, _⟩ => show win0_3.index t 1 * 512 + 1 * j.val = 5632 + (512 * (t.val % 11) + j.val); rw [hi.2]; omega

theorem iblk4 (c : Dev nD) (t : Fin cfg0.N) (j : Fin 512) (b : Fin 2048) :
    iblk m c 4 t (ix2 j b) = m (c.tc.loc main_arg3) (ix2 (feat t j) b) := by
  have hi := (index_at t).2.2.2.2
  rw [← V_out m c]
  unfold iblk
  rw [View.read_apply]
  show V m c main_v1 _ = _
  congr 1
  funext a
  apply Fin.ext
  match a with
  | ⟨0, _⟩ => show win0_4.index t 0 * 512 + 1 * j.val = 512 * (t.val % 11) + j.val; rw [hi.1]; omega
  | ⟨1, _⟩ => show win0_4.index t 1 * 2048 + 1 * b.val = b.val; rw [hi.2]; omega

/-! ## One row's sum over the hidden features -/

/-- The normalised row `a` of the argument. -/
def rowN (c : Dev nD) (a : Fin 16384) (k : Fin 2048) : EReal :=
  normed (fun k => m (c.tc.loc main_arg0) (ix2 a k)) (fun k => m (c.tc.loc main_arg1) (ix1 k)) k

/-- Row `a`'s hidden feature `j`. -/
def hidden (c : Dev nD) (a : Fin 16384) (j : Fin 5632) : EReal :=
  gated (∑ k : Fin 2048, rowN m c a k * m (c.tc.loc main_arg2) (ix2 k ⟨j.val, by omega⟩))
    (∑ k : Fin 2048, rowN m c a k * m (c.tc.loc main_arg2) (ix2 k ⟨5632 + j.val, by omega⟩))

/-- Hidden feature `n`'s term of the result at row `a`, column `b`, at any number. -/
def term (c : Dev nD) (a : Fin 16384) (b : Fin 2048) (n : ℕ) : EReal :=
  if h : n < 5632 then hidden m c a ⟨n, h⟩ * half * m (c.tc.loc main_arg3) (ix2 ⟨n, h⟩ b) else 0

theorem term_feat (c : Dev nD) (a : Fin 16384) (b : Fin 2048) (t : Fin cfg0.N) (j : Fin 512) :
    hidden m c a (feat t j) * half * m (c.tc.loc main_arg3) (ix2 (feat t j) b) = term m c a b (512 * (t.val % 11) + j.val) := by
  unfold term
  rw [dif_pos (feat t j).isLt]

/-- The residual at row `a`, column `b`. -/
abbrev residual (c : Dev nD) (a : Fin 16384) (b : Fin 2048) : EReal := m (c.tc.loc main_arg0) (ix2 a b)

/-- What the output holds at row `a`, column `b` after `n` hidden features. -/
def partialSum (c : Dev nD) (a : Fin 16384) (b : Fin 2048) (n : ℕ) : EReal :=
  residual m c a b + ∑ j ∈ Finset.range n, term m c a b j

/-- One more block of hidden features. -/
theorem partialSum_block (c : Dev nD) (a : Fin 16384) (b : Fin 2048) (n : ℕ) :
    partialSum m c a b n + ∑ j : Fin 512, term m c a b (n + j.val) = partialSum m c a b (n + 512) := by
  unfold partialSum
  rw [Finset.sum_range_add, add_assoc, Finset.sum_range (n := 512)]

/-- A point's product, from rows the normalised rows of its block, adds its block of terms. -/
theorem point_adds (c : Dev nD) (t : Fin cfg0.N) (h : Vec Ideal S1024x2048 .bf16) (acc : Vec Ideal S1024x2048 .f32)
    (hh : ∀ r k, h (ix2 r k) = rowN m c (row t r) k) (r : Fin 1024) (b : Fin 2048) :
    k0_pay2 h (iblk m c 2 t) (iblk m c 3 t) acc (iblk m c 4 t) (ix2 r b)
      = acc (ix2 r b) + ∑ j : Fin 512, term m c (row t r) b (512 * (t.val % 11) + j.val) := by
  rw [pay2_apply]
  congr 1
  refine Finset.sum_congr rfl fun j _ => ?_
  rw [← term_feat]
  simp only [hh, iblk2, iblk3, iblk4]
  rfl

/-! ## The carried state -/

/-- After point `t` the scratch carries its row block's normalised rows and the output holds the residual plus the hidden
    blocks up to `t % 11`. -/
theorem carried (c : Dev nD) : ∀ (n : ℕ) (hn : n < cfg0.N),
    (∀ r k, (outsAt0 m c n hn).2 (ix2 r k) = rowN m c (row ⟨n, hn⟩ r) k)
    ∧ ∀ r b, (outsAt0 m c n hn).1 (ix2 r b) = partialSum m c (row ⟨n, hn⟩ r) b (512 * (n % 11) + 512) := by
  intro n
  induction n using Nat.strong_induction_on with
  | _ n ih =>
    intro hn
    by_cases h0 : n % 11 = 0
    · have e := outsAt0_A m c ⟨n, hn⟩ h0
      rw [scratch_first, out_first] at e
      have hs : ∀ r k, k0_pay1 (iblk m c 0 ⟨n, hn⟩) (iblk m c 1 ⟨n, hn⟩) (ix2 r k) = rowN m c (row ⟨n, hn⟩ r) k := by
        intro r k
        rw [pay1_apply]
        simp only [iblk0, iblk1]
        rfl
      refine ⟨fun r k => ?_, fun r b => ?_⟩
      · rw [show outsAt0 m c n hn = _ from e]
        exact hs r k
      · rw [show outsAt0 m c n hn = _ from e]
        show k0_pay2 _ _ _ _ _ (ix2 r b) = _
        rw [point_adds m c ⟨n, hn⟩ _ _ hs, iblk0, ← partialSum_block]
        congr 1
        unfold partialSum
        rw [show 512 * (n % 11) = 0 by omega, Finset.range_zero, Finset.sum_empty, add_zero]
    · have hp : n - 1 < cfg0.N := Nat.lt_of_le_of_lt (Nat.sub_le _ _) hn
      obtain ⟨ihs, iho⟩ := ih (n - 1) (by omega) hp
      have e := outsAt0_B m c ⟨n, hn⟩ h0
      rw [out_next] at e
      have hrow : ∀ r, row ⟨n - 1, hp⟩ r = row ⟨n, hn⟩ r := by
        intro r
        apply Fin.ext
        show 1024 * ((n - 1) / 11) + r.val = 1024 * (n / 11) + r.val
        omega
      have hs : ∀ r k, (outsAt0 m c (n - 1) hp).2 (ix2 r k) = rowN m c (row ⟨n, hn⟩ r) k := by
        intro r k
        rw [ihs, hrow]
      refine ⟨fun r k => ?_, fun r b => ?_⟩
      · rw [show outsAt0 m c n hn = _ from e]
        exact hs r k
      · rw [show outsAt0 m c n hn = _ from e]
        show k0_pay2 _ _ _ _ _ (ix2 r b) = _
        rw [point_adds m c ⟨n, hn⟩ _ _ hs, iho, hrow,
          show 512 * ((n - 1) % 11) + 512 = 512 * (n % 11) by omega, ← partialSum_block]

/-! ## The result array -/

/-- What the kernel's result array ends holding. -/
def result (c : Dev nD) : S16384x2048.Idx → Elt Ideal .f32 := fun i => partialSum m c (i 0) (i 1) 5632

theorem final_result (c : Dev nD) : (dats m 0 c).arrAt 5 cfg0.N = result m c := by
  rw [final5]
  funext i
  have h0 : (i 0).val < 16384 := (i 0).isLt
  have h1 : (i 1).val < 2048 := (i 1).isLt
  have hp : pt5Of i = 11 * ((i 0).val / 1024) + 10 := by
    show 11 * (1 * ((i 0).val / 1024 - 0) + 1 * ((i 1).val / 2048 - 0)) + 10 = _
    omega
  have hN : pt5Of i < cfg0.N := by
    rw [hp]
    exact lt_of_lt_of_eq (by omega) N_0.symm
  unfold G5
  rw [dif_pos hN, ← outsAt0_sweep m c (pt5Of i) hN]
  have hl : loc5Of i = ix2 ⟨(i 0).val % 1024, Nat.mod_lt _ (by decide)⟩ ⟨(i 1).val % 2048, Nat.mod_lt _ (by decide)⟩ := by
    funext a
    match a with
    | ⟨0, _⟩ => rfl
    | ⟨1, _⟩ => rfl
  rw [hl, (carried m c (pt5Of i) hN).2]
  unfold result
  have hm : 512 * (pt5Of i % 11) + 512 = 5632 := by rw [hp]; omega
  rw [hm]
  congr 1
  · apply Fin.ext
    show 1024 * (pt5Of i / 11) + (i 0).val % 1024 = (i 0).val
    rw [hp]
    omega
  · apply Fin.ext
    show (i 1).val % 2048 = (i 1).val
    omega

/-! ## The reference -/

/-- One half, as a real. -/
theorem half_eq : half = ((1 / 2 : ℝ) : EReal) := by
  simp [half, Ideal.ofBits, Ideal.ieee, -EReal.coe_mul]
  norm_num

/-- A factor one half comes out of a finite sum of extended reals. -/
theorem half_mul_sum {ι : Type} (s : Finset ι) (f : ι → EReal) : ∑ j ∈ s, half * f j = half * ∑ j ∈ s, f j := by
  classical
  have hd : ∀ a b : EReal, half * (a + b) = half * a + half * b := fun a b => by
    rw [half_eq]
    exact EReal.left_distrib_of_nonneg_of_ne_top (by exact_mod_cast (by norm_num : (0 : ℝ) ≤ 1 / 2)) (EReal.coe_ne_top _) a b
  induction s using Finset.induction_on with
  | empty => simp
  | insert a s ha ih => rw [Finset.sum_insert ha, Finset.sum_insert ha, ih, hd]

/-- The whole sum of a row: the residual plus half the product. -/
theorem partialSum_all (c : Dev nD) (a : Fin 16384) (b : Fin 2048) :
    partialSum m c a b 5632 = residual m c a b
      + half * ∑ j : Fin 5632, hidden m c a j * m (c.tc.loc main_arg3) (ix2 j b) := by
  unfold partialSum
  rw [Finset.sum_range, ← half_mul_sum]
  congr 1
  refine Finset.sum_congr rfl fun j _ => ?_
  unfold term
  rw [dif_pos j.isLt, mul_comm (hidden m c a _) half, mul_assoc]

/-- The kernel and the reference end with equal results. -/
theorem algebraic : Cert.algebraic_FfnIdeal_FfnReferenceIdeal (hFfnIdeal := Cert.FfnIdeal.Gen.facts)
    (hFfnReferenceIdeal := Cert.FfnReferenceIdeal.Gen.facts) := by
  intro m g m' g' _ hag
  refine ⟨fun c => result m c,
    (θ_run _ _ _).mono (fun r h c => ⟨((h c).1).trans (final_result m c), (h c).2⟩) (run_blocks (F := Ideal) m g),
    (θ_run _ _ _).mono (fun r h c => ⟨((h c).1).trans ?_, (h c).2⟩) (Cert.FfnReferenceIdeal.Value.run (F := Ideal) m' g')⟩
  rw [(hag c).1, (hag c).2.1, (hag c).2.2.1, (hag c).2.2.2]
  funext i
  obtain ⟨a, b, rfl⟩ : ∃ (a : Fin 16384) (b : Fin 2048), i = ix2 a b := ⟨i 0, i 1, eq_ix2 i⟩
  refine Eq.trans ?_ (partialSum_all m c a b).symm
  pointwise
  rfl

end Cert.FfnIdeal.Value

end
-- ==== Proof.OutProjValue.lean ====
/- The output projection's value: the residual plus the two half products of the kernel is the residual plus the one
   product of the reference, because a sum over 2048 features is the sum over the first 1024 plus the sum over the rest. -/
module

public import proofs.«01_k».proof.Proof.Gen.OutProjIdeal.Value
public import proofs.«01_k».proof.Proof.Gen.OutProjReferenceIdeal.Run
public import proofs.«01_k».proof.Defs
public import Idealize.ShloMosaic.Lib.Pointwise

@[expose] public section

set_option maxRecDepth 16384

noncomputable section

namespace Cert.OutProjIdeal.Value

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the reference computes, from the kernel's arguments. -/
def spec (x : FVec Ideal S16384x2048 .f32) (ya ym : FVec Ideal S16384x1024 .bf16) (w : FVec Ideal S2048x2048 .f32) :
    FVec Ideal S16384x2048 .f32 :=
  addf x (Host.dotGeneral Cert.OutProjReferenceIdeal.dot_S16384x2048_S2048x2048_S16384x2048_1_0_0_1_n_n none
    (concatenate S16384x2048 1 [⟨S16384x1024, extf .f32 ya bitsLt_bf16_f32⟩, ⟨S16384x1024, extf .f32 ym bitsLt_bf16_f32⟩]
      Cert.OutProjReferenceIdeal.Gen.facts.concatenates_S16384x1024_S16384x1024_S16384x2048_d1) w)

/-- The reference's result at row `a`, column `b`: its one sum over 2048 features cut in its two halves. -/
theorem spec_apply (x : FVec Ideal S16384x2048 .f32) (ya ym : FVec Ideal S16384x1024 .bf16) (w : FVec Ideal S2048x2048 .f32)
    (a : Fin 16384) (b : Fin 2048) :
    spec x ya ym w (ix2 a b) = x (ix2 a b) + ((∑ k : Fin 1024, ya (ix2 a k) * w (ix2 ⟨k.val, by omega⟩ b))
      + ∑ k : Fin 1024, ym (ix2 a k) * w (ix2 ⟨1024 + k.val, by omega⟩ b)) := by
  pointwise [spec]

/-- The body's payload at row `r`, column `b`. -/
theorem out_apply (x0 : Vec Ideal S512x2048 .f32) (x1 x2 : Vec Ideal S512x1024 .bf16) (x3 x4 : Vec Ideal S1024x2048 .bf16)
    (r : Fin 512) (b : Fin 2048) :
    out0_5 x0 x1 x2 x3 x4 (ix2 r b) = x0 (ix2 r b) + (∑ k : Fin 1024, x1 (ix2 r k) * x3 (ix2 k b))
      + ∑ k : Fin 1024, x2 (ix2 r k) * x4 (ix2 k b) := by
  unfold out0_5
  rw [View.canon_unit_zero (funext fun a => by fin_cases a <;> rfl)]
  pointwise [k0_pay1]

/-! ## The blocks, read off the arguments -/

/-- Point `t` reads and writes the row block `t`; the two halves of the weight are read whole at every point. -/
theorem index_at : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 1 ∧ win0_4.index t 1 = 0) ∧ (win0_5.index t 0 = t.val ∧ win0_5.index t 1 = 0) :=
  (by decide +kernel : ∀ t : Fin grid0.N, _)

/-- The grid has 32 points. -/
theorem point_lt (t : Fin cfg0.N) : t.val < 32 := t.isLt

/-- Row `r` of row block `t`. -/
abbrev row (t : Fin cfg0.N) (r : Fin 512) : Fin 16384 := ⟨512 * t.val + r.val, by have := point_lt t; omega⟩

theorem iblk0 (c : Dev nD) (t : Fin cfg0.N) (r : Fin 512) (k : Fin 2048) :
    iblk m c 0 t (ix2 r k) = m (c.tc.loc main_arg0) (ix2 (row t r) k) := by
  have hi := (index_at t).1
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [hi.1]; omega
  | ⟨1, _⟩ => show win0_0.index t 1 * 2048 + 1 * k.val = k.val; rw [hi.2]; omega

theorem iblk1 (c : Dev nD) (t : Fin cfg0.N) (r : Fin 512) (k : Fin 1024) :
    iblk m c 1 t (ix2 r k) = m (c.tc.loc main_arg1) (ix2 (row t r) k) := by
  have hi := (index_at t).2.1
  unfold iblk
  rw [View.read_apply]
  show V m c main_arg1 _ = _
  rw [V_main_arg1]
  congr 1
  funext a
  apply Fin.ext
  match a with
  | ⟨0, _⟩ => show win0_1.index t 0 * 512 + 1 * r.val = 512 * t.val + r.val; rw [hi.1]; omega
  | ⟨1, _⟩ => show win0_1.index t 1 * 1024 + 1 * k.val = k.val; rw [hi.2]; omega

theorem iblk2 (c : Dev nD) (t : Fin cfg0.N) (r : Fin 512) (k : Fin 1024) :
    iblk m c 2 t (ix2 r k) = m (c.tc.loc main_arg2) (ix2 (row t r) k) := by
  have hi := (index_at t).2.2.1
  unfold iblk
  rw [View.read_apply]
  show V m c main_arg2 _ = _
  rw [V_main_arg2]
  congr 1
  funext a
  apply Fin.ext
  match a with
  | ⟨0, _⟩ => show win0_2.index t 0 * 512 + 1 * r.val = 512 * t.val + r.val; rw [hi.1]; omega
  | ⟨1, _⟩ => show win0_2.index t 1 * 1024 + 1 * k.val = k.val; rw [hi.2]; omega

/-- The weight the region finds is the argument: the cast before it is the identity on reals. -/
theorem V_weight (c : Dev nD) : V m c main_v0 = m (c.tc.loc main_arg3) := by
  unfold V
  after_results
  rfl

theorem iblk3 (c : Dev nD) (t : Fin cfg0.N) (k : Fin 1024) (b : Fin 2048) :
    iblk m c 3 t (ix2 k b) = m (c.tc.loc main_arg3) (ix2 ⟨k.val, by omega⟩ b) := by
  have hi := (index_at t).2.2.2.1
  unfold iblk
  rw [View.read_apply]
  show V m c main_v0 _ = _
  rw [V_weight]
  congr 1
  funext a
  apply Fin.ext
  match a with
  | ⟨0, _⟩ => show win0_3.index t 0 * 1024 + 1 * k.val = k.val; rw [hi.1]; omega
  | ⟨1, _⟩ => show win0_3.index t 1 * 2048 + 1 * b.val = b.val; rw [hi.2]; omega

theorem iblk4 (c : Dev nD) (t : Fin cfg0.N) (k : Fin 1024) (b : Fin 2048) :
    iblk m c 4 t (ix2 k b) = m (c.tc.loc main_arg3) (ix2 ⟨1024 + k.val, by omega⟩ b) := by
  have hi := (index_at t).2.2.2.2.1
  unfold iblk
  rw [View.read_apply]
  show V m c main_v0 _ = _
  rw [V_weight]
  congr 1
  funext a
  apply Fin.ext
  match a with
  | ⟨0, _⟩ => show win0_4.index t 0 * 1024 + 1 * k.val = 1024 + k.val; rw [hi.1]; omega
  | ⟨1, _⟩ => show win0_4.index t 1 * 2048 + 1 * b.val = b.val; rw [hi.2]; omega

/-! ## The result array -/

/-- What the kernel's result array ends holding. -/
abbrev result (c : Dev nD) : S16384x2048.Idx → Elt Ideal .f32 :=
  spec (m (c.tc.loc main_arg0)) (m (c.tc.loc main_arg1)) (m (c.tc.loc main_arg2)) (m (c.tc.loc main_arg3))

/-- Point `t` writes back row block `t` of the reference's result. -/
theorem flushed_eq (c : Dev nD) (t : Fin cfg0.N) :
    (dats m 0 c).flushed 5 t = ((cfg0.win 5).blk t).view.read (Elt Ideal) (result m c) := by
  rw [flushed5]
  funext j
  have hi := (index_at t).2.2.2.2.2
  obtain ⟨r, b, rfl⟩ : ∃ (r : Fin 512) (b : Fin 2048), j = ix2 r b := ⟨j 0, j 1, eq_ix2 j⟩
  rw [View.read_apply]
  have he : ((cfg0.win 5).blk t).view.emb (ix2 r b) = ix2 (row t r) b := by
    funext a
    apply Fin.ext
    match a with
    | ⟨0, _⟩ => show win0_5.index t 0 * 512 + 1 * r.val = 512 * t.val + r.val; rw [hi.1]; omega
    | ⟨1, _⟩ => show win0_5.index t 1 * 2048 + 1 * b.val = b.val; rw [hi.2]; omega
  rw [he]
  show out0_5 (iblk m c 0 t) (iblk m c 1 t) (iblk m c 2 t) (iblk m c 3 t) (iblk m c 4 t) (ix2 r b) = result m c (ix2 (row t r) b)
  rw [out_apply, result, spec_apply, add_assoc]
  simp only [iblk0, iblk1, iblk2, iblk3, iblk4]

/-- Every element of the result array lies in the block of the point that its row block names. -/
theorem cover5 (i : S16384x2048.Idx) : ∃ t : Fin cfg0.N, (cfg0.win 5).flush t = true ∧ i ∈ ((cfg0.win 5).blk t).view.set := by
  have h0 : (i 0 : Nat) < 16384 := (i 0).isLt
  have h1 : (i 1 : Nat) < 2048 := (i 1).isLt
  let t : Fin cfg0.N := ⟨(i 0 : Nat) / 512, (by omega : (i 0 : Nat) / 512 < 32)⟩
  have hi := (index_at t).2.2.2.2.2
  refine ⟨t, (by decide +kernel : ∀ t : Fin grid0.N, win0_5.flush t = true) t, ?_⟩
  show i ∈ ((View.whole main_v1).slice (win0_5.rect t)).set
  rw [View.set_slice_whole, Rect.mem_set_unit]
  intro a
  match a with
  | ⟨0, _⟩ => show win0_5.index t 0 * 512 ≤ (i 0 : Nat) ∧ (i 0 : Nat) < win0_5.index t 0 * 512 + 512
              rw [hi.1]; show (i 0 : Nat) / 512 * 512 ≤ _ ∧ _ < (i 0 : Nat) / 512 * 512 + 512; omega
  | ⟨1, _⟩ => show win0_5.index t 1 * 2048 ≤ (i 1 : Nat) ∧ (i 1 : Nat) < win0_5.index t 1 * 2048 + 2048
              rw [hi.2]; omega

/-- So the result array ends holding the reference's result. -/
theorem final5 (c : Dev nD) : (dats m 0 c).arrAt 5 cfg0.N = result m c :=
  (dats m 0 c).arrAt_eq_of_cover 5 (result m c) (fun t _ => flushed_eq m c t) cover5

/-- The kernel and the reference end with equal results. -/
theorem algebraic : Cert.algebraic_OutProjIdeal_OutProjReferenceIdeal (hOutProjIdeal := Cert.OutProjIdeal.Gen.facts)
    (hOutProjReferenceIdeal := Cert.OutProjReferenceIdeal.Gen.facts) := by
  intro m g m' g' _ hag
  refine ⟨fun c => result m c,
    (θ_run _ _ _).mono (fun r h c => ⟨((h c).1).trans (final5 m c), (h c).2⟩) (run_blocks (F := Ideal) m g),
    (θ_run _ _ _).mono (fun r h c => ⟨((h c).1).trans ?_, (h c).2⟩) (Cert.OutProjReferenceIdeal.Value.run (F := Ideal) m' g')⟩
  rw [(hag c).1, (hag c).2.1, (hag c).2.2.1, (hag c).2.2.2]
  rfl

end Cert.OutProjIdeal.Value

end
-- ==== Proof.PleFinalValue.lean ====
/- The per-layer embedding and the final norm: the kernel works on blocks of 512 rows, and each row's result is the
   reference's row function of that row. -/
module

public import proofs.«01_k».proof.Proof.RowMath
public import proofs.«01_k».proof.Proof.Gen.PleFinalIdeal.Value
public import proofs.«01_k».proof.Proof.Gen.PleFinalReferenceIdeal.Run
public import proofs.«01_k».proof.Defs

@[expose] public section

set_option maxRecDepth 16384

noncomputable section

namespace Cert.PleFinalIdeal.Value

open Cert.PleFinalIdeal Cert.PleFinalIdeal.Gen Idealize.ShloMosaic Idealize.ShloMosaic.TcCoe Idealize.SL.Sem
open Idealize.ShloMosaic.Pipeline (Dat)
open Cert.RowMath

variable (m : (ℓ : Loc nD τ sig) → Buf (Elt Ideal) ℓ) (ρ : Dev nD → PrngReg)

/-- The body's result at row `r`, column `b`: the row function of row `r` of its blocks. -/
theorem out_apply (x0 : Vec Ideal S512x2048 .f32) (x1 : Vec Ideal S512x256 .f32) (x2 : Vec Ideal S1x2048 .f32)
    (x3 : Vec Ideal S2048x2048 .bf16) (x4 : Vec Ideal S256x2048 .bf16) (x5 : Vec Ideal S1x2048 .f32)
    (r : Fin 512) (b : Fin 2048) :
    out0_6 x0 x1 x2 x3 x4 x5 (ix2 r b)
      = normed (embedded (fun k => x0 (ix2 r k)) (fun k => x1 (ix2 r k)) (fun k => x2 (ix2 0 k)) (fun k l => x3 (ix2 k l))
          (fun k l => x4 (ix2 k l))) (fun k => x5 (ix2 0 k)) b := by
  unfold out0_6
  rw [View.canon_unit_zero (funext fun a => by fin_cases a <;> rfl)]
  pointwise [k0_pay1, k0_pay2, k0_pay3]
  rfl

/-- The reference's result at row `a`, column `b`: the same row function of row `a` of its arguments. -/
theorem ref_apply (x : FVec Ideal S16384x2048 .f32) (p : FVec Ideal S16384x256 .f32) (g : FVec Ideal S2048 .f32)
    (wg : FVec Ideal S2048x2048 .f32) (wp : FVec Ideal S256x2048 .f32) (fg : FVec Ideal S2048 .f32)
    (m' : (ℓ : Loc Cert.PleFinalReferenceIdeal.nD Cert.PleFinalReferenceIdeal.τ Cert.PleFinalReferenceIdeal.sig) → Buf (Elt Ideal) ℓ)
    (c : Dev Cert.PleFinalReferenceIdeal.nD)
    (h0 : m' (c.tc.loc Cert.PleFinalReferenceIdeal.main_arg0) = x) (h1 : m' (c.tc.loc Cert.PleFinalReferenceIdeal.main_arg1) = p)
    (h2 : m' (c.tc.loc Cert.PleFinalReferenceIdeal.main_arg2) = g) (h3 : m' (c.tc.loc Cert.PleFinalReferenceIdeal.main_arg3) = wg)
    (h4 : m' (c.tc.loc Cert.PleFinalReferenceIdeal.main_arg4) = wp) (h5 : m' (c.tc.loc Cert.PleFinalReferenceIdeal.main_arg5) = fg)
    (a : Fin 16384) (b : Fin 2048) :
    Cert.PleFinalReferenceIdeal.Value.res_main_v35 m' c (ix2 a b)
      = normed (embedded (fun k => x (ix2 a k)) (fun k => p (ix2 a k)) (fun k => g (ix1 k)) (fun k l => wg (ix2 k l))
          (fun k l => wp (ix2 k l))) (fun k => fg (ix1 k)) b := by
  unfold Cert.PleFinalReferenceIdeal.Value.res_main_v35
  rw [h0, h1, h2, h3, h4, h5]
  pointwise
  rfl

/-! ## The blocks, read off the arguments -/

/-- Point `t` reads and writes the row block `t`; the weights are read whole at every point. -/
theorem index_at : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0) :=
  (by decide +kernel : ∀ t : Fin grid0.N, _)

/-- The grid has 32 points. -/
theorem point_lt (t : Fin cfg0.N) : t.val < 32 := t.isLt

/-- Row `r` of row block `t`. -/
abbrev row (t : Fin cfg0.N) (r : Fin 512) : Fin 16384 := ⟨512 * t.val + r.val, by have := point_lt t; omega⟩

theorem iblk0 (c : Dev nD) (t : Fin cfg0.N) (r : Fin 512) (k : Fin 2048) :
    iblk m c 0 t (ix2 r k) = m (c.tc.loc main_arg0) (ix2 (row t r) k) := by
  have hi := (index_at t).1
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [hi.1]; omega
  | ⟨1, _⟩ => show win0_0.index t 1 * 2048 + 1 * k.val = k.val; rw [hi.2]; omega

theorem iblk1 (c : Dev nD) (t : Fin cfg0.N) (r : Fin 512) (k : Fin 256) :
    iblk m c 1 t (ix2 r k) = m (c.tc.loc main_arg1) (ix2 (row t r) k) := by
  have hi := (index_at t).2.1
  unfold iblk
  rw [View.read_apply]
  show V m c main_arg1 _ = _
  rw [V_main_arg1]
  congr 1
  funext a
  apply Fin.ext
  match a with
  | ⟨0, _⟩ => show win0_1.index t 0 * 512 + 1 * r.val = 512 * t.val + r.val; rw [hi.1]; omega
  | ⟨1, _⟩ => show win0_1.index t 1 * 256 + 1 * k.val = k.val; rw [hi.2]; omega

/-- The gate norm's weight as the region finds it: one row. -/
theorem V_norm (c : Dev nD) (k : Fin 2048) : V m c main_v2 (ix2 0 k) = m (c.tc.loc main_arg2) (ix1 k) := by
  have h : V m c main_v2 = shapeCast S1x2048 (m (c.tc.loc main_arg2)) shapeCasts_S2048_S1x2048 := by
    unfold V
    after_results
    rfl
  rw [h]
  pointwise

/-- The final norm's weight as the region finds it: one row. -/
theorem V_final (c : Dev nD) (k : Fin 2048) : V m c main_v3 (ix2 0 k) = m (c.tc.loc main_arg5) (ix1 k) := by
  have h : V m c main_v3 = shapeCast S1x2048 (m (c.tc.loc main_arg5)) shapeCasts_S2048_S1x2048 := by
    unfold V
    after_results
    rfl
  rw [h]
  pointwise

/-- The gate's weight as the region finds it: the cast before it is the identity on reals. -/
theorem V_gate (c : Dev nD) : V m c main_v0 = m (c.tc.loc main_arg3) := by
  unfold V
  after_results
  rfl

/-- The embedding's weight as the region finds it. -/
theorem V_proj (c : Dev nD) : V m c main_v1 = m (c.tc.loc main_arg4) := by
  unfold V
  after_results
  rfl

theorem iblk2 (c : Dev nD) (t : Fin cfg0.N) (k : Fin 2048) : iblk m c 2 t (ix2 0 k) = m (c.tc.loc main_arg2) (ix1 k) := by
  have hi := (index_at t).2.2.1
  rw [← V_norm m c]
  unfold iblk
  rw [View.read_apply]
  show V m c main_v2 _ = _
  congr 1
  funext a
  apply Fin.ext
  match a with
  | ⟨0, _⟩ => show win0_2.index t 0 * 1 + 1 * 0 = 0; rw [hi.1]
  | ⟨1, _⟩ => show win0_2.index t 1 * 2048 + 1 * k.val = k.val; rw [hi.2]; omega

theorem iblk3 (c : Dev nD) (t : Fin cfg0.N) (k b : Fin 2048) : iblk m c 3 t (ix2 k b) = m (c.tc.loc main_arg3) (ix2 k b) := by
  have hi := (index_at t).2.2.2.1
  rw [← V_gate m c]
  unfold iblk
  rw [View.read_apply]
  show V m c main_v0 _ = _
  congr 1
  funext a
  apply Fin.ext
  match a with
  | ⟨0, _⟩ => show win0_3.index t 0 * 2048 + 1 * k.val = k.val; rw [hi.1]; omega
  | ⟨1, _⟩ => show win0_3.index t 1 * 2048 + 1 * b.val = b.val; rw [hi.2]; omega

theorem iblk4 (c : Dev nD) (t : Fin cfg0.N) (k : Fin 256) (b : Fin 2048) :
    iblk m c 4 t (ix2 k b) = m (c.tc.loc main_arg4) (ix2 k b) := by
  have hi := (index_at t).2.2.2.2.1
  rw [← V_proj m c]
  unfold iblk
  rw [View.read_apply]
  show V m c main_v1 _ = _
  congr 1
  funext a
  apply Fin.ext
  match a with
  | ⟨0, _⟩ => show win0_4.index t 0 * 256 + 1 * k.val = k.val; rw [hi.1]; omega
  | ⟨1, _⟩ => show win0_4.index t 1 * 2048 + 1 * b.val = b.val; rw [hi.2]; omega

theorem iblk5 (c : Dev nD) (t : Fin cfg0.N) (k : Fin 2048) : iblk m c 5 t (ix2 0 k) = m (c.tc.loc main_arg5) (ix1 k) := by
  have hi := (index_at t).2.2.2.2.2.1
  rw [← V_final m c]
  unfold iblk
  rw [View.read_apply]
  show V m c main_v3 _ = _
  congr 1
  funext a
  apply Fin.ext
  match a with
  | ⟨0, _⟩ => show win0_5.index t 0 * 1 + 1 * 0 = 0; rw [hi.1]
  | ⟨1, _⟩ => show win0_5.index t 1 * 2048 + 1 * k.val = k.val; rw [hi.2]; omega

/-! ## The result array -/

/-- What the kernel's result array ends holding at row `a`, column `b`. -/
def at_ (c : Dev nD) (a : Fin 16384) (b : Fin 2048) : EReal :=
  normed (embedded (fun k => m (c.tc.loc main_arg0) (ix2 a k)) (fun k => m (c.tc.loc main_arg1) (ix2 a k))
    (fun k => m (c.tc.loc main_arg2) (ix1 k)) (fun k l => m (c.tc.loc main_arg3) (ix2 k l))
    (fun k l => m (c.tc.loc main_arg4) (ix2 k l))) (fun k => m (c.tc.loc main_arg5) (ix1 k)) b

/-- The result array, at every index. -/
def result (c : Dev nD) : S16384x2048.Idx → Elt Ideal .f32 := fun i => at_ m c (i 0) (i 1)

/-- Point `t` writes back row block `t` of the result. -/
theorem flushed_eq (c : Dev nD) (t : Fin cfg0.N) :
    (dats m 0 c).flushed 6 t = ((cfg0.win 6).blk t).view.read (Elt Ideal) (result m c) := by
  rw [flushed6]
  funext j
  have hi := (index_at t).2.2.2.2.2.2
  obtain ⟨r, b, rfl⟩ : ∃ (r : Fin 512) (b : Fin 2048), j = ix2 r b := ⟨j 0, j 1, eq_ix2 j⟩
  rw [View.read_apply]
  have he : ((cfg0.win 6).blk t).view.emb (ix2 r b) = ix2 (row t r) b := by
    funext a
    apply Fin.ext
    match a with
    | ⟨0, _⟩ => show win0_6.index t 0 * 512 + 1 * r.val = 512 * t.val + r.val; rw [hi.1]; omega
    | ⟨1, _⟩ => show win0_6.index t 1 * 2048 + 1 * b.val = b.val; rw [hi.2]; omega
  rw [he]
  show out0_6 (iblk m c 0 t) (iblk m c 1 t) (iblk m c 2 t) (iblk m c 3 t) (iblk m c 4 t) (iblk m c 5 t) (ix2 r b)
    = at_ m c (row t r) b
  rw [out_apply]
  simp only [iblk0, iblk1, iblk2, iblk3, iblk4, iblk5, at_]

/-- Every element of the result array lies in the block of the point that its row block names. -/
theorem cover6 (i : S16384x2048.Idx) : ∃ t : Fin cfg0.N, (cfg0.win 6).flush t = true ∧ i ∈ ((cfg0.win 6).blk t).view.set := by
  have h0 : (i 0 : Nat) < 16384 := (i 0).isLt
  have h1 : (i 1 : Nat) < 2048 := (i 1).isLt
  let t : Fin cfg0.N := ⟨(i 0 : Nat) / 512, (by omega : (i 0 : Nat) / 512 < 32)⟩
  have hi := (index_at t).2.2.2.2.2.2
  refine ⟨t, (by decide +kernel : ∀ t : Fin grid0.N, win0_6.flush t = true) t, ?_⟩
  show i ∈ ((View.whole main_v4).slice (win0_6.rect t)).set
  rw [View.set_slice_whole, Rect.mem_set_unit]
  intro a
  match a with
  | ⟨0, _⟩ => show win0_6.index t 0 * 512 ≤ (i 0 : Nat) ∧ (i 0 : Nat) < win0_6.index t 0 * 512 + 512
              rw [hi.1]; show (i 0 : Nat) / 512 * 512 ≤ _ ∧ _ < (i 0 : Nat) / 512 * 512 + 512; omega
  | ⟨1, _⟩ => show win0_6.index t 1 * 2048 ≤ (i 1 : Nat) ∧ (i 1 : Nat) < win0_6.index t 1 * 2048 + 2048
              rw [hi.2]; omega

/-- So the result array ends holding the row function of every row. -/
theorem final6 (c : Dev nD) : (dats m 0 c).arrAt 6 cfg0.N = result m c :=
  (dats m 0 c).arrAt_eq_of_cover 6 (result m c) (fun t _ => flushed_eq m c t) cover6

/-- The kernel and the reference end with equal results. -/
theorem algebraic : Cert.algebraic_PleFinalIdeal_PleFinalReferenceIdeal (hPleFinalIdeal := Cert.PleFinalIdeal.Gen.facts)
    (hPleFinalReferenceIdeal := Cert.PleFinalReferenceIdeal.Gen.facts) := by
  intro m g m' g' _ hag
  refine ⟨fun c => result m c,
    (θ_run _ _ _).mono (fun r h c => ⟨((h c).1).trans (final6 m c), (h c).2⟩) (run_blocks (F := Ideal) m g),
    (θ_run _ _ _).mono (fun r h c => ⟨((h c).1).trans ?_, (h c).2⟩) (Cert.PleFinalReferenceIdeal.Value.run (F := Ideal) m' g')⟩
  funext i
  obtain ⟨a, b, rfl⟩ : ∃ (a : Fin 16384) (b : Fin 2048), i = ix2 a b := ⟨i 0, i 1, eq_ix2 i⟩
  exact ref_apply _ _ _ _ _ _ m' c (hag c).1 (hag c).2.1 (hag c).2.2.1 (hag c).2.2.2.1 (hag c).2.2.2.2.1 (hag c).2.2.2.2.2 a b

end Cert.PleFinalIdeal.Value

end
-- ==== Proof.lean ====
/- The certificate: the frames of the attention branch, of the five other programs and of their references, and
   the equality of each program's results with its reference's over the extended reals. The mathematics is in
   `Proof/AttnValue.lean`, `Proof/FfnValue.lean`, `Proof/OutProjValue.lean`, `Proof/PleFinalValue.lean`,
   `Proof/InProjValue.lean` and `Proof/ConvSiluValue.lean`. -/
module

public import proofs.«01_k».proof.Defs
public import proofs.«01_k».proof.Proof.Gen.Kernel.Frame
public import proofs.«01_k».proof.Proof.AttnValue
public import proofs.«01_k».proof.Proof.InProjValue
public import proofs.«01_k».proof.Proof.InProjSame
public import proofs.«01_k».proof.Proof.Gen.InProjIdeal.Launch
public import proofs.«01_k».proof.Proof.Gen.InProjIdeal.Points
public import proofs.«01_k».proof.Proof.Gen.InProjIdeal.Skeleton
public import proofs.«01_k».proof.Proof.Gen.InProjReferenceIdeal.Run
public import proofs.«01_k».proof.Proof.Gen.ConvSilu.Frame
public import proofs.«01_k».proof.Proof.Gen.ConvSiluIdeal.Value
public import proofs.«01_k».proof.Proof.Gen.ConvSiluReferenceIdeal.Run
public import proofs.«01_k».proof.Proof.ConvSiluValue
public import proofs.«01_k».proof.Proof.FfnValue
public import proofs.«01_k».proof.Proof.OutProjValue
public import proofs.«01_k».proof.Proof.PleFinalValue
public import proofs.«01_k».proof.Proof.Gen.Ffn.Frame
public import proofs.«01_k».proof.Proof.Gen.OutProj.Frame
public import proofs.«01_k».proof.Proof.Gen.PleFinal.Frame

@[expose] public section

noncomputable section

namespace Cert.Proof

open Idealize.ShloMosaic Idealize.SL.Sem

/-- The reference of the attention branch ends with its arguments unchanged and no counter raised. -/
theorem attention_reference_frame : Cert.quiescent_ReferenceIdeal (hReferenceIdeal := Cert.ReferenceIdeal.Gen.facts) :=
  fun m ρ _ => (θ_run Cert.ReferenceIdeal.defs _ _).mono
    (fun r h => ⟨fun c => (h c).2.2, sem_eq_zero_of_no_sems (by decide) r.2⟩) (Cert.ReferenceIdeal.Value.run (F := Ideal) m ρ)

/-- The two named constants are the rounded ones at the places they stand. -/
theorem attention_preserves : Cert.preserves_Kernel_KernelIdeal :=
  ⟨IdealRules.named_const.statement Cert.KernelIdeal.κ "qscale" .f32 0x3E38AA3B#32 _ rfl,
    IdealRules.named_const.statement Cert.KernelIdeal.κ "log2e" .f32 0x3FB8AA3B#32 _ rfl⟩

/-- The reference of the feed-forward layer ends with its arguments unchanged and no counter raised. -/
theorem ffn_reference_frame : Cert.quiescent_FfnReferenceIdeal (hFfnReferenceIdeal := Cert.FfnReferenceIdeal.Gen.facts) :=
  fun m ρ _ => (θ_run Cert.FfnReferenceIdeal.defs _ _).mono
    (fun r h => ⟨fun c => (h c).2, sem_eq_zero_of_no_sems (by decide) r.2⟩) (Cert.FfnReferenceIdeal.Value.run (F := Ideal) m ρ)

/-- The reference of the output projection ends with its arguments unchanged and no counter raised. -/
theorem out_proj_reference_frame :
    Cert.quiescent_OutProjReferenceIdeal (hOutProjReferenceIdeal := Cert.OutProjReferenceIdeal.Gen.facts) :=
  fun m ρ _ => (θ_run Cert.OutProjReferenceIdeal.defs _ _).mono
    (fun r h => ⟨fun c => (h c).2, sem_eq_zero_of_no_sems (by decide) r.2⟩) (Cert.OutProjReferenceIdeal.Value.run (F := Ideal) m ρ)

/-- The reference of the closing gate ends with its arguments unchanged and no counter raised. -/
theorem ple_final_reference_frame :
    Cert.quiescent_PleFinalReferenceIdeal (hPleFinalReferenceIdeal := Cert.PleFinalReferenceIdeal.Gen.facts) :=
  fun m ρ _ => (θ_run Cert.PleFinalReferenceIdeal.defs _ _).mono
    (fun r h => ⟨fun c => (h c).2, sem_eq_zero_of_no_sems (by decide) r.2⟩) (Cert.PleFinalReferenceIdeal.Value.run (F := Ideal) m ρ)

/-- The reference of the input projection ends with its arguments unchanged and no counter raised. -/
theorem in_proj_reference_frame :
    Cert.quiescent_InProjReferenceIdeal (hInProjReferenceIdeal := Cert.InProjReferenceIdeal.Gen.facts) :=
  fun m ρ _ => (θ_run Cert.InProjReferenceIdeal.defs _ _).mono
    (fun r h => ⟨fun c => (h c).2.2.2.2.2.2.2, sem_eq_zero_of_no_sems (by decide) r.2⟩)
    (Cert.InProjReferenceIdeal.Value.run (F := Ideal) m ρ)

/-- The reference of the short convolution ends with its arguments unchanged and no counter raised. -/
theorem conv_silu_reference_frame :
    Cert.quiescent_ConvSiluReferenceIdeal (hConvSiluReferenceIdeal := Cert.ConvSiluReferenceIdeal.Gen.facts) :=
  fun m ρ _ => (θ_run Cert.ConvSiluReferenceIdeal.defs _ _).mono
    (fun r h => ⟨fun c => (h c).2, sem_eq_zero_of_no_sems (by decide) r.2⟩)
    (Cert.ConvSiluReferenceIdeal.Value.run (F := Ideal) m ρ)

theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.OutProj.Gen.facts, Cert.OutProjIdeal.Gen.facts, Cert.OutProjReferenceIdeal.Gen.facts,
    Cert.PleFinal.Gen.facts, Cert.PleFinalIdeal.Gen.facts, Cert.PleFinalReferenceIdeal.Gen.facts,
    Cert.InProj.Gen.facts, Cert.InProjIdeal.Gen.facts, Cert.InProjReferenceIdeal.Gen.facts,
    Cert.ConvSilu.Gen.facts, Cert.ConvSiluIdeal.Gen.facts, Cert.ConvSiluReferenceIdeal.Gen.facts,
    fun m ρ _ => Cert.Kernel.Gen.frame m ρ, fun m ρ _ => Cert.KernelIdeal.Gen.frame m ρ, attention_reference_frame,
    fun m ρ _ => Cert.Ffn.Gen.frame m ρ, fun m ρ _ => Cert.FfnIdeal.Gen.frame m ρ, ffn_reference_frame,
    fun m ρ _ => Cert.OutProj.Gen.frame m ρ, fun m ρ _ => Cert.OutProjIdeal.Gen.frame m ρ, out_proj_reference_frame,
    fun m ρ _ => Cert.PleFinal.Gen.frame m ρ, fun m ρ _ => Cert.PleFinalIdeal.Gen.frame m ρ, ple_final_reference_frame,
    Cert.InProj.frame, fun m ρ _ => Cert.InProjIdeal.Gen.inproj_frame m ρ, in_proj_reference_frame,
    fun m ρ _ => Cert.ConvSilu.Gen.frame m ρ, fun m ρ _ => Cert.ConvSiluIdeal.Gen.frame m ρ, conv_silu_reference_frame,
    attention_preserves, Cert.KernelIdeal.Value.algebraic,
    trivial, Cert.FfnIdeal.Value.algebraic, trivial, Cert.OutProjIdeal.Value.algebraic,
    trivial, Cert.PleFinalIdeal.Value.algebraic, trivial, Cert.InProjIdeal.Value.algebraic,
    trivial, Cert.ConvSiluIdeal.Value.algebraic⟩

end Cert.Proof

end
